-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelR (m : (ℓ : Loc Cert.KernelR.nD Cert.KernelR.τ Cert.KernelR.sig) → Buf (Elt Bits) ℓ) : Prop :=
  True

def Pre_KernelRIdeal (m : (ℓ : Loc Cert.KernelRIdeal.nD Cert.KernelRIdeal.τ Cert.KernelRIdeal.sig) → Buf (Elt Ideal) ℓ) : Prop :=
  True

def Pre_ReferenceRIdeal (m : (ℓ : Loc Cert.ReferenceRIdeal.nD Cert.ReferenceRIdeal.τ Cert.ReferenceRIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_ReferenceFIdeal (m : (ℓ : Loc Cert.ReferenceFIdeal.nD Cert.ReferenceFIdeal.τ Cert.ReferenceFIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2))
      ∧ r.2.sem = fun _ => 0)

def quiescent_KernelR [hKernelR : Cert.KernelR.Facts] : Prop :=
  ∀ (m : (ℓ : Loc Cert.KernelR.nD Cert.KernelR.τ Cert.KernelR.sig) → Buf (Elt Bits) ℓ) (g : Dev Cert.KernelR.nD → PrngReg), Pre_KernelR m →
    θ_run (Cert.KernelR.defs (F := Bits)) (onTc (τ := Cert.KernelR.τ) (Cert.KernelR.main (F := Bits))) ⟨m, fun _ => 0, g⟩ (fun r => (∀ c : Dev Cert.KernelR.nD,
      r.2.mem ((c.tc : Thread Cert.KernelR.nD Cert.KernelR.τ).loc Cert.KernelR.main_arg0) = m ((c.tc : Thread Cert.KernelR.nD Cert.KernelR.τ).loc Cert.KernelR.main_arg0)
      ∧ r.2.mem ((c.tc : Thread Cert.KernelR.nD Cert.KernelR.τ).loc Cert.KernelR.main_arg1) = m ((c.tc : Thread Cert.KernelR.nD Cert.KernelR.τ).loc Cert.KernelR.main_arg1)
      ∧ r.2.mem ((c.tc : Thread Cert.KernelR.nD Cert.KernelR.τ).loc Cert.KernelR.main_arg2) = m ((c.tc : Thread Cert.KernelR.nD Cert.KernelR.τ).loc Cert.KernelR.main_arg2))
      ∧ r.2.sem = fun _ => 0)

def quiescent_KernelRIdeal [hKernelRIdeal : Cert.KernelRIdeal.Facts] : Prop :=
  ∀ (m : (ℓ : Loc Cert.KernelRIdeal.nD Cert.KernelRIdeal.τ Cert.KernelRIdeal.sig) → Buf (Elt Ideal) ℓ) (g : Dev Cert.KernelRIdeal.nD → PrngReg), Pre_KernelRIdeal m →
    θ_run (Cert.KernelRIdeal.defs (F := Ideal)) (onTc (τ := Cert.KernelRIdeal.τ) (Cert.KernelRIdeal.main (F := Ideal))) ⟨m, fun _ => 0, g⟩ (fun r => (∀ c : Dev Cert.KernelRIdeal.nD,
      r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
      ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
      ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2))
      ∧ r.2.sem = fun _ => 0)

def quiescent_ReferenceRIdeal [hReferenceRIdeal : Cert.ReferenceRIdeal.Facts] : Prop :=
  ∀ (m : (ℓ : Loc Cert.ReferenceRIdeal.nD Cert.ReferenceRIdeal.τ Cert.ReferenceRIdeal.sig) → Buf (Elt Ideal) ℓ) (g : Dev Cert.ReferenceRIdeal.nD → PrngReg), Pre_ReferenceRIdeal m →
    θ_run (Cert.ReferenceRIdeal.defs (F := Ideal)) (onTc (τ := Cert.ReferenceRIdeal.τ) (Cert.ReferenceRIdeal.main (F := Ideal))) ⟨m, fun _ => 0, g⟩ (fun r => (∀ c : Dev Cert.ReferenceRIdeal.nD,
      r.2.mem ((c.tc : Thread Cert.ReferenceRIdeal.nD Cert.ReferenceRIdeal.τ).loc Cert.ReferenceRIdeal.main_arg0) = m ((c.tc : Thread Cert.ReferenceRIdeal.nD Cert.ReferenceRIdeal.τ).loc Cert.ReferenceRIdeal.main_arg0)
      ∧ r.2.mem ((c.tc : Thread Cert.ReferenceRIdeal.nD Cert.ReferenceRIdeal.τ).loc Cert.ReferenceRIdeal.main_arg1) = m ((c.tc : Thread Cert.ReferenceRIdeal.nD Cert.ReferenceRIdeal.τ).loc Cert.ReferenceRIdeal.main_arg1)
      ∧ r.2.mem ((c.tc : Thread Cert.ReferenceRIdeal.nD Cert.ReferenceRIdeal.τ).loc Cert.ReferenceRIdeal.main_arg2) = m ((c.tc : Thread Cert.ReferenceRIdeal.nD Cert.ReferenceRIdeal.τ).loc Cert.ReferenceRIdeal.main_arg2))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3)
      ∧ r.2.mem ((c.tc : Thread Cert.KernelX.nD Cert.KernelX.τ).loc Cert.KernelX.main_arg4) = m ((c.tc : Thread Cert.KernelX.nD Cert.KernelX.τ).loc Cert.KernelX.main_arg4))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
      ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3)
      ∧ r.2.mem ((c.tc : Thread Cert.ReferenceXIdeal.nD Cert.ReferenceXIdeal.τ).loc Cert.ReferenceXIdeal.main_arg4) = m ((c.tc : Thread Cert.ReferenceXIdeal.nD Cert.ReferenceXIdeal.τ).loc Cert.ReferenceXIdeal.main_arg4))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1)
      ∧ r.2.mem ((c.tc : Thread Cert.KernelN.nD Cert.KernelN.τ).loc Cert.KernelN.main_arg2) = m ((c.tc : Thread Cert.KernelN.nD Cert.KernelN.τ).loc Cert.KernelN.main_arg2)
      ∧ r.2.mem ((c.tc : Thread Cert.KernelN.nD Cert.KernelN.τ).loc Cert.KernelN.main_arg3) = m ((c.tc : Thread Cert.KernelN.nD Cert.KernelN.τ).loc Cert.KernelN.main_arg3))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
      ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
      ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1)
      ∧ r.2.mem ((c.tc : Thread Cert.ReferenceNIdeal.nD Cert.ReferenceNIdeal.τ).loc Cert.ReferenceNIdeal.main_arg2) = m ((c.tc : Thread Cert.ReferenceNIdeal.nD Cert.ReferenceNIdeal.τ).loc Cert.ReferenceNIdeal.main_arg2)
      ∧ r.2.mem ((c.tc : Thread Cert.ReferenceNIdeal.nD Cert.ReferenceNIdeal.τ).loc Cert.ReferenceNIdeal.main_arg3) = m ((c.tc : Thread Cert.ReferenceNIdeal.nD Cert.ReferenceNIdeal.τ).loc Cert.ReferenceNIdeal.main_arg3))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v306_0)) (v1 : (c : Dev Cert.KernelIdeal.nD) → Buf (Elt Ideal) ((c.tc : Thread Cert.KernelIdeal.nD Cert.KernelIdeal.τ).loc Cert.KernelIdeal.main_v306_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v306_0) = v0 c
          ∧ r.2.mem ((c.tc : Thread Cert.KernelIdeal.nD Cert.KernelIdeal.τ).loc Cert.KernelIdeal.main_v306_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v472) = v0 c
          ∧ r.2.mem ((c.tc : Thread Cert.ReferenceIdeal.nD Cert.ReferenceIdeal.τ).loc Cert.ReferenceIdeal.main_v473) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)) →
    ∃ (v0 : (c : Dev Cert.KernelMIdeal.nD) → Buf (Elt Ideal) ((c.tc : Thread Cert.KernelMIdeal.nD Cert.KernelMIdeal.τ).loc Cert.KernelMIdeal.main_v15)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v15) = v0 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v17) = v0 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2))

def preserves_KernelR_KernelRIdeal : Prop :=
  True

def algebraic_KernelRIdeal_ReferenceRIdeal [hKernelRIdeal : Cert.KernelRIdeal.Facts] [hReferenceRIdeal : Cert.ReferenceRIdeal.Facts] : Prop :=
  ∀ (m : (ℓ : Loc Cert.KernelRIdeal.nD Cert.KernelRIdeal.τ Cert.KernelRIdeal.sig) → Buf (Elt Ideal) ℓ) (g : Dev Cert.KernelRIdeal.nD → PrngReg)
    (m' : (ℓ : Loc Cert.ReferenceRIdeal.nD Cert.ReferenceRIdeal.τ Cert.ReferenceRIdeal.sig) → Buf (Elt Ideal) ℓ) (g' : Dev Cert.ReferenceRIdeal.nD → PrngReg), Pre_KernelRIdeal m →
    (∀ c : Dev Cert.KernelRIdeal.nD,
      m' ((c.tc : Thread Cert.ReferenceRIdeal.nD Cert.ReferenceRIdeal.τ).loc Cert.ReferenceRIdeal.main_arg0) = m ((c.tc : Thread Cert.KernelRIdeal.nD Cert.KernelRIdeal.τ).loc Cert.KernelRIdeal.main_arg0)
      ∧ m' ((c.tc : Thread Cert.ReferenceRIdeal.nD Cert.ReferenceRIdeal.τ).loc Cert.ReferenceRIdeal.main_arg1) = m ((c.tc : Thread Cert.KernelRIdeal.nD Cert.KernelRIdeal.τ).loc Cert.KernelRIdeal.main_arg1)
      ∧ m' ((c.tc : Thread Cert.ReferenceRIdeal.nD Cert.ReferenceRIdeal.τ).loc Cert.ReferenceRIdeal.main_arg2) = m ((c.tc : Thread Cert.KernelRIdeal.nD Cert.KernelRIdeal.τ).loc Cert.KernelRIdeal.main_arg2)) →
    ∃ (v0 : (c : Dev Cert.KernelRIdeal.nD) → Buf (Elt Ideal) ((c.tc : Thread Cert.KernelRIdeal.nD Cert.KernelRIdeal.τ).loc Cert.KernelRIdeal.main_v15)),
      θ_run (Cert.KernelRIdeal.defs (F := Ideal)) (onTc (τ := Cert.KernelRIdeal.τ) (Cert.KernelRIdeal.main (F := Ideal))) ⟨m, fun _ => 0, g⟩ (fun r => ∀ c : Dev Cert.KernelRIdeal.nD,
          r.2.mem ((c.tc : Thread Cert.KernelRIdeal.nD Cert.KernelRIdeal.τ).loc Cert.KernelRIdeal.main_v15) = v0 c
          ∧ r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
          ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
          ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2))
      ∧ θ_run (Cert.ReferenceRIdeal.defs (F := Ideal)) (onTc (τ := Cert.ReferenceRIdeal.τ) (Cert.ReferenceRIdeal.main (F := Ideal))) ⟨m', fun _ => 0, g'⟩ (fun r => ∀ c : Dev Cert.ReferenceRIdeal.nD,
          r.2.mem ((c.tc : Thread Cert.ReferenceRIdeal.nD Cert.ReferenceRIdeal.τ).loc Cert.ReferenceRIdeal.main_v17) = v0 c
          ∧ r.2.mem ((c.tc : Thread Cert.ReferenceRIdeal.nD Cert.ReferenceRIdeal.τ).loc Cert.ReferenceRIdeal.main_arg0) = m' ((c.tc : Thread Cert.ReferenceRIdeal.nD Cert.ReferenceRIdeal.τ).loc Cert.ReferenceRIdeal.main_arg0)
          ∧ r.2.mem ((c.tc : Thread Cert.ReferenceRIdeal.nD Cert.ReferenceRIdeal.τ).loc Cert.ReferenceRIdeal.main_arg1) = m' ((c.tc : Thread Cert.ReferenceRIdeal.nD Cert.ReferenceRIdeal.τ).loc Cert.ReferenceRIdeal.main_arg1)
          ∧ r.2.mem ((c.tc : Thread Cert.ReferenceRIdeal.nD Cert.ReferenceRIdeal.τ).loc Cert.ReferenceRIdeal.main_arg2) = m' ((c.tc : Thread Cert.ReferenceRIdeal.nD Cert.ReferenceRIdeal.τ).loc Cert.ReferenceRIdeal.main_arg2))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)) →
    ∃ (v0 : (c : Dev Cert.KernelAIdeal.nD) → Buf (Elt Ideal) ((c.tc : Thread Cert.KernelAIdeal.nD Cert.KernelAIdeal.τ).loc Cert.KernelAIdeal.main_v16)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v16) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v18) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)
      ∧ m' ((c.tc : Thread Cert.ReferenceXIdeal.nD Cert.ReferenceXIdeal.τ).loc Cert.ReferenceXIdeal.main_arg3) = m ((c.tc : Thread Cert.KernelXIdeal.nD Cert.KernelXIdeal.τ).loc Cert.KernelXIdeal.main_arg3)
      ∧ m' ((c.tc : Thread Cert.ReferenceXIdeal.nD Cert.ReferenceXIdeal.τ).loc Cert.ReferenceXIdeal.main_arg4) = m ((c.tc : Thread Cert.KernelXIdeal.nD Cert.KernelXIdeal.τ).loc Cert.KernelXIdeal.main_arg4)) →
    ∃ (v0 : (c : Dev Cert.KernelXIdeal.nD) → Buf (Elt Ideal) ((c.tc : Thread Cert.KernelXIdeal.nD Cert.KernelXIdeal.τ).loc Cert.KernelXIdeal.main_v12_0)) (v1 : (c : Dev Cert.KernelXIdeal.nD) → Buf (Elt Ideal) ((c.tc : Thread Cert.KernelXIdeal.nD Cert.KernelXIdeal.τ).loc Cert.KernelXIdeal.main_v12_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v12_0) = v0 c
          ∧ r.2.mem ((c.tc : Thread Cert.KernelXIdeal.nD Cert.KernelXIdeal.τ).loc Cert.KernelXIdeal.main_v12_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
          ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v36) = v0 c
          ∧ r.2.mem ((c.tc : Thread Cert.ReferenceXIdeal.nD Cert.ReferenceXIdeal.τ).loc Cert.ReferenceXIdeal.main_v19) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2)
          ∧ r.2.mem ((c.tc : Thread Cert.ReferenceXIdeal.nD Cert.ReferenceXIdeal.τ).loc Cert.ReferenceXIdeal.main_arg3) = m' ((c.tc : Thread Cert.ReferenceXIdeal.nD Cert.ReferenceXIdeal.τ).loc Cert.ReferenceXIdeal.main_arg3)
          ∧ r.2.mem ((c.tc : Thread Cert.ReferenceXIdeal.nD Cert.ReferenceXIdeal.τ).loc Cert.ReferenceXIdeal.main_arg4) = m' ((c.tc : Thread Cert.ReferenceXIdeal.nD Cert.ReferenceXIdeal.τ).loc Cert.ReferenceXIdeal.main_arg4))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)
      ∧ m' ((c.tc : Thread Cert.ReferenceNIdeal.nD Cert.ReferenceNIdeal.τ).loc Cert.ReferenceNIdeal.main_arg2) = m ((c.tc : Thread Cert.KernelNIdeal.nD Cert.KernelNIdeal.τ).loc Cert.KernelNIdeal.main_arg2)
      ∧ m' ((c.tc : Thread Cert.ReferenceNIdeal.nD Cert.ReferenceNIdeal.τ).loc Cert.ReferenceNIdeal.main_arg3) = m ((c.tc : Thread Cert.KernelNIdeal.nD Cert.KernelNIdeal.τ).loc Cert.KernelNIdeal.main_arg3)) →
    ∃ (v0 : (c : Dev Cert.KernelNIdeal.nD) → Buf (Elt Ideal) ((c.tc : Thread Cert.KernelNIdeal.nD Cert.KernelNIdeal.τ).loc Cert.KernelNIdeal.main_v19)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v19) = v0 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
          ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
          ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v16) = v0 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1)
          ∧ r.2.mem ((c.tc : Thread Cert.ReferenceNIdeal.nD Cert.ReferenceNIdeal.τ).loc Cert.ReferenceNIdeal.main_arg2) = m' ((c.tc : Thread Cert.ReferenceNIdeal.nD Cert.ReferenceNIdeal.τ).loc Cert.ReferenceNIdeal.main_arg2)
          ∧ r.2.mem ((c.tc : Thread Cert.ReferenceNIdeal.nD Cert.ReferenceNIdeal.τ).loc Cert.ReferenceNIdeal.main_arg3) = m' ((c.tc : Thread Cert.ReferenceNIdeal.nD Cert.ReferenceNIdeal.τ).loc Cert.ReferenceNIdeal.main_arg3))

def preserves_KernelF_KernelFIdeal : Prop :=
  True

def algebraic_KernelFIdeal_ReferenceFIdeal [hKernelFIdeal : Cert.KernelFIdeal.Facts] [hReferenceFIdeal : Cert.ReferenceFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)) →
    ∃ (v0 : (c : Dev Cert.KernelFIdeal.nD) → Buf (Elt Ideal) ((c.tc : Thread Cert.KernelFIdeal.nD Cert.KernelFIdeal.τ).loc Cert.KernelFIdeal.main_v17)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v17) = v0 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v16) = v0 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3))

def Claim : Prop :=
  ∃ (hKernel : Cert.Kernel.Facts) (hKernelIdeal : Cert.KernelIdeal.Facts) (hReferenceIdeal : Cert.ReferenceIdeal.Facts) (hKernelM : Cert.KernelM.Facts) (hKernelMIdeal : Cert.KernelMIdeal.Facts) (hReferenceMIdeal : Cert.ReferenceMIdeal.Facts) (hKernelR : Cert.KernelR.Facts) (hKernelRIdeal : Cert.KernelRIdeal.Facts) (hReferenceRIdeal : Cert.ReferenceRIdeal.Facts) (hKernelA : Cert.KernelA.Facts) (hKernelAIdeal : Cert.KernelAIdeal.Facts) (hReferenceAIdeal : Cert.ReferenceAIdeal.Facts) (hKernelX : Cert.KernelX.Facts) (hKernelXIdeal : Cert.KernelXIdeal.Facts) (hReferenceXIdeal : Cert.ReferenceXIdeal.Facts) (hKernelN : Cert.KernelN.Facts) (hKernelNIdeal : Cert.KernelNIdeal.Facts) (hReferenceNIdeal : Cert.ReferenceNIdeal.Facts) (hKernelF : Cert.KernelF.Facts) (hKernelFIdeal : Cert.KernelFIdeal.Facts) (hReferenceFIdeal : Cert.ReferenceFIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelR (hKernelR := hKernelR)
    ∧ quiescent_KernelRIdeal (hKernelRIdeal := hKernelRIdeal)
    ∧ quiescent_ReferenceRIdeal (hReferenceRIdeal := hReferenceRIdeal)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelF (hKernelF := hKernelF)
    ∧ quiescent_KernelFIdeal (hKernelFIdeal := hKernelFIdeal)
    ∧ quiescent_ReferenceFIdeal (hReferenceFIdeal := hReferenceFIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelM_KernelMIdeal
    ∧ algebraic_KernelMIdeal_ReferenceMIdeal (hKernelMIdeal := hKernelMIdeal) (hReferenceMIdeal := hReferenceMIdeal)
    ∧ preserves_KernelR_KernelRIdeal
    ∧ algebraic_KernelRIdeal_ReferenceRIdeal (hKernelRIdeal := hKernelRIdeal) (hReferenceRIdeal := hReferenceRIdeal)
    ∧ preserves_KernelA_KernelAIdeal
    ∧ algebraic_KernelAIdeal_ReferenceAIdeal (hKernelAIdeal := hKernelAIdeal) (hReferenceAIdeal := hReferenceAIdeal)
    ∧ preserves_KernelX_KernelXIdeal
    ∧ algebraic_KernelXIdeal_ReferenceXIdeal (hKernelXIdeal := hKernelXIdeal) (hReferenceXIdeal := hReferenceXIdeal)
    ∧ preserves_KernelN_KernelNIdeal
    ∧ algebraic_KernelNIdeal_ReferenceNIdeal (hKernelNIdeal := hKernelNIdeal) (hReferenceNIdeal := hReferenceNIdeal)
    ∧ preserves_KernelF_KernelFIdeal
    ∧ algebraic_KernelFIdeal_ReferenceFIdeal (hKernelFIdeal := hKernelFIdeal) (hReferenceFIdeal := hReferenceFIdeal)
-- ==== Pre_finite.lean ====
abbrev S4096x1024 : Shape := ⟨2, ![4096, 1024]⟩
abbrev S4096x8192 : Shape := ⟨2, ![4096, 8192]⟩
abbrev S4x256 : Shape := ⟨2, ![4, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4096x1024 .f32) (main_arg1 : FVec F S4096x8192 .f32) (main_arg2 : FVec F S4x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4x256 .f32 := Host.absf main_arg2
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  main_v13
-- ==== Kernel.lean ====
abbrev S4096x1024 : Shape := ⟨2, ![4096, 1024]⟩
abbrev S4096x8192 : Shape := ⟨2, ![4096, 8192]⟩
abbrev S4x256 : Shape := ⟨2, ![4, 256]⟩
abbrev S4096x4096 : Shape := ⟨2, ![4096, 4096]⟩
abbrev S2x2048x4096 : Shape := ⟨3, ![2, 2048, 4096]⟩
abbrev S2x2048x1024 : Shape := ⟨3, ![2, 2048, 1024]⟩
abbrev S2x2048x4x256 : Shape := ⟨4, ![2, 2048, 4, 256]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S2x2048x4x128 : Shape := ⟨4, ![2, 2048, 4, 128]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S1x1x128x4x1 : Shape := ⟨5, ![1, 1, 128, 4, 1]⟩
abbrev S1x4x1x1 : Shape := ⟨4, ![1, 4, 1, 1]⟩
abbrev S2x16x128x4x256 : Shape := ⟨5, ![2, 16, 128, 4, 256]⟩
abbrev S16x2x128x4x256 : Shape := ⟨5, ![16, 2, 128, 4, 256]⟩
abbrev S2x4x256x256 : Shape := ⟨4, ![2, 4, 256, 256]⟩
abbrev S16x2x4x256x256 : Shape := ⟨5, ![16, 2, 4, 256, 256]⟩
abbrev S0x2x4x256x256 : Shape := ⟨5, ![0, 2, 4, 256, 256]⟩
abbrev S1x2x4x256x256 : Shape := ⟨5, ![1, 2, 4, 256, 256]⟩
abbrev S16x2x4x128x128 : Shape := ⟨5, ![16, 2, 4, 128, 128]⟩
abbrev S1x1x4x128x128 : Shape := ⟨5, ![1, 1, 4, 128, 128]⟩
abbrev S16x2x4x256x128 : Shape := ⟨5, ![16, 2, 4, 256, 128]⟩
abbrev S4x1 : Shape := ⟨2, ![4, 1]⟩
abbrev S4x128 : Shape := ⟨2, ![4, 128]⟩
abbrev S4x128x1 : Shape := ⟨3, ![4, 128, 1]⟩
abbrev S4x1x256 : Shape := ⟨3, ![4, 1, 256]⟩
abbrev S2x2048x8192 : Shape := ⟨3, ![2, 2048, 8192]⟩
abbrev S2x256x1024 : Shape := ⟨3, ![2, 256, 1024]⟩
abbrev S2x2x4x256x256 : Shape := ⟨5, ![2, 2, 4, 256, 256]⟩
abbrev S256x128 : Shape := ⟨2, ![256, 128]⟩
abbrev S2x256x4096 : Shape := ⟨3, ![2, 256, 4096]⟩
abbrev S1x1x256 : Shape := ⟨3, ![1, 1, 256]⟩
abbrev S1x256 : Shape := ⟨2, ![1, 256]⟩
abbrev S1x128x256 : Shape := ⟨3, ![1, 128, 256]⟩
abbrev S128x256 : Shape := ⟨2, ![128, 256]⟩
abbrev S256 : Shape := ⟨1, ![256]⟩
abbrev S1x128x1 : Shape := ⟨3, ![1, 128, 1]⟩
abbrev S1x1x256x256 : Shape := ⟨4, ![1, 1, 256, 256]⟩
abbrev S256x256 : Shape := ⟨2, ![256, 256]⟩
abbrev S1x1x1x256x256 : Shape := ⟨5, ![1, 1, 1, 256, 256]⟩

abbrev nBuf : Space → Nat
  | .hbm => 342
  | .vmem => 27
  | .smem => 0
  | _ => 0

abbrev hbmTy0_0 (i : Nat) : BufTy := match i % 128 with
  | 0 => ⟨S4096x1024, .f32⟩
  | 1 => ⟨S4096x8192, .f32⟩
  | 2 => ⟨S4x256, .f32⟩
  | 3 => ⟨S4096x4096, .f32⟩
  | 4 => ⟨S2x2048x4096, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x4x256, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S2048, .f32⟩
  | 19 => ⟨S2048x1, .f32⟩
  | 20 => ⟨S1x128, .f32⟩
  | 21 => ⟨S2048x128, .f32⟩
  | 22 => ⟨S2048x128, .f32⟩
  | 23 => ⟨S2048x128, .f32⟩
  | 24 => ⟨S2048x128, .f32⟩
  | 25 => ⟨S1x2048x1x128, .f32⟩
  | 26 => ⟨S2048x128, .f32⟩
  | 27 => ⟨S1x2048x1x128, .f32⟩
  | 28 => ⟨S2x2048x4x128, .f32⟩
  | 29 => ⟨S2x2048x4x128, .f32⟩
  | 30 => ⟨S2x2048x4x128, .f32⟩
  | 31 => ⟨S2x2048x4x128, .f32⟩
  | 32 => ⟨S2x2048x4x128, .f32⟩
  | 33 => ⟨S2x2048x4x128, .f32⟩
  | 34 => ⟨S2x2048x4x128, .f32⟩
  | 35 => ⟨S2x2048x4x128, .f32⟩
  | 36 => ⟨S2x2048x4x128, .f32⟩
  | 37 => ⟨S2x2048x4x128, .f32⟩
  | 38 => ⟨S2x2048x4x128, .f32⟩
  | 39 => ⟨S2x2048x4x128, .f32⟩
  | 40 => ⟨S2x2048x4x256, .f32⟩
  | 41 => ⟨S2x2048x4x256, .f32⟩
  | 42 => ⟨S128, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S2048, .f32⟩
  | 51 => ⟨S2048x1, .f32⟩
  | 52 => ⟨S1x128, .f32⟩
  | 53 => ⟨S2048x128, .f32⟩
  | 54 => ⟨S2048x128, .f32⟩
  | 55 => ⟨S2048x128, .f32⟩
  | 56 => ⟨S2048x128, .f32⟩
  | 57 => ⟨S1x2048x1x128, .f32⟩
  | 58 => ⟨S2048x128, .f32⟩
  | 59 => ⟨S1x2048x1x128, .f32⟩
  | 60 => ⟨S2x2048x4x128, .f32⟩
  | 61 => ⟨S2x2048x4x128, .f32⟩
  | 62 => ⟨S2x2048x4x128, .f32⟩
  | 63 => ⟨S2x2048x4x128, .f32⟩
  | 64 => ⟨S2x2048x4x128, .f32⟩
  | 65 => ⟨S2x2048x4x128, .f32⟩
  | 66 => ⟨S2x2048x4x128, .f32⟩
  | 67 => ⟨S2x2048x4x128, .f32⟩
  | 68 => ⟨S2x2048x4x128, .f32⟩
  | 69 => ⟨S2x2048x4x128, .f32⟩
  | 70 => ⟨S2x2048x4x128, .f32⟩
  | 71 => ⟨S2x2048x4x128, .f32⟩
  | 72 => ⟨S2x2048x4x256, .f32⟩
  | 73 => ⟨S_, .f32⟩
  | 74 => ⟨S2x2048x4x256, .f32⟩
  | 75 => ⟨S2x2048x4x256, .f32⟩
  | 76 => ⟨S2x2048x4x256, .f32⟩
  | 77 => ⟨S4, .f32⟩
  | 78 => ⟨S_, .f32⟩
  | 79 => ⟨S4, .f32⟩
  | 80 => ⟨S4, .f32⟩
  | 81 => ⟨S_, .f32⟩
  | 82 => ⟨S4, .f32⟩
  | 83 => ⟨S4, .f32⟩
  | 84 => ⟨S4, .f32⟩
  | 85 => ⟨S4, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S_, .f32⟩
  | 93 => ⟨S128x128, .f32⟩
  | 94 => ⟨S128x128, .i1⟩
  | 95 => ⟨S_, .f32⟩
  | 96 => ⟨S128x128, .f32⟩
  | 97 => ⟨S128x128, .f32⟩
  | 98 => ⟨S1x128x128, .f32⟩
  | 99 => ⟨S4x1x1, .f32⟩
  | 100 => ⟨S4x128x128, .f32⟩
  | 101 => ⟨S4x128x128, .f32⟩
  | 102 => ⟨S4x128x128, .f32⟩
  | 103 => ⟨S4x128x128, .f32⟩
  | 104 => ⟨S_, .f32⟩
  | 105 => ⟨S_, .f32⟩
  | 106 => ⟨S4x128x128, .i1⟩
  | 107 => ⟨S4x128x128, .f32⟩
  | 108 => ⟨S4x128x128, .f32⟩
  | 109 => ⟨S128x1, .f32⟩
  | 110 => ⟨S_, .f32⟩
  | 111 => ⟨S128x1, .f32⟩
  | 112 => ⟨S128x1, .f32⟩
  | 113 => ⟨S1x4, .f32⟩
  | 114 => ⟨S128x4, .f32⟩
  | 115 => ⟨S128x4, .f32⟩
  | 116 => ⟨S128x4, .f32⟩
  | 117 => ⟨S128x4, .f32⟩
  | 118 => ⟨S1x1x128x4x1, .f32⟩
  | 119 => ⟨S128x1, .f32⟩
  | 120 => ⟨S_, .f32⟩
  | 121 => ⟨S128x1, .f32⟩
  | 122 => ⟨S128x1, .f32⟩
  | 123 => ⟨S1x4, .f32⟩
  | 124 => ⟨S128x4, .f32⟩
  | 125 => ⟨S128x4, .f32⟩
  | 126 => ⟨S128x4, .f32⟩
  | 127 => ⟨S128x4, .f32⟩
  | _ => ⟨S4096x1024, .f32⟩

abbrev hbmTy0_1 (i : Nat) : BufTy := match i % 128 with
  | 0 => ⟨S1x1x128x4x1, .f32⟩
  | 1 => ⟨S_, .f32⟩
  | 2 => ⟨S4, .f32⟩
  | 3 => ⟨S4, .f32⟩
  | 4 => ⟨S4, .f32⟩
  | 5 => ⟨S1x4x1x1, .f32⟩
  | 6 => ⟨S2x16x128x4x256, .f32⟩
  | 7 => ⟨S16x2x128x4x256, .f32⟩
  | 8 => ⟨S2x16x128x4x256, .f32⟩
  | 9 => ⟨S16x2x128x4x256, .f32⟩
  | 10 => ⟨S2x16x128x4x256, .f32⟩
  | 11 => ⟨S16x2x128x4x256, .f32⟩
  | 12 => ⟨S_, .f32⟩
  | 13 => ⟨S2x4x256x256, .f32⟩
  | 14 => ⟨S16x2x128x4x256, .f32⟩
  | 15 => ⟨S16x2x128x4x256, .f32⟩
  | 16 => ⟨S16x2x4x256x256, .f32⟩
  | 17 => ⟨S0x2x4x256x256, .f32⟩
  | 18 => ⟨S16x2x4x256x256, .f32⟩
  | 19 => ⟨S_, .f32⟩
  | 20 => ⟨S0x2x4x256x256, .f32⟩
  | 21 => ⟨S1x2x4x256x256, .f32⟩
  | 22 => ⟨S2x4x256x256, .f32⟩
  | 23 => ⟨S2x4x256x256, .f32⟩
  | 24 => ⟨S2x4x256x256, .f32⟩
  | 25 => ⟨S2x4x256x256, .f32⟩
  | 26 => ⟨S1x2x4x256x256, .f32⟩
  | 27 => ⟨S2x4x256x256, .f32⟩
  | 28 => ⟨S2x4x256x256, .f32⟩
  | 29 => ⟨S2x4x256x256, .f32⟩
  | 30 => ⟨S2x4x256x256, .f32⟩
  | 31 => ⟨S1x2x4x256x256, .f32⟩
  | 32 => ⟨S2x4x256x256, .f32⟩
  | 33 => ⟨S2x4x256x256, .f32⟩
  | 34 => ⟨S2x4x256x256, .f32⟩
  | 35 => ⟨S2x4x256x256, .f32⟩
  | 36 => ⟨S1x2x4x256x256, .f32⟩
  | 37 => ⟨S2x4x256x256, .f32⟩
  | 38 => ⟨S2x4x256x256, .f32⟩
  | 39 => ⟨S2x4x256x256, .f32⟩
  | 40 => ⟨S2x4x256x256, .f32⟩
  | 41 => ⟨S1x2x4x256x256, .f32⟩
  | 42 => ⟨S2x4x256x256, .f32⟩
  | 43 => ⟨S2x4x256x256, .f32⟩
  | 44 => ⟨S2x4x256x256, .f32⟩
  | 45 => ⟨S2x4x256x256, .f32⟩
  | 46 => ⟨S1x2x4x256x256, .f32⟩
  | 47 => ⟨S2x4x256x256, .f32⟩
  | 48 => ⟨S2x4x256x256, .f32⟩
  | 49 => ⟨S2x4x256x256, .f32⟩
  | 50 => ⟨S2x4x256x256, .f32⟩
  | 51 => ⟨S1x2x4x256x256, .f32⟩
  | 52 => ⟨S2x4x256x256, .f32⟩
  | 53 => ⟨S2x4x256x256, .f32⟩
  | 54 => ⟨S2x4x256x256, .f32⟩
  | 55 => ⟨S2x4x256x256, .f32⟩
  | 56 => ⟨S1x2x4x256x256, .f32⟩
  | 57 => ⟨S2x4x256x256, .f32⟩
  | 58 => ⟨S2x4x256x256, .f32⟩
  | 59 => ⟨S2x4x256x256, .f32⟩
  | 60 => ⟨S2x4x256x256, .f32⟩
  | 61 => ⟨S1x2x4x256x256, .f32⟩
  | 62 => ⟨S2x4x256x256, .f32⟩
  | 63 => ⟨S2x4x256x256, .f32⟩
  | 64 => ⟨S2x4x256x256, .f32⟩
  | 65 => ⟨S2x4x256x256, .f32⟩
  | 66 => ⟨S1x2x4x256x256, .f32⟩
  | 67 => ⟨S2x4x256x256, .f32⟩
  | 68 => ⟨S2x4x256x256, .f32⟩
  | 69 => ⟨S2x4x256x256, .f32⟩
  | 70 => ⟨S2x4x256x256, .f32⟩
  | 71 => ⟨S1x2x4x256x256, .f32⟩
  | 72 => ⟨S2x4x256x256, .f32⟩
  | 73 => ⟨S2x4x256x256, .f32⟩
  | 74 => ⟨S2x4x256x256, .f32⟩
  | 75 => ⟨S2x4x256x256, .f32⟩
  | 76 => ⟨S1x2x4x256x256, .f32⟩
  | 77 => ⟨S2x4x256x256, .f32⟩
  | 78 => ⟨S2x4x256x256, .f32⟩
  | 79 => ⟨S2x4x256x256, .f32⟩
  | 80 => ⟨S2x4x256x256, .f32⟩
  | 81 => ⟨S1x2x4x256x256, .f32⟩
  | 82 => ⟨S2x4x256x256, .f32⟩
  | 83 => ⟨S2x4x256x256, .f32⟩
  | 84 => ⟨S2x4x256x256, .f32⟩
  | 85 => ⟨S2x4x256x256, .f32⟩
  | 86 => ⟨S1x2x4x256x256, .f32⟩
  | 87 => ⟨S2x4x256x256, .f32⟩
  | 88 => ⟨S2x4x256x256, .f32⟩
  | 89 => ⟨S2x4x256x256, .f32⟩
  | 90 => ⟨S2x4x256x256, .f32⟩
  | 91 => ⟨S1x2x4x256x256, .f32⟩
  | 92 => ⟨S2x4x256x256, .f32⟩
  | 93 => ⟨S2x4x256x256, .f32⟩
  | 94 => ⟨S2x4x256x256, .f32⟩
  | 95 => ⟨S2x4x256x256, .f32⟩
  | 96 => ⟨S1x2x4x256x256, .f32⟩
  | 97 => ⟨S2x4x256x256, .f32⟩
  | 98 => ⟨S2x4x256x256, .f32⟩
  | 99 => ⟨S2x4x256x256, .f32⟩
  | 100 => ⟨S2x4x256x256, .f32⟩
  | 101 => ⟨S1x2x4x256x256, .f32⟩
  | 102 => ⟨S1x2x4x256x256, .f32⟩
  | 103 => ⟨S1x2x4x256x256, .f32⟩
  | 104 => ⟨S1x2x4x256x256, .f32⟩
  | 105 => ⟨S1x2x4x256x256, .f32⟩
  | 106 => ⟨S1x2x4x256x256, .f32⟩
  | 107 => ⟨S1x2x4x256x256, .f32⟩
  | 108 => ⟨S1x2x4x256x256, .f32⟩
  | 109 => ⟨S1x2x4x256x256, .f32⟩
  | 110 => ⟨S1x2x4x256x256, .f32⟩
  | 111 => ⟨S1x2x4x256x256, .f32⟩
  | 112 => ⟨S1x2x4x256x256, .f32⟩
  | 113 => ⟨S1x2x4x256x256, .f32⟩
  | 114 => ⟨S1x2x4x256x256, .f32⟩
  | 115 => ⟨S1x2x4x256x256, .f32⟩
  | 116 => ⟨S1x2x4x256x256, .f32⟩
  | 117 => ⟨S16x2x4x256x256, .f32⟩
  | 118 => ⟨S16x2x4x256x256, .f32⟩
  | 119 => ⟨S16x2x4x128x128, .f32⟩
  | 120 => ⟨S1x1x4x128x128, .f32⟩
  | 121 => ⟨S16x2x4x128x128, .f32⟩
  | 122 => ⟨S16x2x4x128x128, .f32⟩
  | 123 => ⟨S16x2x4x256x128, .f32⟩
  | 124 => ⟨S16x2x128x4x256, .f32⟩
  | 125 => ⟨S16x2x4x256x128, .f32⟩
  | 126 => ⟨S16x2x128x4x256, .f32⟩
  | 127 => ⟨S16x2x128x4x256, .f32⟩
  | _ => ⟨S4096x1024, .f32⟩

abbrev hbmTy0_2 (i : Nat) : BufTy := match i % 128 with
  | 0 => ⟨S16x2x128x4x256, .f32⟩
  | 1 => ⟨S16x2x128x4x256, .f32⟩
  | 2 => ⟨S2x16x128x4x256, .f32⟩
  | 3 => ⟨S2x2048x4x256, .f32⟩
  | 4 => ⟨S128, .f32⟩
  | 5 => ⟨S128, .f32⟩
  | 6 => ⟨S_, .f32⟩
  | 7 => ⟨S128, .f32⟩
  | 8 => ⟨S128, .f32⟩
  | 9 => ⟨S_, .f32⟩
  | 10 => ⟨S128, .f32⟩
  | 11 => ⟨S128, .f32⟩
  | 12 => ⟨S2048, .f32⟩
  | 13 => ⟨S2048x1, .f32⟩
  | 14 => ⟨S1x128, .f32⟩
  | 15 => ⟨S2048x128, .f32⟩
  | 16 => ⟨S2048x128, .f32⟩
  | 17 => ⟨S2048x128, .f32⟩
  | 18 => ⟨S4, .f32⟩
  | 19 => ⟨S_, .f32⟩
  | 20 => ⟨S4, .f32⟩
  | 21 => ⟨S4, .f32⟩
  | 22 => ⟨S_, .f32⟩
  | 23 => ⟨S4, .f32⟩
  | 24 => ⟨S4, .f32⟩
  | 25 => ⟨S4, .f32⟩
  | 26 => ⟨S4, .f32⟩
  | 27 => ⟨S128, .f32⟩
  | 28 => ⟨S128x1, .f32⟩
  | 29 => ⟨S1x128, .f32⟩
  | 30 => ⟨S128x128, .f32⟩
  | 31 => ⟨S128x128, .f32⟩
  | 32 => ⟨S128x128, .f32⟩
  | 33 => ⟨S_, .f32⟩
  | 34 => ⟨S128x128, .f32⟩
  | 35 => ⟨S128x128, .i1⟩
  | 36 => ⟨S_, .f32⟩
  | 37 => ⟨S128x128, .f32⟩
  | 38 => ⟨S128x128, .f32⟩
  | 39 => ⟨S1x128x128, .f32⟩
  | 40 => ⟨S4x1x1, .f32⟩
  | 41 => ⟨S4x128x128, .f32⟩
  | 42 => ⟨S4x128x128, .f32⟩
  | 43 => ⟨S4x128x128, .f32⟩
  | 44 => ⟨S4x128x128, .f32⟩
  | 45 => ⟨S_, .f32⟩
  | 46 => ⟨S_, .f32⟩
  | 47 => ⟨S4x128x128, .i1⟩
  | 48 => ⟨S4x128x128, .f32⟩
  | 49 => ⟨S4x128x128, .f32⟩
  | 50 => ⟨S1x128, .f32⟩
  | 51 => ⟨S_, .f32⟩
  | 52 => ⟨S1x128, .f32⟩
  | 53 => ⟨S1x128, .f32⟩
  | 54 => ⟨S4x1, .f32⟩
  | 55 => ⟨S4x128, .f32⟩
  | 56 => ⟨S4x128, .f32⟩
  | 57 => ⟨S4x128, .f32⟩
  | 58 => ⟨S4x128, .f32⟩
  | 59 => ⟨S4x128x1, .f32⟩
  | 60 => ⟨S1x128, .f32⟩
  | 61 => ⟨S_, .f32⟩
  | 62 => ⟨S1x128, .f32⟩
  | 63 => ⟨S1x128, .f32⟩
  | 64 => ⟨S4x1, .f32⟩
  | 65 => ⟨S4x128, .f32⟩
  | 66 => ⟨S4x128, .f32⟩
  | 67 => ⟨S4x128, .f32⟩
  | 68 => ⟨S4x128, .f32⟩
  | 69 => ⟨S4x128x1, .f32⟩
  | 70 => ⟨S_, .f32⟩
  | 71 => ⟨S4, .f32⟩
  | 72 => ⟨S4, .f32⟩
  | 73 => ⟨S4, .f32⟩
  | 74 => ⟨S4x1x1, .f32⟩
  | 75 => ⟨S4x1x256, .f32⟩
  | 76 => ⟨S2048x128, .f32⟩
  | 77 => ⟨S2048x128, .f32⟩
  | 78 => ⟨S4096x1024, .f32⟩
  | 79 => ⟨S16x2x4x256x256, .bf16⟩
  | 80 => ⟨S4x1x256, .f32⟩
  | 81 => ⟨S2x2048x8192, .f32⟩
  | 82 => ⟨S2x2048x1024, .f32⟩
  | 83 => ⟨S2x2048x1024, .f32⟩
  | 84 => ⟨S2x2048x4096, .bf16⟩
  | 85 => ⟨S4x1x256, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S2x256x1024, .f32⟩
  | .local _ .vmem, ⟨7, _⟩ => ⟨S2x256x1024, .f32⟩
  | .local _ .vmem, ⟨8, _⟩ => ⟨S2x256x1024, .f32⟩
  | .local _ .vmem, ⟨9, _⟩ => ⟨S2x256x1024, .f32⟩
  | .local _ .vmem, ⟨10, _⟩ => ⟨S2x256x1024, .f32⟩
  | .local _ .vmem, ⟨11, _⟩ => ⟨S2x256x1024, .f32⟩
  | .local _ .vmem, ⟨12, _⟩ => ⟨S2x2x4x256x256, .bf16⟩
  | .local _ .vmem, ⟨13, _⟩ => ⟨S2x2x4x256x256, .bf16⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S4x128x128, .f32⟩
  | .local _ .vmem, ⟨19, _⟩ => ⟨S4x128x1, .f32⟩
  | .local _ .vmem, ⟨20, _⟩ => ⟨S4x128x1, .f32⟩
  | .local _ .vmem, ⟨21, _⟩ => ⟨S4x1x256, .f32⟩
  | .local _ .vmem, ⟨22, _⟩ => ⟨S4x1x256, .f32⟩
  | .local _ .vmem, ⟨23, _⟩ => ⟨S2x256x4096, .bf16⟩
  | .local _ .vmem, ⟨24, _⟩ => ⟨S2x256x4096, .bf16⟩
  | .local _ .vmem, ⟨25, _⟩ => ⟨S4x1x256, .f32⟩
  | .local _ .vmem, ⟨26, _⟩ => ⟨S2x4x256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_3 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_4 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_6 : Ref sig .tc := ⟨.hbm, 92, rfl⟩
abbrev main_v82 : Ref sig .tc := ⟨.hbm, 93, rfl⟩
abbrev main_v83 : Ref sig .tc := ⟨.hbm, 94, rfl⟩
abbrev main_cst_7 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v92 : Ref sig .tc := ⟨.hbm, 108, rfl⟩
abbrev main_v93 : Ref sig .tc := ⟨.hbm, 109, rfl⟩
abbrev main_cst_9 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_10 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_11 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_12 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_13 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_cst_14 : Ref sig .tc := ⟨.hbm, 262, rfl⟩
abbrev main_v241 : Ref sig .tc := ⟨.hbm, 263, rfl⟩
abbrev main_v242 : Ref sig .tc := ⟨.hbm, 264, rfl⟩
abbrev main_cst_15 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_cst_16 : Ref sig .tc := ⟨.hbm, 275, rfl⟩
abbrev main_v252 : Ref sig .tc := ⟨.hbm, 276, rfl⟩
abbrev main_v253 : Ref sig .tc := ⟨.hbm, 277, rfl⟩
abbrev main_cst_17 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_cst_18 : Ref sig .tc := ⟨.hbm, 289, rfl⟩
abbrev main_v264 : Ref sig .tc := ⟨.hbm, 290, rfl⟩
abbrev main_v265 : Ref sig .tc := ⟨.hbm, 291, rfl⟩
abbrev main_cst_19 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_cst_20 : Ref sig .tc := ⟨.hbm, 301, rfl⟩
abbrev main_call1_v0 : Ref sig .tc := ⟨.hbm, 302, rfl⟩
abbrev main_call1_v1 : Ref sig .tc := ⟨.hbm, 303, rfl⟩
abbrev main_call1_v2 : Ref sig .tc := ⟨.hbm, 304, rfl⟩
abbrev main_v274 : Ref sig .tc := ⟨.hbm, 305, rfl⟩
abbrev main_v275 : Ref sig .tc := ⟨.hbm, 306, rfl⟩
abbrev main_cst_21 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_v284 : Ref sig .tc := ⟨.hbm, 316, rfl⟩
abbrev main_cst_22 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_cst_23 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306_0 : Ref sig .tc := ⟨.hbm, 340, rfl⟩
abbrev main_v306_1 : Ref sig .tc := ⟨.hbm, 341, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c2_i32 : BitVec 32 := 2#32
  let c0_i32_0 : BitVec 32 := 0#32
  ![c0_i32.toNat, v0.toNat, c2_i32.toNat]

def cc0_transform_3 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c3_i32 : BitVec 32 := 3#32
  let c0_i32_0 : BitVec 32 := 0#32
  ![c0_i32.toNat, v0.toNat, c3_i32.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c4_i32 : BitVec 32 := 4#32
  let c0_i32_0 : BitVec 32 := 0#32
  ![c0_i32.toNat, v0.toNat, c4_i32.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c5_i32 : BitVec 32 := 5#32
  let c0_i32_0 : BitVec 32 := 0#32
  ![c0_i32.toNat, v0.toNat, c5_i32.toNat]

def cc0_transform_6 (i : grid0.Coords) : Fin 5 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![v0.toNat, c0_i32.toNat, c0_i32_0.toNat, c0_i32_1.toNat, c0_i32_2.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2x4x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4096x1024 : Shape := ⟨2, ![4096, 1024]⟩
abbrev S4096x8192 : Shape := ⟨2, ![4096, 8192]⟩
abbrev S4x256 : Shape := ⟨2, ![4, 256]⟩
abbrev S4096x4096 : Shape := ⟨2, ![4096, 4096]⟩
abbrev S2x2048x4096 : Shape := ⟨3, ![2, 2048, 4096]⟩
abbrev S2x2048x1024 : Shape := ⟨3, ![2, 2048, 1024]⟩
abbrev S2x2048x4x256 : Shape := ⟨4, ![2, 2048, 4, 256]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S2x2048x4x128 : Shape := ⟨4, ![2, 2048, 4, 128]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S1x1x128x4x1 : Shape := ⟨5, ![1, 1, 128, 4, 1]⟩
abbrev S1x4x1x1 : Shape := ⟨4, ![1, 4, 1, 1]⟩
abbrev S2x16x128x4x256 : Shape := ⟨5, ![2, 16, 128, 4, 256]⟩
abbrev S16x2x128x4x256 : Shape := ⟨5, ![16, 2, 128, 4, 256]⟩
abbrev S2x4x256x256 : Shape := ⟨4, ![2, 4, 256, 256]⟩
abbrev S16x2x4x256x256 : Shape := ⟨5, ![16, 2, 4, 256, 256]⟩
abbrev S0x2x4x256x256 : Shape := ⟨5, ![0, 2, 4, 256, 256]⟩
abbrev S1x2x4x256x256 : Shape := ⟨5, ![1, 2, 4, 256, 256]⟩
abbrev S16x2x4x128x128 : Shape := ⟨5, ![16, 2, 4, 128, 128]⟩
abbrev S1x1x4x128x128 : Shape := ⟨5, ![1, 1, 4, 128, 128]⟩
abbrev S16x2x4x256x128 : Shape := ⟨5, ![16, 2, 4, 256, 128]⟩
abbrev S2x2048x4 : Shape := ⟨3, ![2, 2048, 4]⟩
abbrev S2x2048x4x1 : Shape := ⟨4, ![2, 2048, 4, 1]⟩
abbrev S1x1x4x256 : Shape := ⟨4, ![1, 1, 4, 256]⟩
abbrev S16x2x4x128x256 : Shape := ⟨5, ![16, 2, 4, 128, 256]⟩
abbrev S4x1x256 : Shape := ⟨3, ![4, 1, 256]⟩

abbrev nBuf : Space → Nat
  | .hbm => 532
  | .vmem => 0
  | .smem => 0
  | _ => 0

abbrev hbmTy0_0 (i : Nat) : BufTy := match i % 128 with
  | 0 => ⟨S4096x1024, .f32⟩
  | 1 => ⟨S4096x8192, .f32⟩
  | 2 => ⟨S4x256, .f32⟩
  | 3 => ⟨S4096x4096, .f32⟩
  | 4 => ⟨S2x2048x4096, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x4x256, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S2048, .f32⟩
  | 19 => ⟨S2048x1, .f32⟩
  | 20 => ⟨S1x128, .f32⟩
  | 21 => ⟨S2048x128, .f32⟩
  | 22 => ⟨S2048x128, .f32⟩
  | 23 => ⟨S2048x128, .f32⟩
  | 24 => ⟨S2048x128, .f32⟩
  | 25 => ⟨S1x2048x1x128, .f32⟩
  | 26 => ⟨S2048x128, .f32⟩
  | 27 => ⟨S1x2048x1x128, .f32⟩
  | 28 => ⟨S2x2048x4x128, .f32⟩
  | 29 => ⟨S2x2048x4x128, .f32⟩
  | 30 => ⟨S2x2048x4x128, .f32⟩
  | 31 => ⟨S2x2048x4x128, .f32⟩
  | 32 => ⟨S2x2048x4x128, .f32⟩
  | 33 => ⟨S2x2048x4x128, .f32⟩
  | 34 => ⟨S2x2048x4x128, .f32⟩
  | 35 => ⟨S2x2048x4x128, .f32⟩
  | 36 => ⟨S2x2048x4x128, .f32⟩
  | 37 => ⟨S2x2048x4x128, .f32⟩
  | 38 => ⟨S2x2048x4x128, .f32⟩
  | 39 => ⟨S2x2048x4x128, .f32⟩
  | 40 => ⟨S2x2048x4x256, .f32⟩
  | 41 => ⟨S2x2048x4x256, .f32⟩
  | 42 => ⟨S128, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S2048, .f32⟩
  | 51 => ⟨S2048x1, .f32⟩
  | 52 => ⟨S1x128, .f32⟩
  | 53 => ⟨S2048x128, .f32⟩
  | 54 => ⟨S2048x128, .f32⟩
  | 55 => ⟨S2048x128, .f32⟩
  | 56 => ⟨S2048x128, .f32⟩
  | 57 => ⟨S1x2048x1x128, .f32⟩
  | 58 => ⟨S2048x128, .f32⟩
  | 59 => ⟨S1x2048x1x128, .f32⟩
  | 60 => ⟨S2x2048x4x128, .f32⟩
  | 61 => ⟨S2x2048x4x128, .f32⟩
  | 62 => ⟨S2x2048x4x128, .f32⟩
  | 63 => ⟨S2x2048x4x128, .f32⟩
  | 64 => ⟨S2x2048x4x128, .f32⟩
  | 65 => ⟨S2x2048x4x128, .f32⟩
  | 66 => ⟨S2x2048x4x128, .f32⟩
  | 67 => ⟨S2x2048x4x128, .f32⟩
  | 68 => ⟨S2x2048x4x128, .f32⟩
  | 69 => ⟨S2x2048x4x128, .f32⟩
  | 70 => ⟨S2x2048x4x128, .f32⟩
  | 71 => ⟨S2x2048x4x128, .f32⟩
  | 72 => ⟨S2x2048x4x256, .f32⟩
  | 73 => ⟨S_, .f32⟩
  | 74 => ⟨S2x2048x4x256, .f32⟩
  | 75 => ⟨S2x2048x4x256, .f32⟩
  | 76 => ⟨S2x2048x4x256, .f32⟩
  | 77 => ⟨S4, .f32⟩
  | 78 => ⟨S_, .f32⟩
  | 79 => ⟨S4, .f32⟩
  | 80 => ⟨S4, .f32⟩
  | 81 => ⟨S_, .f32⟩
  | 82 => ⟨S4, .f32⟩
  | 83 => ⟨S4, .f32⟩
  | 84 => ⟨S4, .f32⟩
  | 85 => ⟨S4, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S_, .f32⟩
  | 93 => ⟨S128x128, .f32⟩
  | 94 => ⟨S128x128, .i1⟩
  | 95 => ⟨S_, .f32⟩
  | 96 => ⟨S128x128, .f32⟩
  | 97 => ⟨S128x128, .f32⟩
  | 98 => ⟨S1x128x128, .f32⟩
  | 99 => ⟨S4x1x1, .f32⟩
  | 100 => ⟨S4x128x128, .f32⟩
  | 101 => ⟨S4x128x128, .f32⟩
  | 102 => ⟨S4x128x128, .f32⟩
  | 103 => ⟨S4x128x128, .f32⟩
  | 104 => ⟨S_, .f32⟩
  | 105 => ⟨S_, .f32⟩
  | 106 => ⟨S4x128x128, .i1⟩
  | 107 => ⟨S4x128x128, .f32⟩
  | 108 => ⟨S4x128x128, .f32⟩
  | 109 => ⟨S128x1, .f32⟩
  | 110 => ⟨S_, .f32⟩
  | 111 => ⟨S128x1, .f32⟩
  | 112 => ⟨S128x1, .f32⟩
  | 113 => ⟨S1x4, .f32⟩
  | 114 => ⟨S128x4, .f32⟩
  | 115 => ⟨S128x4, .f32⟩
  | 116 => ⟨S128x4, .f32⟩
  | 117 => ⟨S128x4, .f32⟩
  | 118 => ⟨S1x1x128x4x1, .f32⟩
  | 119 => ⟨S128x1, .f32⟩
  | 120 => ⟨S_, .f32⟩
  | 121 => ⟨S128x1, .f32⟩
  | 122 => ⟨S128x1, .f32⟩
  | 123 => ⟨S1x4, .f32⟩
  | 124 => ⟨S128x4, .f32⟩
  | 125 => ⟨S128x4, .f32⟩
  | 126 => ⟨S128x4, .f32⟩
  | 127 => ⟨S128x4, .f32⟩
  | _ => ⟨S4096x1024, .f32⟩

abbrev hbmTy0_1 (i : Nat) : BufTy := match i % 128 with
  | 0 => ⟨S1x1x128x4x1, .f32⟩
  | 1 => ⟨S_, .f32⟩
  | 2 => ⟨S4, .f32⟩
  | 3 => ⟨S4, .f32⟩
  | 4 => ⟨S4, .f32⟩
  | 5 => ⟨S1x4x1x1, .f32⟩
  | 6 => ⟨S2x16x128x4x256, .f32⟩
  | 7 => ⟨S16x2x128x4x256, .f32⟩
  | 8 => ⟨S2x16x128x4x256, .f32⟩
  | 9 => ⟨S16x2x128x4x256, .f32⟩
  | 10 => ⟨S2x16x128x4x256, .f32⟩
  | 11 => ⟨S16x2x128x4x256, .f32⟩
  | 12 => ⟨S_, .f32⟩
  | 13 => ⟨S2x4x256x256, .f32⟩
  | 14 => ⟨S16x2x128x4x256, .f32⟩
  | 15 => ⟨S16x2x128x4x256, .f32⟩
  | 16 => ⟨S16x2x4x256x256, .f32⟩
  | 17 => ⟨S0x2x4x256x256, .f32⟩
  | 18 => ⟨S16x2x4x256x256, .f32⟩
  | 19 => ⟨S_, .f32⟩
  | 20 => ⟨S0x2x4x256x256, .f32⟩
  | 21 => ⟨S1x2x4x256x256, .f32⟩
  | 22 => ⟨S2x4x256x256, .f32⟩
  | 23 => ⟨S2x4x256x256, .f32⟩
  | 24 => ⟨S2x4x256x256, .f32⟩
  | 25 => ⟨S2x4x256x256, .f32⟩
  | 26 => ⟨S1x2x4x256x256, .f32⟩
  | 27 => ⟨S2x4x256x256, .f32⟩
  | 28 => ⟨S2x4x256x256, .f32⟩
  | 29 => ⟨S2x4x256x256, .f32⟩
  | 30 => ⟨S2x4x256x256, .f32⟩
  | 31 => ⟨S1x2x4x256x256, .f32⟩
  | 32 => ⟨S2x4x256x256, .f32⟩
  | 33 => ⟨S2x4x256x256, .f32⟩
  | 34 => ⟨S2x4x256x256, .f32⟩
  | 35 => ⟨S2x4x256x256, .f32⟩
  | 36 => ⟨S1x2x4x256x256, .f32⟩
  | 37 => ⟨S2x4x256x256, .f32⟩
  | 38 => ⟨S2x4x256x256, .f32⟩
  | 39 => ⟨S2x4x256x256, .f32⟩
  | 40 => ⟨S2x4x256x256, .f32⟩
  | 41 => ⟨S1x2x4x256x256, .f32⟩
  | 42 => ⟨S2x4x256x256, .f32⟩
  | 43 => ⟨S2x4x256x256, .f32⟩
  | 44 => ⟨S2x4x256x256, .f32⟩
  | 45 => ⟨S2x4x256x256, .f32⟩
  | 46 => ⟨S1x2x4x256x256, .f32⟩
  | 47 => ⟨S2x4x256x256, .f32⟩
  | 48 => ⟨S2x4x256x256, .f32⟩
  | 49 => ⟨S2x4x256x256, .f32⟩
  | 50 => ⟨S2x4x256x256, .f32⟩
  | 51 => ⟨S1x2x4x256x256, .f32⟩
  | 52 => ⟨S2x4x256x256, .f32⟩
  | 53 => ⟨S2x4x256x256, .f32⟩
  | 54 => ⟨S2x4x256x256, .f32⟩
  | 55 => ⟨S2x4x256x256, .f32⟩
  | 56 => ⟨S1x2x4x256x256, .f32⟩
  | 57 => ⟨S2x4x256x256, .f32⟩
  | 58 => ⟨S2x4x256x256, .f32⟩
  | 59 => ⟨S2x4x256x256, .f32⟩
  | 60 => ⟨S2x4x256x256, .f32⟩
  | 61 => ⟨S1x2x4x256x256, .f32⟩
  | 62 => ⟨S2x4x256x256, .f32⟩
  | 63 => ⟨S2x4x256x256, .f32⟩
  | 64 => ⟨S2x4x256x256, .f32⟩
  | 65 => ⟨S2x4x256x256, .f32⟩
  | 66 => ⟨S1x2x4x256x256, .f32⟩
  | 67 => ⟨S2x4x256x256, .f32⟩
  | 68 => ⟨S2x4x256x256, .f32⟩
  | 69 => ⟨S2x4x256x256, .f32⟩
  | 70 => ⟨S2x4x256x256, .f32⟩
  | 71 => ⟨S1x2x4x256x256, .f32⟩
  | 72 => ⟨S2x4x256x256, .f32⟩
  | 73 => ⟨S2x4x256x256, .f32⟩
  | 74 => ⟨S2x4x256x256, .f32⟩
  | 75 => ⟨S2x4x256x256, .f32⟩
  | 76 => ⟨S1x2x4x256x256, .f32⟩
  | 77 => ⟨S2x4x256x256, .f32⟩
  | 78 => ⟨S2x4x256x256, .f32⟩
  | 79 => ⟨S2x4x256x256, .f32⟩
  | 80 => ⟨S2x4x256x256, .f32⟩
  | 81 => ⟨S1x2x4x256x256, .f32⟩
  | 82 => ⟨S2x4x256x256, .f32⟩
  | 83 => ⟨S2x4x256x256, .f32⟩
  | 84 => ⟨S2x4x256x256, .f32⟩
  | 85 => ⟨S2x4x256x256, .f32⟩
  | 86 => ⟨S1x2x4x256x256, .f32⟩
  | 87 => ⟨S2x4x256x256, .f32⟩
  | 88 => ⟨S2x4x256x256, .f32⟩
  | 89 => ⟨S2x4x256x256, .f32⟩
  | 90 => ⟨S2x4x256x256, .f32⟩
  | 91 => ⟨S1x2x4x256x256, .f32⟩
  | 92 => ⟨S2x4x256x256, .f32⟩
  | 93 => ⟨S2x4x256x256, .f32⟩
  | 94 => ⟨S2x4x256x256, .f32⟩
  | 95 => ⟨S2x4x256x256, .f32⟩
  | 96 => ⟨S1x2x4x256x256, .f32⟩
  | 97 => ⟨S2x4x256x256, .f32⟩
  | 98 => ⟨S2x4x256x256, .f32⟩
  | 99 => ⟨S2x4x256x256, .f32⟩
  | 100 => ⟨S2x4x256x256, .f32⟩
  | 101 => ⟨S1x2x4x256x256, .f32⟩
  | 102 => ⟨S1x2x4x256x256, .f32⟩
  | 103 => ⟨S1x2x4x256x256, .f32⟩
  | 104 => ⟨S1x2x4x256x256, .f32⟩
  | 105 => ⟨S1x2x4x256x256, .f32⟩
  | 106 => ⟨S1x2x4x256x256, .f32⟩
  | 107 => ⟨S1x2x4x256x256, .f32⟩
  | 108 => ⟨S1x2x4x256x256, .f32⟩
  | 109 => ⟨S1x2x4x256x256, .f32⟩
  | 110 => ⟨S1x2x4x256x256, .f32⟩
  | 111 => ⟨S1x2x4x256x256, .f32⟩
  | 112 => ⟨S1x2x4x256x256, .f32⟩
  | 113 => ⟨S1x2x4x256x256, .f32⟩
  | 114 => ⟨S1x2x4x256x256, .f32⟩
  | 115 => ⟨S1x2x4x256x256, .f32⟩
  | 116 => ⟨S1x2x4x256x256, .f32⟩
  | 117 => ⟨S16x2x4x256x256, .f32⟩
  | 118 => ⟨S16x2x4x256x256, .f32⟩
  | 119 => ⟨S16x2x4x128x128, .f32⟩
  | 120 => ⟨S1x1x4x128x128, .f32⟩
  | 121 => ⟨S16x2x4x128x128, .f32⟩
  | 122 => ⟨S16x2x4x128x128, .f32⟩
  | 123 => ⟨S16x2x4x256x128, .f32⟩
  | 124 => ⟨S16x2x128x4x256, .f32⟩
  | 125 => ⟨S16x2x4x256x128, .f32⟩
  | 126 => ⟨S16x2x128x4x256, .f32⟩
  | 127 => ⟨S16x2x128x4x256, .f32⟩
  | _ => ⟨S4096x1024, .f32⟩

abbrev hbmTy0_2 (i : Nat) : BufTy := match i % 128 with
  | 0 => ⟨S16x2x128x4x256, .f32⟩
  | 1 => ⟨S16x2x128x4x256, .f32⟩
  | 2 => ⟨S2x16x128x4x256, .f32⟩
  | 3 => ⟨S2x2048x4x256, .f32⟩
  | 4 => ⟨S_, .f32⟩
  | 5 => ⟨S2x2048x4, .f32⟩
  | 6 => ⟨S2x2048x4x1, .f32⟩
  | 7 => ⟨S_, .f32⟩
  | 8 => ⟨S2x2048x4x1, .f32⟩
  | 9 => ⟨S2x2048x4x1, .f32⟩
  | 10 => ⟨S2x2048x4x256, .f32⟩
  | 11 => ⟨S2x2048x4x256, .f32⟩
  | 12 => ⟨S2x2048x4x256, .f32⟩
  | 13 => ⟨S_, .f32⟩
  | 14 => ⟨S2x2048x4, .f32⟩
  | 15 => ⟨S2x2048x4x1, .f32⟩
  | 16 => ⟨S_, .f32⟩
  | 17 => ⟨S2x2048x4x1, .f32⟩
  | 18 => ⟨S2x2048x4x1, .f32⟩
  | 19 => ⟨S_, .f32⟩
  | 20 => ⟨S2x2048x4x1, .f32⟩
  | 21 => ⟨S2x2048x4x1, .f32⟩
  | 22 => ⟨S2x2048x4x1, .f32⟩
  | 23 => ⟨S2x2048x4x1, .f32⟩
  | 24 => ⟨S_, .f32⟩
  | 25 => ⟨S2x2048x4x1, .f32⟩
  | 26 => ⟨S2x2048x4x1, .f32⟩
  | 27 => ⟨S2x2048x4x256, .f32⟩
  | 28 => ⟨S2x2048x4x256, .f32⟩
  | 29 => ⟨S1x1x4x256, .f32⟩
  | 30 => ⟨S2x2048x4x256, .f32⟩
  | 31 => ⟨S2x2048x4x256, .f32⟩
  | 32 => ⟨S2x2048x1024, .f32⟩
  | 33 => ⟨S2x2048x1024, .f32⟩
  | 34 => ⟨S_, .f32⟩
  | 35 => ⟨S2x2048x1024, .f32⟩
  | 36 => ⟨S2x2048x1024, .f32⟩
  | 37 => ⟨S_, .f32⟩
  | 38 => ⟨S2x2048x1024, .f32⟩
  | 39 => ⟨S2x2048x1024, .f32⟩
  | 40 => ⟨S_, .f32⟩
  | 41 => ⟨S2x2048x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S2x2048x1024, .f32⟩
  | 47 => ⟨S2x2048x1024, .f32⟩
  | 48 => ⟨S_, .f32⟩
  | 49 => ⟨S2x4x256x256, .f32⟩
  | 50 => ⟨S2x2048x1024, .f32⟩
  | 51 => ⟨S2x2048x1024, .f32⟩
  | 52 => ⟨S2x2048x4x256, .f32⟩
  | 53 => ⟨S2x2048x1024, .f32⟩
  | 54 => ⟨S2x2048x1024, .f32⟩
  | 55 => ⟨S2x2048x1024, .f32⟩
  | 56 => ⟨S2x2048x1024, .f32⟩
  | 57 => ⟨S2x2048x4x256, .f32⟩
  | 58 => ⟨S_, .f32⟩
  | 59 => ⟨S4x256, .f32⟩
  | 60 => ⟨S1x1x4x256, .f32⟩
  | 61 => ⟨S2x2048x4x256, .f32⟩
  | 62 => ⟨S2x2048x4x256, .f32⟩
  | 63 => ⟨S_, .f32⟩
  | 64 => ⟨S4x256, .f32⟩
  | 65 => ⟨S2x2048x4x256, .f32⟩
  | 66 => ⟨S_, .f32⟩
  | 67 => ⟨S2x2048x4, .f32⟩
  | 68 => ⟨S2x2048x4x1, .f32⟩
  | 69 => ⟨S2x2048x4x256, .f32⟩
  | 70 => ⟨S2x2048x4x256, .f32⟩
  | 71 => ⟨S2x2048x4x1, .f32⟩
  | 72 => ⟨S_, .f32⟩
  | 73 => ⟨S2x2048x4x1, .f32⟩
  | 74 => ⟨S2x2048x4x1, .f32⟩
  | 75 => ⟨S_, .f32⟩
  | 76 => ⟨S2x2048x4, .f32⟩
  | 77 => ⟨S2x2048x4x256, .f32⟩
  | 78 => ⟨S2x2048x4x256, .f32⟩
  | 79 => ⟨S2x2048x4x256, .f32⟩
  | 80 => ⟨S2x2048x4x256, .f32⟩
  | 81 => ⟨S2x2048x4x256, .f32⟩
  | 82 => ⟨S2x2048x4x256, .f32⟩
  | 83 => ⟨S_, .f32⟩
  | 84 => ⟨S2x2048x4, .f32⟩
  | 85 => ⟨S2x2048x4x1, .f32⟩
  | 86 => ⟨S_, .f32⟩
  | 87 => ⟨S2x2048x4x1, .f32⟩
  | 88 => ⟨S2x2048x4x1, .f32⟩
  | 89 => ⟨S_, .f32⟩
  | 90 => ⟨S2x2048x4, .f32⟩
  | 91 => ⟨S2x2048x4x256, .f32⟩
  | 92 => ⟨S2x2048x4x256, .f32⟩
  | 93 => ⟨S2x16x128x4x256, .f32⟩
  | 94 => ⟨S16x2x128x4x256, .f32⟩
  | 95 => ⟨S16x2x128x4x256, .f32⟩
  | 96 => ⟨S16x2x128x4x256, .f32⟩
  | 97 => ⟨S16x2x4x256x128, .f32⟩
  | 98 => ⟨S16x2x4x128x256, .f32⟩
  | 99 => ⟨S16x2x128x4x256, .f32⟩
  | 100 => ⟨S16x2x4x256x256, .f32⟩
  | 101 => ⟨S16x2x4x256x256, .f32⟩
  | 102 => ⟨S16x2x4x256x128, .f32⟩
  | 103 => ⟨S16x2x4x128x128, .f32⟩
  | 104 => ⟨S16x2x4x256x128, .f32⟩
  | 105 => ⟨S16x2x128x4x256, .f32⟩
  | 106 => ⟨S16x2x4x128x128, .f32⟩
  | 107 => ⟨S16x2x4x128x128, .f32⟩
  | 108 => ⟨S16x2x4x128x256, .f32⟩
  | 109 => ⟨S16x2x128x4x256, .f32⟩
  | 110 => ⟨S16x2x4x128x256, .f32⟩
  | 111 => ⟨S16x2x128x4x256, .f32⟩
  | 112 => ⟨S16x2x128x4x256, .f32⟩
  | 113 => ⟨S_, .f32⟩
  | 114 => ⟨S2x4x256x256, .f32⟩
  | 115 => ⟨S16x2x4x256x256, .f32⟩
  | 116 => ⟨S0x2x4x256x256, .f32⟩
  | 117 => ⟨S_, .f32⟩
  | 118 => ⟨S0x2x4x256x256, .f32⟩
  | 119 => ⟨S1x2x4x256x256, .f32⟩
  | 120 => ⟨S2x4x256x256, .f32⟩
  | 121 => ⟨S2x4x256x256, .f32⟩
  | 122 => ⟨S2x4x256x256, .f32⟩
  | 123 => ⟨S2x4x256x256, .f32⟩
  | 124 => ⟨S1x2x4x256x256, .f32⟩
  | 125 => ⟨S2x4x256x256, .f32⟩
  | 126 => ⟨S2x4x256x256, .f32⟩
  | 127 => ⟨S2x4x256x256, .f32⟩
  | _ => ⟨S4096x1024, .f32⟩

abbrev hbmTy0_3 (i : Nat) : BufTy := match i % 128 with
  | 0 => ⟨S2x4x256x256, .f32⟩
  | 1 => ⟨S1x2x4x256x256, .f32⟩
  | 2 => ⟨S2x4x256x256, .f32⟩
  | 3 => ⟨S2x4x256x256, .f32⟩
  | 4 => ⟨S2x4x256x256, .f32⟩
  | 5 => ⟨S2x4x256x256, .f32⟩
  | 6 => ⟨S1x2x4x256x256, .f32⟩
  | 7 => ⟨S2x4x256x256, .f32⟩
  | 8 => ⟨S2x4x256x256, .f32⟩
  | 9 => ⟨S2x4x256x256, .f32⟩
  | 10 => ⟨S2x4x256x256, .f32⟩
  | 11 => ⟨S1x2x4x256x256, .f32⟩
  | 12 => ⟨S2x4x256x256, .f32⟩
  | 13 => ⟨S2x4x256x256, .f32⟩
  | 14 => ⟨S2x4x256x256, .f32⟩
  | 15 => ⟨S2x4x256x256, .f32⟩
  | 16 => ⟨S1x2x4x256x256, .f32⟩
  | 17 => ⟨S2x4x256x256, .f32⟩
  | 18 => ⟨S2x4x256x256, .f32⟩
  | 19 => ⟨S2x4x256x256, .f32⟩
  | 20 => ⟨S2x4x256x256, .f32⟩
  | 21 => ⟨S1x2x4x256x256, .f32⟩
  | 22 => ⟨S2x4x256x256, .f32⟩
  | 23 => ⟨S2x4x256x256, .f32⟩
  | 24 => ⟨S2x4x256x256, .f32⟩
  | 25 => ⟨S2x4x256x256, .f32⟩
  | 26 => ⟨S1x2x4x256x256, .f32⟩
  | 27 => ⟨S2x4x256x256, .f32⟩
  | 28 => ⟨S2x4x256x256, .f32⟩
  | 29 => ⟨S2x4x256x256, .f32⟩
  | 30 => ⟨S2x4x256x256, .f32⟩
  | 31 => ⟨S1x2x4x256x256, .f32⟩
  | 32 => ⟨S2x4x256x256, .f32⟩
  | 33 => ⟨S2x4x256x256, .f32⟩
  | 34 => ⟨S2x4x256x256, .f32⟩
  | 35 => ⟨S2x4x256x256, .f32⟩
  | 36 => ⟨S1x2x4x256x256, .f32⟩
  | 37 => ⟨S2x4x256x256, .f32⟩
  | 38 => ⟨S2x4x256x256, .f32⟩
  | 39 => ⟨S2x4x256x256, .f32⟩
  | 40 => ⟨S2x4x256x256, .f32⟩
  | 41 => ⟨S1x2x4x256x256, .f32⟩
  | 42 => ⟨S2x4x256x256, .f32⟩
  | 43 => ⟨S2x4x256x256, .f32⟩
  | 44 => ⟨S2x4x256x256, .f32⟩
  | 45 => ⟨S2x4x256x256, .f32⟩
  | 46 => ⟨S1x2x4x256x256, .f32⟩
  | 47 => ⟨S2x4x256x256, .f32⟩
  | 48 => ⟨S2x4x256x256, .f32⟩
  | 49 => ⟨S2x4x256x256, .f32⟩
  | 50 => ⟨S2x4x256x256, .f32⟩
  | 51 => ⟨S1x2x4x256x256, .f32⟩
  | 52 => ⟨S2x4x256x256, .f32⟩
  | 53 => ⟨S2x4x256x256, .f32⟩
  | 54 => ⟨S2x4x256x256, .f32⟩
  | 55 => ⟨S2x4x256x256, .f32⟩
  | 56 => ⟨S1x2x4x256x256, .f32⟩
  | 57 => ⟨S2x4x256x256, .f32⟩
  | 58 => ⟨S2x4x256x256, .f32⟩
  | 59 => ⟨S2x4x256x256, .f32⟩
  | 60 => ⟨S2x4x256x256, .f32⟩
  | 61 => ⟨S1x2x4x256x256, .f32⟩
  | 62 => ⟨S2x4x256x256, .f32⟩
  | 63 => ⟨S2x4x256x256, .f32⟩
  | 64 => ⟨S2x4x256x256, .f32⟩
  | 65 => ⟨S2x4x256x256, .f32⟩
  | 66 => ⟨S1x2x4x256x256, .f32⟩
  | 67 => ⟨S2x4x256x256, .f32⟩
  | 68 => ⟨S2x4x256x256, .f32⟩
  | 69 => ⟨S2x4x256x256, .f32⟩
  | 70 => ⟨S2x4x256x256, .f32⟩
  | 71 => ⟨S1x2x4x256x256, .f32⟩
  | 72 => ⟨S1x2x4x256x256, .f32⟩
  | 73 => ⟨S1x2x4x256x256, .f32⟩
  | 74 => ⟨S1x2x4x256x256, .f32⟩
  | 75 => ⟨S1x2x4x256x256, .f32⟩
  | 76 => ⟨S1x2x4x256x256, .f32⟩
  | 77 => ⟨S1x2x4x256x256, .f32⟩
  | 78 => ⟨S1x2x4x256x256, .f32⟩
  | 79 => ⟨S1x2x4x256x256, .f32⟩
  | 80 => ⟨S1x2x4x256x256, .f32⟩
  | 81 => ⟨S1x2x4x256x256, .f32⟩
  | 82 => ⟨S1x2x4x256x256, .f32⟩
  | 83 => ⟨S1x2x4x256x256, .f32⟩
  | 84 => ⟨S1x2x4x256x256, .f32⟩
  | 85 => ⟨S1x2x4x256x256, .f32⟩
  | 86 => ⟨S1x2x4x256x256, .f32⟩
  | 87 => ⟨S16x2x4x256x256, .f32⟩
  | 88 => ⟨S16x2x4x256x256, .f32⟩
  | 89 => ⟨S16x2x4x256x128, .f32⟩
  | 90 => ⟨S16x2x128x4x256, .f32⟩
  | 91 => ⟨S16x2x4x256x128, .f32⟩
  | 92 => ⟨S16x2x128x4x256, .f32⟩
  | 93 => ⟨S16x2x128x4x256, .f32⟩
  | 94 => ⟨S16x2x128x4x256, .f32⟩
  | 95 => ⟨S16x2x128x4x256, .f32⟩
  | 96 => ⟨S16x2x128x4x256, .f32⟩
  | 97 => ⟨S2x16x128x4x256, .f32⟩
  | 98 => ⟨S2x2048x4x256, .f32⟩
  | 99 => ⟨S2x16x128x4x256, .f32⟩
  | 100 => ⟨S2x2048x4x256, .f32⟩
  | 101 => ⟨S2x16x128x4x256, .f32⟩
  | 102 => ⟨S2x2048x4x256, .f32⟩
  | 103 => ⟨S2x2048x1024, .f32⟩
  | 104 => ⟨S_, .f32⟩
  | 105 => ⟨S2x2048x4x256, .f32⟩
  | 106 => ⟨S2x2048x4x256, .f32⟩
  | 107 => ⟨S2x2048x4x128, .f32⟩
  | 108 => ⟨S2x2048x4x128, .f32⟩
  | 109 => ⟨S2x2048x4x128, .f32⟩
  | 110 => ⟨S2x2048x4x128, .f32⟩
  | 111 => ⟨S2x2048x4x128, .f32⟩
  | 112 => ⟨S2x2048x4x128, .f32⟩
  | 113 => ⟨S2x2048x4x128, .f32⟩
  | 114 => ⟨S2x2048x4x128, .f32⟩
  | 115 => ⟨S2x2048x4x128, .f32⟩
  | 116 => ⟨S2x2048x4x128, .f32⟩
  | 117 => ⟨S2x2048x4x128, .f32⟩
  | 118 => ⟨S2x2048x4x128, .f32⟩
  | 119 => ⟨S2x2048x4x128, .f32⟩
  | 120 => ⟨S_, .f32⟩
  | 121 => ⟨S2x2048x4x256, .f32⟩
  | 122 => ⟨S_, .f32⟩
  | 123 => ⟨S2x2048x4x256, .f32⟩
  | 124 => ⟨S2x2048x4x256, .f32⟩
  | 125 => ⟨S2x2048x1024, .f32⟩
  | 126 => ⟨S2x2048x4x128, .f32⟩
  | 127 => ⟨S2x2048x4x128, .f32⟩
  | _ => ⟨S4096x1024, .f32⟩

abbrev hbmTy0_4 (i : Nat) : BufTy := match i % 128 with
  | 0 => ⟨S2x2048x4x128, .f32⟩
  | 1 => ⟨S2x2048x4x128, .f32⟩
  | 2 => ⟨S2x2048x4x128, .f32⟩
  | 3 => ⟨S2x2048x4x128, .f32⟩
  | 4 => ⟨S2x2048x4x128, .f32⟩
  | 5 => ⟨S2x2048x4x128, .f32⟩
  | 6 => ⟨S2x2048x4x128, .f32⟩
  | 7 => ⟨S2x2048x4x128, .f32⟩
  | 8 => ⟨S2x2048x4x128, .f32⟩
  | 9 => ⟨S2x2048x4x128, .f32⟩
  | 10 => ⟨S2x2048x4x128, .f32⟩
  | 11 => ⟨S_, .f32⟩
  | 12 => ⟨S2x2048x4x256, .f32⟩
  | 13 => ⟨S_, .f32⟩
  | 14 => ⟨S2x2048x4x256, .f32⟩
  | 15 => ⟨S2x2048x4x256, .f32⟩
  | 16 => ⟨S2x2048x1024, .f32⟩
  | 17 => ⟨S2x2048x4096, .f32⟩
  | 18 => ⟨S2x2048x4096, .bf16⟩
  | 19 => ⟨S4x1x256, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_3 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_4 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_6 : Ref sig .tc := ⟨.hbm, 92, rfl⟩
abbrev main_v82 : Ref sig .tc := ⟨.hbm, 93, rfl⟩
abbrev main_v83 : Ref sig .tc := ⟨.hbm, 94, rfl⟩
abbrev main_cst_7 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v92 : Ref sig .tc := ⟨.hbm, 108, rfl⟩
abbrev main_v93 : Ref sig .tc := ⟨.hbm, 109, rfl⟩
abbrev main_cst_9 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_10 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_11 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_12 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_13 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_cst_14 : Ref sig .tc := ⟨.hbm, 260, rfl⟩
abbrev main_v239 : Ref sig .tc := ⟨.hbm, 261, rfl⟩
abbrev main_v240 : Ref sig .tc := ⟨.hbm, 262, rfl⟩
abbrev main_cst_15 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_cst_16 : Ref sig .tc := ⟨.hbm, 269, rfl⟩
abbrev main_v246 : Ref sig .tc := ⟨.hbm, 270, rfl⟩
abbrev main_v247 : Ref sig .tc := ⟨.hbm, 271, rfl⟩
abbrev main_cst_17 : Ref sig .tc := ⟨.hbm, 272, rfl⟩
abbrev main_v248 : Ref sig .tc := ⟨.hbm, 273, rfl⟩
abbrev main_v249 : Ref sig .tc := ⟨.hbm, 274, rfl⟩
abbrev main_cst_18 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_cst_19 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_call1_v0 : Ref sig .tc := ⟨.hbm, 288, rfl⟩
abbrev main_call1_v1 : Ref sig .tc := ⟨.hbm, 289, rfl⟩
abbrev main_call1_cst : Ref sig .tc := ⟨.hbm, 290, rfl⟩
abbrev main_call1_v2 : Ref sig .tc := ⟨.hbm, 291, rfl⟩
abbrev main_call1_v3 : Ref sig .tc := ⟨.hbm, 292, rfl⟩
abbrev main_call1_cst_0 : Ref sig .tc := ⟨.hbm, 293, rfl⟩
abbrev main_call1_v4 : Ref sig .tc := ⟨.hbm, 294, rfl⟩
abbrev main_v261_2 : Ref sig .tc := ⟨.hbm, 295, rfl⟩
abbrev main_call1_cst_1 : Ref sig .tc := ⟨.hbm, 296, rfl⟩
abbrev main_call1_v6 : Ref sig .tc := ⟨.hbm, 297, rfl⟩
abbrev main_call1_v7 : Ref sig .tc := ⟨.hbm, 298, rfl⟩
abbrev main_v261_1 : Ref sig .tc := ⟨.hbm, 299, rfl⟩
abbrev main_v261_0 : Ref sig .tc := ⟨.hbm, 300, rfl⟩
abbrev main_v262 : Ref sig .tc := ⟨.hbm, 301, rfl⟩
abbrev main_v263 : Ref sig .tc := ⟨.hbm, 302, rfl⟩
abbrev main_v264 : Ref sig .tc := ⟨.hbm, 303, rfl⟩
abbrev main_cst_20 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_call2_v0 : Ref sig .tc := ⟨.hbm, 309, rfl⟩
abbrev main_call2_v1 : Ref sig .tc := ⟨.hbm, 310, rfl⟩
abbrev main_call2_v2 : Ref sig .tc := ⟨.hbm, 311, rfl⟩
abbrev main_v269 : Ref sig .tc := ⟨.hbm, 312, rfl⟩
abbrev main_v270 : Ref sig .tc := ⟨.hbm, 313, rfl⟩
abbrev main_cst_21 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_cst_22 : Ref sig .tc := ⟨.hbm, 319, rfl⟩
abbrev main_v275 : Ref sig .tc := ⟨.hbm, 320, rfl⟩
abbrev main_v276 : Ref sig .tc := ⟨.hbm, 321, rfl⟩
abbrev main_cst_23 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_cst_24 : Ref sig .tc := ⟨.hbm, 328, rfl⟩
abbrev main_v282 : Ref sig .tc := ⟨.hbm, 329, rfl⟩
abbrev main_v283 : Ref sig .tc := ⟨.hbm, 330, rfl⟩
abbrev main_cst_25 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_cst_26 : Ref sig .tc := ⟨.hbm, 339, rfl⟩
abbrev main_v291 : Ref sig .tc := ⟨.hbm, 340, rfl⟩
abbrev main_v292 : Ref sig .tc := ⟨.hbm, 341, rfl⟩
abbrev main_cst_27 : Ref sig .tc := ⟨.hbm, 342, rfl⟩
abbrev main_v293 : Ref sig .tc := ⟨.hbm, 343, rfl⟩
abbrev main_v294 : Ref sig .tc := ⟨.hbm, 344, rfl⟩
abbrev main_cst_28 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_v304 : Ref sig .tc := ⟨.hbm, 355, rfl⟩
abbrev main_v305 : Ref sig .tc := ⟨.hbm, 356, rfl⟩
abbrev main_v306 : Ref sig .tc := ⟨.hbm, 357, rfl⟩
abbrev main_v307 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_v313 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_cst_29 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_cst_30 : Ref sig .tc := ⟨.hbm, 373, rfl⟩
abbrev main_v321 : Ref sig .tc := ⟨.hbm, 374, rfl⟩
abbrev main_v322 : Ref sig .tc := ⟨.hbm, 375, rfl⟩
abbrev main_v323 : Ref sig .tc := ⟨.hbm, 376, rfl⟩
abbrev main_v324 : Ref sig .tc := ⟨.hbm, 377, rfl⟩
abbrev main_v325 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev main_v329 : Ref sig .tc := ⟨.hbm, 382, rfl⟩
abbrev main_v330 : Ref sig .tc := ⟨.hbm, 383, rfl⟩
abbrev main_v331 : Ref sig .tc := ⟨.hbm, 384, rfl⟩
abbrev main_v332 : Ref sig .tc := ⟨.hbm, 385, rfl⟩
abbrev main_v333 : Ref sig .tc := ⟨.hbm, 386, rfl⟩
abbrev main_v334 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev main_v339 : Ref sig .tc := ⟨.hbm, 392, rfl⟩
abbrev main_v340 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_v344 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_v362 : Ref sig .tc := ⟨.hbm, 415, rfl⟩
abbrev main_v363 : Ref sig .tc := ⟨.hbm, 416, rfl⟩
abbrev main_v364 : Ref sig .tc := ⟨.hbm, 417, rfl⟩
abbrev main_v365 : Ref sig .tc := ⟨.hbm, 418, rfl⟩
abbrev main_v366 : Ref sig .tc := ⟨.hbm, 419, rfl⟩
abbrev main_v367 : Ref sig .tc := ⟨.hbm, 420, rfl⟩
abbrev main_v368 : Ref sig .tc := ⟨.hbm, 421, rfl⟩
abbrev main_v369 : Ref sig .tc := ⟨.hbm, 422, rfl⟩
abbrev main_v370 : Ref sig .tc := ⟨.hbm, 423, rfl⟩
abbrev main_v371 : Ref sig .tc := ⟨.hbm, 424, rfl⟩
abbrev main_v372 : Ref sig .tc := ⟨.hbm, 425, rfl⟩
abbrev main_v373 : Ref sig .tc := ⟨.hbm, 426, rfl⟩
abbrev main_v374 : Ref sig .tc := ⟨.hbm, 427, rfl⟩
abbrev main_v375 : Ref sig .tc := ⟨.hbm, 428, rfl⟩
abbrev main_v376 : Ref sig .tc := ⟨.hbm, 429, rfl⟩
abbrev main_v377 : Ref sig .tc := ⟨.hbm, 430, rfl⟩
abbrev main_v378 : Ref sig .tc := ⟨.hbm, 431, rfl⟩
abbrev main_v379 : Ref sig .tc := ⟨.hbm, 432, rfl⟩
abbrev main_v380 : Ref sig .tc := ⟨.hbm, 433, rfl⟩
abbrev main_v381 : Ref sig .tc := ⟨.hbm, 434, rfl⟩
abbrev main_v382 : Ref sig .tc := ⟨.hbm, 435, rfl⟩
abbrev main_v383 : Ref sig .tc := ⟨.hbm, 436, rfl⟩
abbrev main_v384 : Ref sig .tc := ⟨.hbm, 437, rfl⟩
abbrev main_v385 : Ref sig .tc := ⟨.hbm, 438, rfl⟩
abbrev main_v386 : Ref sig .tc := ⟨.hbm, 439, rfl⟩
abbrev main_v387 : Ref sig .tc := ⟨.hbm, 440, rfl⟩
abbrev main_v388 : Ref sig .tc := ⟨.hbm, 441, rfl⟩
abbrev main_v389 : Ref sig .tc := ⟨.hbm, 442, rfl⟩
abbrev main_v390 : Ref sig .tc := ⟨.hbm, 443, rfl⟩
abbrev main_v391 : Ref sig .tc := ⟨.hbm, 444, rfl⟩
abbrev main_v392 : Ref sig .tc := ⟨.hbm, 445, rfl⟩
abbrev main_v393 : Ref sig .tc := ⟨.hbm, 446, rfl⟩
abbrev main_v394 : Ref sig .tc := ⟨.hbm, 447, rfl⟩
abbrev main_v395 : Ref sig .tc := ⟨.hbm, 448, rfl⟩
abbrev main_v396 : Ref sig .tc := ⟨.hbm, 449, rfl⟩
abbrev main_v397 : Ref sig .tc := ⟨.hbm, 450, rfl⟩
abbrev main_v398 : Ref sig .tc := ⟨.hbm, 451, rfl⟩
abbrev main_v399 : Ref sig .tc := ⟨.hbm, 452, rfl⟩
abbrev main_v400 : Ref sig .tc := ⟨.hbm, 453, rfl⟩
abbrev main_v401 : Ref sig .tc := ⟨.hbm, 454, rfl⟩
abbrev main_v402 : Ref sig .tc := ⟨.hbm, 455, rfl⟩
abbrev main_v403 : Ref sig .tc := ⟨.hbm, 456, rfl⟩
abbrev main_v404 : Ref sig .tc := ⟨.hbm, 457, rfl⟩
abbrev main_v405 : Ref sig .tc := ⟨.hbm, 458, rfl⟩
abbrev main_v406 : Ref sig .tc := ⟨.hbm, 459, rfl⟩
abbrev main_v407 : Ref sig .tc := ⟨.hbm, 460, rfl⟩
abbrev main_v408 : Ref sig .tc := ⟨.hbm, 461, rfl⟩
abbrev main_v409 : Ref sig .tc := ⟨.hbm, 462, rfl⟩
abbrev main_v410 : Ref sig .tc := ⟨.hbm, 463, rfl⟩
abbrev main_v411 : Ref sig .tc := ⟨.hbm, 464, rfl⟩
abbrev main_v412 : Ref sig .tc := ⟨.hbm, 465, rfl⟩
abbrev main_v413 : Ref sig .tc := ⟨.hbm, 466, rfl⟩
abbrev main_v414 : Ref sig .tc := ⟨.hbm, 467, rfl⟩
abbrev main_v415 : Ref sig .tc := ⟨.hbm, 468, rfl⟩
abbrev main_v416 : Ref sig .tc := ⟨.hbm, 469, rfl⟩
abbrev main_v417 : Ref sig .tc := ⟨.hbm, 470, rfl⟩
abbrev main_v418 : Ref sig .tc := ⟨.hbm, 471, rfl⟩
abbrev main_v419 : Ref sig .tc := ⟨.hbm, 472, rfl⟩
abbrev main_v420 : Ref sig .tc := ⟨.hbm, 473, rfl⟩
abbrev main_v421 : Ref sig .tc := ⟨.hbm, 474, rfl⟩
abbrev main_v422 : Ref sig .tc := ⟨.hbm, 475, rfl⟩
abbrev main_v423 : Ref sig .tc := ⟨.hbm, 476, rfl⟩
abbrev main_v424 : Ref sig .tc := ⟨.hbm, 477, rfl⟩
abbrev main_v425 : Ref sig .tc := ⟨.hbm, 478, rfl⟩
abbrev main_v426 : Ref sig .tc := ⟨.hbm, 479, rfl⟩
abbrev main_v427 : Ref sig .tc := ⟨.hbm, 480, rfl⟩
abbrev main_v428 : Ref sig .tc := ⟨.hbm, 481, rfl⟩
abbrev main_v429 : Ref sig .tc := ⟨.hbm, 482, rfl⟩
abbrev main_v430 : Ref sig .tc := ⟨.hbm, 483, rfl⟩
abbrev main_v431 : Ref sig .tc := ⟨.hbm, 484, rfl⟩
abbrev main_v432 : Ref sig .tc := ⟨.hbm, 485, rfl⟩
abbrev main_v433 : Ref sig .tc := ⟨.hbm, 486, rfl⟩
abbrev main_v434 : Ref sig .tc := ⟨.hbm, 487, rfl⟩
abbrev main_cst_31 : Ref sig .tc := ⟨.hbm, 488, rfl⟩
abbrev main_v435 : Ref sig .tc := ⟨.hbm, 489, rfl⟩
abbrev main_v436 : Ref sig .tc := ⟨.hbm, 490, rfl⟩
abbrev main_v437 : Ref sig .tc := ⟨.hbm, 491, rfl⟩
abbrev main_v438 : Ref sig .tc := ⟨.hbm, 492, rfl⟩
abbrev main_v439 : Ref sig .tc := ⟨.hbm, 493, rfl⟩
abbrev main_v440 : Ref sig .tc := ⟨.hbm, 494, rfl⟩
abbrev main_v441 : Ref sig .tc := ⟨.hbm, 495, rfl⟩
abbrev main_v442 : Ref sig .tc := ⟨.hbm, 496, rfl⟩
abbrev main_v443 : Ref sig .tc := ⟨.hbm, 497, rfl⟩
abbrev main_v444 : Ref sig .tc := ⟨.hbm, 498, rfl⟩
abbrev main_v445 : Ref sig .tc := ⟨.hbm, 499, rfl⟩
abbrev main_v446 : Ref sig .tc := ⟨.hbm, 500, rfl⟩
abbrev main_v447 : Ref sig .tc := ⟨.hbm, 501, rfl⟩
abbrev main_v448 : Ref sig .tc := ⟨.hbm, 502, rfl⟩
abbrev main_v449 : Ref sig .tc := ⟨.hbm, 503, rfl⟩
abbrev main_cst_32 : Ref sig .tc := ⟨.hbm, 504, rfl⟩
abbrev main_v450 : Ref sig .tc := ⟨.hbm, 505, rfl⟩
abbrev main_cst_33 : Ref sig .tc := ⟨.hbm, 506, rfl⟩
abbrev main_v451 : Ref sig .tc := ⟨.hbm, 507, rfl⟩
abbrev main_v452 : Ref sig .tc := ⟨.hbm, 508, rfl⟩
abbrev main_v453 : Ref sig .tc := ⟨.hbm, 509, rfl⟩
abbrev main_v454 : Ref sig .tc := ⟨.hbm, 510, rfl⟩
abbrev main_v455 : Ref sig .tc := ⟨.hbm, 511, rfl⟩
abbrev main_v456 : Ref sig .tc := ⟨.hbm, 512, rfl⟩
abbrev main_v457 : Ref sig .tc := ⟨.hbm, 513, rfl⟩
abbrev main_v458 : Ref sig .tc := ⟨.hbm, 514, rfl⟩
abbrev main_v459 : Ref sig .tc := ⟨.hbm, 515, rfl⟩
abbrev main_v460 : Ref sig .tc := ⟨.hbm, 516, rfl⟩
abbrev main_v461 : Ref sig .tc := ⟨.hbm, 517, rfl⟩
abbrev main_v462 : Ref sig .tc := ⟨.hbm, 518, rfl⟩
abbrev main_v463 : Ref sig .tc := ⟨.hbm, 519, rfl⟩
abbrev main_v464 : Ref sig .tc := ⟨.hbm, 520, rfl⟩
abbrev main_v465 : Ref sig .tc := ⟨.hbm, 521, rfl⟩
abbrev main_v466 : Ref sig .tc := ⟨.hbm, 522, rfl⟩
abbrev main_cst_34 : Ref sig .tc := ⟨.hbm, 523, rfl⟩
abbrev main_v467 : Ref sig .tc := ⟨.hbm, 524, rfl⟩
abbrev main_cst_35 : Ref sig .tc := ⟨.hbm, 525, rfl⟩
abbrev main_v468 : Ref sig .tc := ⟨.hbm, 526, rfl⟩
abbrev main_v469 : Ref sig .tc := ⟨.hbm, 527, rfl⟩
abbrev main_v470 : Ref sig .tc := ⟨.hbm, 528, rfl⟩
abbrev main_v471 : Ref sig .tc := ⟨.hbm, 529, rfl⟩
abbrev main_v472 : Ref sig .tc := ⟨.hbm, 530, rfl⟩
abbrev main_v473 : Ref sig .tc := ⟨.hbm, 531, rfl⟩

abbrev nD : Nat := 1
abbrev τ : Topo := Topo.v7x

variable {F : FTy → Type} [FloatOps F]
-- ==== KernelM.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1x2x512x2048 : Shape := ⟨4, ![1, 2, 512, 2048]⟩
abbrev S4096x512 : Shape := ⟨2, ![4096, 512]⟩
abbrev S1x2x512x512 : Shape := ⟨4, ![1, 2, 512, 512]⟩
abbrev S4 : Shape := ⟨1, ![4]⟩
abbrev S1 : Shape := ⟨1, ![1]⟩
abbrev S1024x1024 : Shape := ⟨2, ![1024, 1024]⟩
abbrev S1024x512 : Shape := ⟨2, ![1024, 512]⟩
abbrev S512x512 : Shape := ⟨2, ![512, 512]⟩
abbrev S1x1x512x512 : Shape := ⟨4, ![1, 1, 512, 512]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x4096, .f32⟩
  | .hbm, ⟨19, _⟩ => ⟨S1024x4096, .bf16⟩
  | .hbm, ⟨20, _⟩ => ⟨S4096x2048, .bf16⟩
  | .hbm, ⟨21, _⟩ => ⟨S1x2x512x2048, .f32⟩
  | .local _ .vmem, ⟨0, _⟩ => ⟨S4096x512, .bf16⟩
  | .local _ .vmem, ⟨1, _⟩ => ⟨S4096x512, .bf16⟩
  | .local _ .vmem, ⟨2, _⟩ => ⟨S1x2x512x512, .f32⟩
  | .local _ .vmem, ⟨3, _⟩ => ⟨S1x2x512x512, .f32⟩
  | .local _ .vmem, ⟨4, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c4_i32 : BitVec 32 := 4#32
  let v4 : BitVec 1 := Scalar.cmpi .slt arg0 c4_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceMIdeal.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S1024x2048 : Shape := ⟨2, ![1024, 2048]⟩
abbrev S4096 : Shape := ⟨1, ![4096]⟩
abbrev S4096x1 : Shape := ⟨2, ![4096, 1]⟩
abbrev S2048x1024 : Shape := ⟨2, ![2048, 1024]⟩
abbrev S2x512x1x2048 : Shape := ⟨4, ![2, 512, 1, 2048]⟩
abbrev S1x2x512x2048 : Shape := ⟨4, ![1, 2, 512, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .f32⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2048, .f32⟩
  | .hbm, ⟨21, _⟩ => ⟨S2048x1024, .f32⟩
  | .hbm, ⟨22, _⟩ => ⟨S1024x2048, .f32⟩
  | .hbm, ⟨23, _⟩ => ⟨S2x512x1x2048, .f32⟩
  | .hbm, ⟨24, _⟩ => ⟨S1x2x512x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelR.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S2x2x512x2048 : Shape := ⟨4, ![2, 2, 512, 2048]⟩
abbrev S4096x512 : Shape := ⟨2, ![4096, 512]⟩
abbrev S1x2x512x512 : Shape := ⟨4, ![1, 2, 512, 512]⟩
abbrev S4 : Shape := ⟨1, ![4]⟩
abbrev S1 : Shape := ⟨1, ![1]⟩
abbrev S1024x1024 : Shape := ⟨2, ![1024, 1024]⟩
abbrev S1024x512 : Shape := ⟨2, ![1024, 512]⟩
abbrev S512x512 : Shape := ⟨2, ![512, 512]⟩
abbrev S1x1x512x512 : Shape := ⟨4, ![1, 1, 512, 512]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x4096, .f32⟩
  | .hbm, ⟨19, _⟩ => ⟨S1024x4096, .bf16⟩
  | .hbm, ⟨20, _⟩ => ⟨S4096x4096, .bf16⟩
  | .hbm, ⟨21, _⟩ => ⟨S2x2x512x2048, .f32⟩
  | .local _ .vmem, ⟨0, _⟩ => ⟨S4096x512, .bf16⟩
  | .local _ .vmem, ⟨1, _⟩ => ⟨S4096x512, .bf16⟩
  | .local _ .vmem, ⟨2, _⟩ => ⟨S1x2x512x512, .f32⟩
  | .local _ .vmem, ⟨3, _⟩ => ⟨S1x2x512x512, .f32⟩
  | .local _ .vmem, ⟨4, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c8_i32 : BitVec 32 := 8#32
  let v4 : BitVec 1 := Scalar.cmpi .slt arg0 c8_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceRIdeal.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S1024x4096 : Shape := ⟨2, ![1024, 4096]⟩
abbrev S4096 : Shape := ⟨1, ![4096]⟩
abbrev S4096x1 : Shape := ⟨2, ![4096, 1]⟩
abbrev S2x512x2x2048 : Shape := ⟨4, ![2, 512, 2, 2048]⟩
abbrev S2x2x512x2048 : Shape := ⟨4, ![2, 2, 512, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .f32⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x1024, .f32⟩
  | .hbm, ⟨22, _⟩ => ⟨S1024x4096, .f32⟩
  | .hbm, ⟨23, _⟩ => ⟨S2x512x2x2048, .f32⟩
  | .hbm, ⟨24, _⟩ => ⟨S2x2x512x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelA.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1x2x512x2048 : Shape := ⟨4, ![1, 2, 512, 2048]⟩
abbrev S4096x512 : Shape := ⟨2, ![4096, 512]⟩
abbrev S1x2x512x512 : Shape := ⟨4, ![1, 2, 512, 512]⟩
abbrev S4 : Shape := ⟨1, ![4]⟩
abbrev S1 : Shape := ⟨1, ![1]⟩
abbrev S1024x1024 : Shape := ⟨2, ![1024, 1024]⟩
abbrev S1024x512 : Shape := ⟨2, ![1024, 512]⟩
abbrev S512x512 : Shape := ⟨2, ![512, 512]⟩
abbrev S1x1x512x512 : Shape := ⟨4, ![1, 1, 512, 512]⟩

abbrev nBuf : Space → Nat
  | .hbm => 24
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S1024x4096, .bf16⟩
  | .hbm, ⟨21, _⟩ => ⟨S4096x1024, .bf16⟩
  | .hbm, ⟨22, _⟩ => ⟨S4096x1024, .bf16⟩
  | .hbm, ⟨23, _⟩ => ⟨S1x2x512x2048, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x2x512x512, .f32⟩
  | .local _ .vmem, ⟨5, _⟩ => ⟨S1x2x512x512, .f32⟩
  | .local _ .vmem, ⟨6, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c2_i32 : BitVec 32 := 2#32
  let v4 : BitVec 1 := Scalar.cmpi .slt arg0 c2_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c2_i32_2 : BitVec 32 := 2#32
  let v8 : BitVec 1 := Scalar.cmpi .sge arg0 c2_i32_2
  let c4_i32 : BitVec 32 := 4#32
  let v9 : BitVec 1 := Scalar.cmpi .slt arg0 c4_i32
  let v10 : BitVec 1 := Scalar.andi v8 v9
  let v11 : BitVec 32 := Scalar.extui v10
  let c0_i32_3 : BitVec 32 := 0#32
  let v12 : BitVec 1 := Scalar.cmpi .ne v11 c0_i32_3
  v12

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceAIdeal.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S1024x2048 : Shape := ⟨2, ![1024, 2048]⟩
abbrev S4096 : Shape := ⟨1, ![4096]⟩
abbrev S4096x1 : Shape := ⟨2, ![4096, 1]⟩
abbrev S2048x1024 : Shape := ⟨2, ![2048, 1024]⟩
abbrev S2x512x1x2048 : Shape := ⟨4, ![2, 512, 1, 2048]⟩
abbrev S1x2x512x2048 : Shape := ⟨4, ![1, 2, 512, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S_, .f32⟩
  | .hbm, ⟨6, _⟩ => ⟨S1024x2048, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2048, .f32⟩
  | .hbm, ⟨23, _⟩ => ⟨S2048x1024, .f32⟩
  | .hbm, ⟨24, _⟩ => ⟨S1024x2048, .f32⟩
  | .hbm, ⟨25, _⟩ => ⟨S2x512x1x2048, .f32⟩
  | .hbm, ⟨26, _⟩ => ⟨S1x2x512x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelX.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S1024x4x2048 : Shape := ⟨3, ![1024, 4, 2048]⟩
abbrev S4x1024x2048 : Shape := ⟨3, ![4, 1024, 2048]⟩
abbrev S4096x4096 : Shape := ⟨2, ![4096, 4096]⟩
abbrev S4096x2048 : Shape := ⟨2, ![4096, 2048]⟩
abbrev S_ : Shape := ⟨0, ![]⟩
abbrev S512x1024 : Shape := ⟨2, ![512, 1024]⟩
abbrev S512x4096 : Shape := ⟨2, ![512, 4096]⟩
abbrev S512x2048 : Shape := ⟨2, ![512, 2048]⟩
abbrev S8 : Shape := ⟨1, ![8]⟩
abbrev S1 : Shape := ⟨1, ![1]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S4096x1024, .f32⟩
  | .hbm, ⟨5, _⟩ => ⟨S1024x4x2048, .f32⟩
  | .hbm, ⟨6, _⟩ => ⟨S4x1024x2048, .f32⟩
  | .hbm, ⟨7, _⟩ => ⟨S4096x1024, .f32⟩
  | .hbm, ⟨8, _⟩ => ⟨S4096x1024, .f32⟩
  | .hbm, ⟨9, _⟩ => ⟨S4096x4096, .f32⟩
  | .hbm, ⟨10, _⟩ => ⟨S4096x2048, .f32⟩
  | .hbm, ⟨11, _⟩ => ⟨S4096x1024, .bf16⟩
  | .hbm, ⟨12, _⟩ => ⟨S4096x1024, .bf16⟩
  | .hbm, ⟨13, _⟩ => ⟨S4096x4096, .bf16⟩
  | .hbm, ⟨14, _⟩ => ⟨S4096x2048, .bf16⟩
  | .hbm, ⟨15, _⟩ => ⟨S4x1024x2048, .bf16⟩
  | .hbm, ⟨16, _⟩ => ⟨S_, .f32⟩
  | .hbm, ⟨17, _⟩ => ⟨S1x1024, .f32⟩
  | .hbm, ⟨18, _⟩ => ⟨S4096x1024, .f32⟩
  | .hbm, ⟨19, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S4x1024x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceXIdeal.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x8192, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== KernelN.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S1024x4x2048 : Shape := ⟨3, ![1024, 4, 2048]⟩
abbrev S4x1024x2048 : Shape := ⟨3, ![4, 1024, 2048]⟩
abbrev S_ : Shape := ⟨0, ![]⟩
abbrev S4096 : Shape := ⟨1, ![4096]⟩
abbrev S4096x1 : Shape := ⟨2, ![4096, 1]⟩
abbrev S1 : Shape := ⟨1, ![1]⟩
abbrev S2 : Shape := ⟨1, ![2]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 28
  | .vmem => 5
  | .smem => 1
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S1024x4x2048, .f32⟩
  | .hbm, ⟨5, _⟩ => ⟨S4x1024x2048, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4x1024x2048, .bf16⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S4096x8192, .f32⟩
  | .local _ .vmem, ⟨0, _⟩ => ⟨S1x1024x1024, .bf16⟩
  | .local _ .vmem, ⟨1, _⟩ => ⟨S1x1024x1024, .bf16⟩
  | .local _ .vmem, ⟨2, _⟩ => ⟨S2048x1024, .f32⟩
  | .local _ .vmem, ⟨3, _⟩ => ⟨S2048x1024, .f32⟩
  | .local _ .vmem, ⟨4, _⟩ => ⟨S4096x1024, .bf16⟩
  | .local _ .smem, ⟨0, _⟩ => ⟨S2, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v19 : Ref sig .tc := ⟨.hbm, 27, rfl⟩
abbrev main_v18 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v17 : Index := Scalar.indexCast v16
  ![v17.toNat]
def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off2 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0 : Index := 0#32
  ![v7.toNat, 0]
def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S2) ![v17.toNat] S1.size (k0_off1_inb i)) numel1_S1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat, v28.toNat]

def cc0_transform_3 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S2) ![v17.toNat] S1.size (k0_off1_inb i)) numel1_S1
  let c2_i32_4 : BitVec 32 := 2#32
  let v19 : BitVec 32 := Scalar.muli c2_i32_4 v18
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_11 : BitVec 32 := 0#32
  ![arg1.toNat, v30.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceNIdeal.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S4096x2048 : Shape := ⟨2, ![4096, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S4096x4096, .f32⟩
  | .hbm, ⟨21, _⟩ => ⟨S4096x2048, .f32⟩
  | .hbm, ⟨22, _⟩ => ⟨S4096x2048, .f32⟩
  | .hbm, ⟨23, _⟩ => ⟨S4096x8192, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelF.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S1024x4x2048 : Shape := ⟨3, ![1024, 4, 2048]⟩
abbrev S4x1024x2048 : Shape := ⟨3, ![4, 1024, 2048]⟩
abbrev S_ : Shape := ⟨0, ![]⟩
abbrev S4096 : Shape := ⟨1, ![4096]⟩
abbrev S4096x1 : Shape := ⟨2, ![4096, 1]⟩
abbrev S1 : Shape := ⟨1, ![1]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 25
  | .vmem => 5
  | .smem => 1
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S1024x4x2048, .f32⟩
  | .hbm, ⟨5, _⟩ => ⟨S4x1024x2048, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4x1024x2048, .bf16⟩
  | .hbm, ⟨23, _⟩ => ⟨S_, .i32⟩
  | .hbm, ⟨24, _⟩ => ⟨S4096x8192, .f32⟩
  | .local _ .vmem, ⟨0, _⟩ => ⟨S1x1024x1024, .bf16⟩
  | .local _ .vmem, ⟨1, _⟩ => ⟨S1x1024x1024, .bf16⟩
  | .local _ .vmem, ⟨2, _⟩ => ⟨S2048x1024, .f32⟩
  | .local _ .vmem, ⟨3, _⟩ => ⟨S2048x1024, .f32⟩
  | .local _ .vmem, ⟨4, _⟩ => ⟨S4096x1024, .bf16⟩
  | .local _ .smem, ⟨0, _⟩ => ⟨S1, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v17 : Ref sig .tc := ⟨.hbm, 24, rfl⟩
abbrev main_v16 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v17 : Index := Scalar.indexCast v16
  ![v17.toNat]
def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off2 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0 : Index := 0#32
  ![v7.toNat, 0]
def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S1) ![v17.toNat] S1.size (k0_off1_inb i)) numel1_S1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat, v28.toNat]

def cc0_transform_3 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S1) ![v17.toNat] S1.size (k0_off1_inb i)) numel1_S1
  let c2_i32_4 : BitVec 32 := 2#32
  let v19 : BitVec 32 := Scalar.muli c2_i32_4 v18
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_11 : BitVec 32 := 0#32
  ![arg1.toNat, v30.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceFIdeal.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S4096x2048 : Shape := ⟨2, ![4096, 2048]⟩
abbrev S4096x6144 : Shape := ⟨2, ![4096, 6144]⟩
abbrev S4096x0 : Shape := ⟨2, ![4096, 0]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x2048, .f32⟩
  | .hbm, ⟨20, _⟩ => ⟨S4096x2048, .f32⟩
  | .hbm, ⟨21, _⟩ => ⟨S4096x6144, .f32⟩
  | .hbm, ⟨22, _⟩ => ⟨S4096x0, .f32⟩
  | .hbm, ⟨23, _⟩ => ⟨S4096x8192, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Host.lean ====
/- What the host computes before the kernel starts, read as the reference's values: both programs begin with the same lines
   of the forward pass, so the retention's output and its states are the reference's own terms. -/
module

public import proofs.«01_k».proof.Proof.Gen.KernelIdeal.Value
public import proofs.«01_k».proof.Proof.Gen.ReferenceIdeal.Read
public import Idealize.ShloMosaic.Lib.StableHlo.RunClose

@[expose] public section

set_option maxRecDepth 65536

noncomputable section

namespace Cert.KernelIdeal.Host

open Idealize.ShloMosaic Idealize.ShloMosaic.TcCoe Idealize.ShloMosaic.Tactic Idealize.ShloMosaic.StableHlo Cert.KernelIdeal Cert.KernelIdeal.Gen
open Cert.ReferenceIdeal.Read

variable {F : FTy → Type} [FloatOps F] (m : (ℓ : Loc nD τ sig) → Buf (Elt F) ℓ) (c : Dev nD)

/-- The three arguments. -/
abbrev X0 : Vec F S4096x1024 .f32 := m ((c : Thread nD τ).loc main_arg0)
abbrev X1 : Vec F S4096x8192 .f32 := m ((c : Thread nD τ).loc main_arg1)
abbrev X2 : Vec F S4x256 .f32 := m ((c : Thread nD τ).loc main_arg2)

set_option maxHeartbeats 20000000 in
/-- The sixteen states, each made one slice of a stack. -/
theorem V_states :
    V m c main_v208 = val_main_v208 (F := F) ∧
    V m c main_v209 = val_main_v209 (F := F) (X1 m c) ∧
    V m c main_v210 = val_main_v210 (F := F) (X1 m c) ∧
    V m c main_v211 = val_main_v211 (F := F) (X1 m c) ∧
    V m c main_v212 = val_main_v212 (F := F) (X1 m c) ∧
    V m c main_v213 = val_main_v213 (F := F) (X1 m c) ∧
    V m c main_v214 = val_main_v214 (F := F) (X1 m c) ∧
    V m c main_v215 = val_main_v215 (F := F) (X1 m c) ∧
    V m c main_v216 = val_main_v216 (F := F) (X1 m c) ∧
    V m c main_v217 = val_main_v217 (F := F) (X1 m c) ∧
    V m c main_v218 = val_main_v218 (F := F) (X1 m c) ∧
    V m c main_v219 = val_main_v219 (F := F) (X1 m c) ∧
    V m c main_v220 = val_main_v220 (F := F) (X1 m c) ∧
    V m c main_v221 = val_main_v221 (F := F) (X1 m c) ∧
    V m c main_v222 = val_main_v222 (F := F) (X1 m c) ∧
    V m c main_v223 = val_main_v223 (F := F) (X1 m c) := by
  refine ⟨?_, ?_, ?_, ?_, ?_, ?_, ?_, ?_, ?_, ?_, ?_, ?_, ?_, ?_, ?_, ?_⟩
  all_goals
    simp only [V, List.flatten, List.append, hostOps0, hostOps0_1, hostOps0_2, hostOps0_3, hostOps0_4, List.cons_append, List.nil_append, List.append_nil]
    after_results_simp_entrywise
    sl_kernel_rfl

/-- The stack of the sixteen states. -/
def stack (s0 s1 s2 s3 s4 s5 s6 s7 s8 s9 s10 s11 s12 s13 s14 s15 : Vec F S1x2x4x256x256 .f32) : Vec F S16x2x4x256x256 .f32 :=
  concatenate S16x2x4x256x256 0 [⟨_, s0⟩, ⟨_, s1⟩, ⟨_, s2⟩, ⟨_, s3⟩, ⟨_, s4⟩, ⟨_, s5⟩, ⟨_, s6⟩, ⟨_, s7⟩, ⟨_, s8⟩, ⟨_, s9⟩, ⟨_, s10⟩, ⟨_, s11⟩,
    ⟨_, s12⟩, ⟨_, s13⟩, ⟨_, s14⟩, ⟨_, s15⟩] concatenates_S1x2x4x256x256_S1x2x4x256x256_S1x2x4x256x256_S1x2x4x256x256_S1x2x4x256x256_S1x2x4x256x256_S1x2x4x256x256_S1x2x4x256x256_S1x2x4x256x256_S1x2x4x256x256_S1x2x4x256x256_S1x2x4x256x256_S1x2x4x256x256_S1x2x4x256x256_S1x2x4x256x256_S1x2x4x256x256_S16x2x4x256x256_d0

theorem V_v224 : V m c main_v224 = val_main_v224 (F := F) (X1 m c) := by
  have e : V m c main_v224 = stack (V m c main_v208) (V m c main_v209) (V m c main_v210) (V m c main_v211) (V m c main_v212) (V m c main_v213) (V m c main_v214) (V m c main_v215) (V m c main_v216) (V m c main_v217) (V m c main_v218) (V m c main_v219) (V m c main_v220) (V m c main_v221) (V m c main_v222) (V m c main_v223) := by sl_kernel_rfl
  obtain ⟨h0, h1, h2, h3, h4, h5, h6, h7, h8, h9, h10, h11, h12, h13, h14, h15⟩ := V_states m c
  rw [e, h0, h1, h2, h3, h4, h5, h6, h7, h8, h9, h10, h11, h12, h13, h14, h15]
  sl_kernel_rfl

/-- The states, as the kernel's sixth window holds them before its cast. -/
theorem V_v225 : V m c main_v225 = val_main_v225 (F := F) (X1 m c) := by
  have e : V m c main_v225 = concatenate S16x2x4x256x256 0 [⟨S0x2x4x256x256, V m c main_v127⟩, ⟨S16x2x4x256x256, V m c main_v224⟩]
    concatenates_S0x2x4x256x256_S16x2x4x256x256_S16x2x4x256x256_d0 := by sl_kernel_rfl
  have e' : V m c main_v127 = val_main_v127 (F := F) := by sl_kernel_rfl
  rw [e, e', V_v224]
  rfl

end Cert.KernelIdeal.Host

end
-- ==== Proof.HostWin.lean ====
/- The arrays the kernel's windows read. -/
module

public import proofs.«01_k».proof.Proof.Gen.KernelIdeal.Value
public import proofs.«01_k».proof.Proof.Gen.ReferenceIdeal.Read
public import proofs.«01_k».proof.Proof.Host

@[expose] public section

set_option maxRecDepth 65536

noncomputable section

namespace Cert.KernelIdeal.Host

open Idealize.ShloMosaic Idealize.ShloMosaic.TcCoe Idealize.ShloMosaic.Tactic Idealize.ShloMosaic.StableHlo Cert.KernelIdeal Cert.KernelIdeal.Gen
open Cert.ReferenceIdeal.Read

variable {F : FTy → Type} [FloatOps F] (m : (ℓ : Loc nD τ sig) → Buf (Elt F) ℓ) (c : Dev nD)

/-! ## The arrays the windows read, one operation at a time -/

theorem v35_val : V m c main_v35 = val_main_v35 (F := F) (X1 m c) := by sl_kernel_rfl
theorem v65_val : V m c main_v65 = val_main_v65 (F := F) (X1 m c) := by sl_kernel_rfl
theorem v66_val : V m c main_v66 = val_main_v66 (F := F) := by sl_kernel_rfl
theorem v115_step : V m c main_v115 = shapeCast S2x16x128x4x256 (V m c main_v35) shapeCasts_S2x2048x4x256_S2x16x128x4x256 := by sl_kernel_rfl
theorem v116_step : V m c main_v116 = transpose S16x2x128x4x256 [1, 0, 2, 3, 4] (V m c main_v115) transposes_S2x16x128x4x256_S16x2x128x4x256_1_0_2_3_4 := by sl_kernel_rfl
theorem v67_step : V m c main_v67 = mulf (V m c main_v65) (V m c main_v66) := by sl_kernel_rfl
theorem v117_step : V m c main_v117 = shapeCast S2x16x128x4x256 (V m c main_v67) shapeCasts_S2x2048x4x256_S2x16x128x4x256 := by sl_kernel_rfl
theorem v118_step : V m c main_v118 = transpose S16x2x128x4x256 [1, 0, 2, 3, 4] (V m c main_v117) transposes_S2x16x128x4x256_S16x2x128x4x256_1_0_2_3_4 := by sl_kernel_rfl
theorem v116_val : V m c main_v116 = val_main_v116 (F := F) (X1 m c) := by
  rw [v116_step, v115_step, v35_val]; rfl
theorem v118_val : V m c main_v118 = val_main_v118 (F := F) (X1 m c) := by
  rw [v118_step, v117_step, v67_step, v65_val, v66_val]; rfl
theorem v120_val : V m c main_v120 = val_main_v120 (F := F) (X1 m c) := by sl_kernel_rfl
theorem v228_val : V m c main_v228 = val_main_v228 (F := F) := by sl_kernel_rfl
theorem v234_val : V m c main_v234 = val_main_v234 (F := F) := by sl_kernel_rfl
theorem v226_step : V m c main_v226 = Host.dotGeneral dot_S16x2x128x4x256_S16x2x128x4x256_S16x2x4x128x128_4_4_2_2_013_013 none (V m c main_v116) (V m c main_v118) := by sl_kernel_rfl
theorem v229_step : V m c main_v229 = mulf (V m c main_v226) (V m c main_v228) := by sl_kernel_rfl
theorem v230_step : V m c main_v230 = Host.dotGeneral dot_S16x2x128x4x256_S16x2x4x128x128_S16x2x4x256x128_2_4_4_3_013_012 none (V m c main_v120) (V m c main_v229) := by sl_kernel_rfl
theorem v231_step : V m c main_v231 = transpose S16x2x128x4x256 [0, 1, 4, 2, 3] (V m c main_v230) transposes_S16x2x4x256x128_S16x2x128x4x256_0_1_4_2_3 := by sl_kernel_rfl
theorem v232_step : V m c main_v232 = Host.dotGeneral dot_S16x2x4x256x256_S16x2x128x4x256_S16x2x4x256x128_3_4_4_2_012_013 none (V m c main_v225) (V m c main_v116) := by sl_kernel_rfl
theorem v233_step : V m c main_v233 = transpose S16x2x128x4x256 [0, 1, 4, 2, 3] (V m c main_v232) transposes_S16x2x4x256x128_S16x2x128x4x256_0_1_4_2_3 := by sl_kernel_rfl
theorem v235_step : V m c main_v235 = mulf (V m c main_v233) (V m c main_v234) := by sl_kernel_rfl
theorem v236_step : V m c main_v236 = addf (V m c main_v231) (V m c main_v235) := by sl_kernel_rfl
theorem v237_step : V m c main_v237 = transpose S2x16x128x4x256 [1, 0, 2, 3, 4] (V m c main_v236) transposes_S16x2x128x4x256_S2x16x128x4x256_1_0_2_3_4 := by sl_kernel_rfl
theorem v238_step : V m c main_v238 = shapeCast S2x2048x4x256 (V m c main_v237) shapeCasts_S2x16x128x4x256_S2x2048x4x256 := by sl_kernel_rfl
theorem v300_step : V m c main_v300 = shapeCast S4096x1024 (V m c main_v238) shapeCasts_S2x2048x4x256_S4096x1024 := by sl_kernel_rfl
theorem v305_step : V m c main_v305 = shapeCast S2x2048x1024 (V m c main_v300) shapeCasts_S4096x1024_S2x2048x1024 := by sl_kernel_rfl

/-- The retention's output. -/
theorem V_v238 : V m c main_v238 = val_main_v238 (F := F) (X1 m c) := by
  rw [v238_step, v237_step, v236_step, v235_step, v233_step, v232_step, v231_step, v230_step, v229_step, v226_step, v116_val, v118_val, v120_val,
    v228_val, v234_val, V_v225]
  rfl

theorem V_v305 : V m c main_v305 = shapeCast S2x2048x1024 (shapeCast S4096x1024 (val_main_v238 (F := F) (X1 m c)) shapeCasts_S2x2048x4x256_S4096x1024) shapeCasts_S4096x1024_S2x2048x1024 := by
  rw [v305_step, v300_step, V_v238]

theorem V_v301 : V m c main_v301 = truncf .bf16 (val_main_v225 (F := F) (X1 m c)) bitsLt_bf16_f32 := by
  have e : V m c main_v301 = truncf .bf16 (V m c main_v225) bitsLt_bf16_f32 := by sl_kernel_rfl
  rw [e, V_v225]

theorem V_v302 : V m c main_v302 = shapeCast S4x1x256 (X2 m c) shapeCasts_S4x256_S4x1x256 := by sl_kernel_rfl
theorem V_v303 : V m c main_v303 = shapeCast S2x2048x8192 (X1 m c) shapeCasts_S4096x8192_S2x2048x8192 := by sl_kernel_rfl
theorem V_v304 : V m c main_v304 = shapeCast S2x2048x1024 (X0 m c) shapeCasts_S4096x1024_S2x2048x1024 := by sl_kernel_rfl
theorem V_v298 : V m c main_v298 = val_main_v19 (F := F) := by sl_kernel_rfl
theorem V_v299 : V m c main_v299 = val_main_v21 (F := F) := by sl_kernel_rfl
theorem V_v274 : V m c main_v274 = val_main_v92 (F := F) := by sl_kernel_rfl
theorem V_v297_of : V m c main_v297 = broadcastInDim S4x1x256 ![0, 1, 2] bcast_S4x1x1_S4x1x256_0_1_2 (broadcastInDim S4x1x1 ![0] bcast_S4_S4x1x1_0 (val_main_v113 (F := F))) := by sl_kernel_rfl
theorem V_v257 : V m c main_v257 = val_main_v75 (F := F) := by sl_kernel_rfl

end Cert.KernelIdeal.Host

end
-- ==== Proof.Body.lean ====
/- What one grid point of the kernel computes, told once for every (chunk of the block, batch row, head).

   The body is written out sixteen times in the program (two chunks, two batch rows, four heads). Here it is one family of
   functions of the chunk `cc`, the batch row `b` and the head `h`; the lists of stores the runs found are shown to be these
   functions' lists. -/
module

public import proofs.«01_k».proof.Proof.Gen.KernelIdeal.Value

@[expose] public section

set_option maxRecDepth 16384

noncomputable section

namespace Cert.KernelIdeal.Body

open Idealize.ShloMosaic Idealize.ShloMosaic.TcCoe Idealize.ShloMosaic.Tactic Cert.KernelIdeal Cert.KernelIdeal.Gen

variable {F : FTy → Type} [FloatOps F]

/-- The contents of the fourteen input blocks at one grid point. -/
structure Blk (F : FTy → Type) where
  dy : Vec F S2x256x1024 .f32
  o : Vec F S2x256x1024 .f32
  q : Vec F S2x256x1024 .f32
  k : Vec F S2x256x1024 .f32
  v : Vec F S2x256x1024 .f32
  gb : Vec F S2x256x1024 .f32
  st : Vec F S2x2x4x256x256 .bf16
  cos : Vec F S256x128 .f32
  sin : Vec F S256x128 .f32
  dm : Vec F S4x128x128 .f32
  cd : Vec F S4x128x1 .f32
  sd : Vec F S4x128x1 .f32
  gam : Vec F S4x1x256 .f32
  gain : Vec F S4x1x256 .f32

/-! ## The boxes read and written -/

theorem inbRows (cc b : Fin 2) (h : Fin 4) :
    ∀ a, (![b.val, cc.val * 128, h.val * 256] : Fin 3 → ℕ) a + S1x128x256.size a ≤ S2x256x1024.size a := by
  revert cc b h; decide

/-- The rows of chunk `cc`, the columns of head `h`, in a block of `[2, 256, 1024]`. -/
abbrev rRows (cc b : Fin 2) (h : Fin 4) : Rect S2x256x1024 :=
  Rect.unit (s := S2x256x1024) ![b.val, cc.val * 128, h.val * 256] S1x128x256.size (inbRows cc b h)

theorem inbOut (cc b : Fin 2) (p h : Fin 4) :
    ∀ a, (![b.val, cc.val * 128, p.val * 1024 + h.val * 256] : Fin 3 → ℕ) a + S1x128x256.size a ≤ S2x256x4096.size a := by
  revert cc b p h; decide

/-- The same rows and columns of part `p` (q, k, v, gate) of the gradient's block. -/
abbrev rOut (cc b : Fin 2) (p h : Fin 4) : Rect S2x256x4096 :=
  Rect.unit (s := S2x256x4096) ![b.val, cc.val * 128, p.val * 1024 + h.val * 256] S1x128x256.size (inbOut cc b p h)

theorem inbTrig (cc : Fin 2) : ∀ a, (![cc.val * 128, 0] : Fin 2 → ℕ) a + S128x128.size a ≤ S256x128.size a := by
  revert cc; decide

abbrev rTrig (cc : Fin 2) : Rect S256x128 := Rect.unit (s := S256x128) ![cc.val * 128, 0] S128x128.size (inbTrig cc)

theorem inbHead (h : Fin 4) : ∀ a, (![h.val, 0, 0] : Fin 3 → ℕ) a + S1x1x256.size a ≤ S4x1x256.size a := by
  revert h; decide

abbrev rHead (h : Fin 4) : Rect S4x1x256 := Rect.unit (s := S4x1x256) ![h.val, 0, 0] S1x1x256.size (inbHead h)

theorem inbCol (h : Fin 4) : ∀ a, (![h.val, 0, 0] : Fin 3 → ℕ) a + S1x128x1.size a ≤ S4x128x1.size a := by
  revert h; decide

abbrev rCol (h : Fin 4) : Rect S4x128x1 := Rect.unit (s := S4x128x1) ![h.val, 0, 0] S1x128x1.size (inbCol h)

theorem inbSq (h : Fin 4) : ∀ a, (![h.val, 0, 0] : Fin 3 → ℕ) a + S1x128x128.size a ≤ S4x128x128.size a := by
  revert h; decide

abbrev rSq (h : Fin 4) : Rect S4x128x128 := Rect.unit (s := S4x128x128) ![h.val, 0, 0] S1x128x128.size (inbSq h)

theorem inbSt (cc b : Fin 2) (h : Fin 4) :
    ∀ a, (![cc.val, b.val, h.val, 0, 0] : Fin 5 → ℕ) a + S1x1x1x256x256.size a ≤ S2x2x4x256x256.size a := by
  revert cc b h; decide

abbrev rSt (cc b : Fin 2) (h : Fin 4) : Rect S2x2x4x256x256 :=
  Rect.unit (s := S2x2x4x256x256) ![cc.val, b.val, h.val, 0, 0] S1x1x1x256x256.size (inbSt cc b h)

theorem inbDs (b : Fin 2) (h : Fin 4) :
    ∀ a, (![b.val, h.val, 0, 0] : Fin 4 → ℕ) a + S1x1x256x256.size a ≤ S2x4x256x256.size a := by
  revert b h; decide

abbrev rDs (b : Fin 2) (h : Fin 4) : Rect S2x4x256x256 :=
  Rect.unit (s := S2x4x256x256) ![b.val, h.val, 0, 0] S1x1x256x256.size (inbDs b h)

/-! ## One chunk of one head -/

variable (Y : Blk F) (cc b : Fin 2) (h : Fin 4)

def cosT : FVec F S128x128 .f32 := k0_pay5 (View.ld Y.cos (rTrig cc))
def sinT : FVec F S128x128 .f32 := k0_pay6 (View.ld Y.sin (rTrig cc))
def gainT : FVec F S1x256 .f32 := k0_pay7 (View.ld Y.gain (rHead h))
/-- The inverse deviation of a row of the output. -/
def rsT : FVec F S128x1 .f32 := k0_pay9 (View.ld Y.o (rRows cc b h))
/-- The normalised rows of the output. -/
def nT : FVec F S128x256 .f32 := k0_pay10 (View.ld Y.o (rRows cc b h))
def gbT : FVec F S128x256 .f32 := k0_pay11 (View.ld Y.gb (rRows cc b h))
/-- Half of the tanh of half of the gate, to which the body adds one half. -/
def thT : FVec F S128x256 .f32 := k0_pay12 (View.ld Y.gb (rRows cc b h))
def dyT : Vec F S1x128x256 .f32 := View.ld Y.dy (rRows cc b h)
/-- The gradient to the gate. -/
def dgbT : FVec F S1x128x256 .bf16 := k0_pay16 (gainT Y h) (nT Y cc b h) (gbT Y cc b h) (thT Y cc b h) k0_pay13 (dyT Y cc b h)
/-- The gain's gradient, over what has been summed so far. -/
def dgainT (acc : Vec F S1x1x256 .f32) : FVec F S1x1x256 .f32 :=
  k0_pay18 (nT Y cc b h) (gbT Y cc b h) (thT Y cc b h) k0_pay13 (dyT Y cc b h) acc
def dnT : FVec F S128x256 .f32 := k0_pay20 (gainT Y h) (gbT Y cc b h) (thT Y cc b h) k0_pay13 (dyT Y cc b h)
def dnmT : FVec F S128x1 .f32 := k0_pay21 (gainT Y h) (nT Y cc b h) (gbT Y cc b h) (thT Y cc b h) k0_pay13 (dyT Y cc b h)
/-- The gradient to the output, and as it enters the products. -/
def doT : FVec F S128x256 .f32 := k0_pay22 (rsT Y cc b h) (nT Y cc b h) (dnT Y cc b h) (dnmT Y cc b h) (FloatOps.ofBits .f32 1132462080#32)
def dobT : FVec F S128x256 .bf16 := k0_pay28 (rsT Y cc b h) (nT Y cc b h) (dnT Y cc b h) (dnmT Y cc b h) (FloatOps.ofBits .f32 1132462080#32)
def qT : FVec F S128x256 .bf16 := k0_pay23 (cosT Y cc) (sinT Y cc) (View.ld Y.q (rRows cc b h))
def kT : FVec F S128x256 .bf16 := k0_pay24 (cosT Y cc) (sinT Y cc) (View.ld Y.k (rRows cc b h))
def vT : FVec F S128x256 .bf16 := k0_pay26 (View.ld Y.v (rRows cc b h))
def vsT : FVec F S128x256 .bf16 := k0_pay27 (View.ld Y.v (rRows cc b h)) (View.ld Y.sd (rCol h))
def cdT : FVec F S128x1 .f32 := k0_pay29 (View.ld Y.cd (rCol h))
def docT : FVec F S128x256 .bf16 := k0_pay30 (doT Y cc b h) (cdT Y h)
/-- The gradients to the query, key and value, before and after undoing the rotation. -/
def dqT : FVec F S128x256 .f32 :=
  k0_pay35 (doT Y cc b h) (kT Y cc b h) (vT Y cc b h) (dobT Y cc b h) (cdT Y h) (View.ld Y.dm (rSq h)) (View.ld Y.st (rSt cc b h))
def dkT (ds : Vec F S1x1x256x256 .f32) : FVec F S128x256 .f32 :=
  k0_pay36 (qT Y cc b h) (vT Y cc b h) (vsT Y cc b h) (dobT Y cc b h) (View.ld Y.dm (rSq h)) ds
def dvT (ds : Vec F S1x1x256x256 .f32) : FVec F S128x256 .f32 :=
  k0_pay37 (qT Y cc b h) (kT Y cc b h) (dobT Y cc b h) (View.ld Y.dm (rSq h)) ds (View.ld Y.sd (rCol h))
def dqOut : FVec F S1x128x256 .bf16 := k0_pay40 (cosT Y cc) (sinT Y cc) (dqT Y cc b h)
def dkOut (ds : Vec F S1x1x256x256 .f32) : FVec F S1x128x256 .bf16 := k0_pay41 (cosT Y cc) (sinT Y cc) (dkT Y cc b h ds)
def dvOut (ds : Vec F S1x1x256x256 .f32) : FVec F S1x128x256 .bf16 := k0_pay42 (dvT Y cc b h ds)
/-- The state's gradient handed to the chunk before. -/
def dsT (ds : Vec F S1x1x256x256 .f32) : FVec F S1x1x256x256 .f32 :=
  k0_pay39 (qT Y cc b h) (docT Y cc b h) (k0_pay38 ds (View.ld Y.gam (rHead h))) (constant S256x256 .f32 0#32)

/-! ## The stores of a grid point, newest first -/

/-- The order of the sixteen copies, newest first: the later chunk goes first, then batch rows, then heads. -/
def order : List (Fin 2 × Fin 2 × Fin 4) :=
  [(0, 1, 3), (0, 1, 2), (0, 1, 1), (0, 1, 0), (0, 0, 3), (0, 0, 2), (0, 0, 1), (0, 0, 0),
   (1, 1, 3), (1, 1, 2), (1, 1, 1), (1, 1, 0), (1, 0, 3), (1, 0, 2), (1, 0, 1), (1, 0, 0)]

/-- The gain's stores: each adds to what `rd` reads of the stores before it. -/
def gainStores (rd : ℕ → List (View.Piece (Elt F) S4x1x256 .f32) → Fin 4 → Vec F S1x1x256 .f32)
    (init : List (View.Piece (Elt F) S4x1x256 .f32)) : List (Fin 2 × Fin 2 × Fin 4) → List (View.Piece (Elt F) S4x1x256 .f32)
  | [] => init
  | (cc, b, h) :: l => ⟨rHead h, dgainT Y cc b h (rd l.length (gainStores rd init l) h)⟩ :: gainStores rd init l

/-- The carried gradient's stores. -/
def dsStores (rd : ℕ → List (View.Piece (Elt F) S2x4x256x256 .f32) → Fin 2 → Fin 4 → Vec F S1x1x256x256 .f32)
    (init : List (View.Piece (Elt F) S2x4x256x256 .f32)) : List (Fin 2 × Fin 2 × Fin 4) → List (View.Piece (Elt F) S2x4x256x256 .f32)
  | [] => init
  | (cc, b, h) :: l => ⟨rDs b h, dsT Y cc b h (rd l.length (dsStores rd init l) b h)⟩ :: dsStores rd init l

/-- The stores into the gradient's block. -/
def outStores (rd : ℕ → List (View.Piece (Elt F) S2x4x256x256 .f32) → Fin 2 → Fin 4 → Vec F S1x1x256x256 .f32)
    (init : List (View.Piece (Elt F) S2x4x256x256 .f32)) : List (Fin 2 × Fin 2 × Fin 4) → List (View.Piece (Elt F) S2x256x4096 .bf16)
  | [] => []
  | (cc, b, h) :: l =>
    ⟨rOut cc b 2 h, dvOut Y cc b h (rd l.length (dsStores Y rd init l) b h)⟩ ::
    ⟨rOut cc b 1 h, dkOut Y cc b h (rd l.length (dsStores Y rd init l) b h)⟩ ::
    ⟨rOut cc b 0 h, dqOut Y cc b h⟩ ::
    ⟨rOut cc b 3 h, dgbT Y cc b h⟩ :: outStores rd init l

end Cert.KernelIdeal.Body

end
-- ==== Proof.Stores.lean ====
/- What the buffers hold after a grid point, as the lists of stores of `Body`. -/
module

public import proofs.«01_k».proof.Proof.Body

@[expose] public section

set_option maxRecDepth 65536

noncomputable section

namespace Cert.KernelIdeal.Body

open Idealize.ShloMosaic Idealize.ShloMosaic.TcCoe Idealize.ShloMosaic.Tactic Cert.KernelIdeal Cert.KernelIdeal.Gen

variable {F : FTy → Type} [FloatOps F] (m : (ℓ : Loc nD τ sig) → Buf (Elt F) ℓ) (c : Dev nD) (t : Fin cfg0.N)

/-- The input blocks of a grid point. -/
def blk : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The same, as the run reads them off the staging buffers. -/
def blkRaw : Blk F :=
  ⟨(ms0_0 t).view.read (Elt F) ((hs0_0 t).unread (iblk m c 0 t)), (ms0_1 t).view.read (Elt F) ((hs0_1 t).unread (iblk m c 1 t)), (ms0_2 t).view.read (Elt F) ((hs0_2 t).unread (iblk m c 2 t)),
   (ms0_3 t).view.read (Elt F) ((hs0_3 t).unread (iblk m c 3 t)), (ms0_4 t).view.read (Elt F) ((hs0_4 t).unread (iblk m c 4 t)), (ms0_5 t).view.read (Elt F) ((hs0_5 t).unread (iblk m c 5 t)),
   (ms0_6 t).view.read (Elt F) ((hs0_6 t).unread (iblk m c 6 t)), (ms0_7 t).view.read (Elt F) ((hs0_7 t).unread (iblk m c 7 t)), (ms0_8 t).view.read (Elt F) ((hs0_8 t).unread (iblk m c 8 t)),
   (ms0_9 t).view.read (Elt F) ((hs0_9 t).unread (iblk m c 9 t)), (ms0_10 t).view.read (Elt F) ((hs0_10 t).unread (iblk m c 10 t)), (ms0_11 t).view.read (Elt F) ((hs0_11 t).unread (iblk m c 11 t)),
   (ms0_12 t).view.read (Elt F) ((hs0_12 t).unread (iblk m c 12 t)), (ms0_13 t).view.read (Elt F) ((hs0_13 t).unread (iblk m c 13 t))⟩

theorem blkRaw_eq : blkRaw m c t = blk m c t := by
  simp only [blkRaw, blk, Memref.IsWhole.read_unread]

/-! ## Reading back -/

/-- What a load of head `h` reads of the gain's gradient after stores that fill it. -/
def rdG (_ : ℕ) (L : List (View.Piece (Elt F) S4x1x256 .f32)) (h : Fin 4) : Vec F S1x1x256 .f32 := View.ld (View.canon L) (rHead h)

/-- The first four loads of a later point read what the point before left. -/
def rdG' (x : Vec F S4x1x256 .f32) (n : ℕ) (L : List (View.Piece (Elt F) S4x1x256 .f32)) (h : Fin 4) : Vec F S1x1x256 .f32 :=
  if n < 4 then View.ld x (rHead h) else View.ld (View.canon L) (rHead h)

/-- What a load of `(b, h)` reads of the carried gradient after stores that fill it. -/
def rdD (_ : ℕ) (L : List (View.Piece (Elt F) S2x4x256x256 .f32)) (b : Fin 2) (h : Fin 4) : Vec F S1x1x256x256 .f32 :=
  View.ld (View.canon L) (rDs b h)

/-- The first eight loads of a later point read what the point before left. -/
def rdD' (x : Vec F S2x4x256x256 .f32) (n : ℕ) (L : List (View.Piece (Elt F) S2x4x256x256 .f32)) (b : Fin 2) (h : Fin 4) : Vec F S1x1x256x256 .f32 :=
  if n < 8 then View.ld x (rDs b h) else View.ld (View.canon L) (rDs b h)

/-- The fills of the first point. -/
def fillG : List (View.Piece (Elt F) S4x1x256 .f32) :=
  [⟨Rect.unit (s := S4x1x256) ![0, 0, 0] S4x1x256.size inb_S4x1x256_S4x1x256_0_0_0, k0_pay4⟩]
def fillD : List (View.Piece (Elt F) S2x4x256x256 .f32) :=
  [⟨Rect.unit (s := S2x4x256x256) ![0, 0, 0, 0] S2x4x256x256.size inb_S2x4x256x256_S2x4x256x256_0_0_0_0, k0_pay3⟩]

theorem readCov_ld {sig : RefSig} {κ : Kind} {sp : Space} {s : Shape} {e : EltTy} (v : View sig κ sp s e) (L : List (View.Piece (Elt F) s e)) (r : Rect s) :
    v.readCov L r.toLoadRect = View.ld (View.canon L) r :=
  View.readCov_eq_canon' v L r.toLoadRect

theorem readAt_ld {sig : RefSig} {κ : Kind} {sp : Space} {s : Shape} {e : EltTy} (M : Memref sig κ sp s e) (hM : M.IsWhole) (x : Vec F s e) (r : Rect s) :
    View.readAt (Elt F) M.view r.toLoadRect (hM.unread x) = View.ld x r := by
  rw [View.readAt_eq_ld, hM.read_unread]

theorem read_junk {sig : RefSig} {κ : Kind} {sp : Space} {s : Shape} {e : EltTy} (v : View sig κ sp s e) (L : List (View.Piece (Elt F) s e)) :
    v.read (Elt F) (v.writes (Elt F) v.junk L) = View.canon L :=
  funext fun y => View.read_writes_junk_apply_eq_canon v y L

/-- AFTER THE FIRST POINT. -/
theorem outs_first (h0 : t.val % 8 = 0) :
    outsAt0 m c t.val t.isLt =
      (View.canon (outStores (blk m c t) rdD fillD order), View.canon (gainStores (blk m c t) rdG fillG order),
        View.canon (dsStores (blk m c t) rdD fillD order)) := by
  rw [outsAt0_A m c t h0]
  have eG : (fun (_ : ℕ) (L : List (View.Piece (Elt F) S4x1x256 .f32)) (h : Fin 4) => (ms0_15 t).view.readCov L (rHead h).toLoadRect) = rdG :=
    funext fun _ => funext fun L => funext fun h => readCov_ld _ _ _
  have eD : (fun (_ : ℕ) (L : List (View.Piece (Elt F) S2x4x256x256 .f32)) (b : Fin 2) (h : Fin 4) => scM0_0.view.readCov L (rDs b h).toLoadRect) = rdD :=
    funext fun _ => funext fun L => funext fun b => funext fun h => readCov_ld _ _ _
  rw [← eG, ← eD, ← blkRaw_eq]
  unfold out0_A_14 out0_A_15 sout0_A_0
  rw [read_junk, read_junk, read_junk]
  refine congrArg₂ Prod.mk (congrArg View.canon ?_) (congrArg₂ Prod.mk (congrArg View.canon ?_) (congrArg View.canon ?_))
  all_goals sl_kernel_rfl

/-- AFTER A LATER POINT, over what the point before left. -/
theorem outs_later (h0 : ¬ t.val % 8 = 0) (x : Vec F S4x1x256 .f32) (y : Vec F S2x4x256x256 .f32)
    (hx : (outsAt0 m c (t.val - 1) (Nat.lt_of_le_of_lt (Nat.sub_le _ _) t.isLt)).2 = (x, y)) :
    outsAt0 m c t.val t.isLt =
      (View.canon (outStores (blk m c t) (rdD' y) [] order), View.canon (gainStores (blk m c t) (rdG' x) [] order),
        View.canon (dsStores (blk m c t) (rdD' y) [] order)) := by
  rw [outsAt0_B m c t h0]
  rw [hx]
  have eG : (fun (n : ℕ) (L : List (View.Piece (Elt F) S4x1x256 .f32)) (h : Fin 4) =>
      if n < 4 then View.readAt (Elt F) (ms0_15 t).view (rHead h).toLoadRect ((hs0_15 t).unread x)
      else (ms0_15 t).view.readCov L (rHead h).toLoadRect) = rdG' x :=
    funext fun _ => funext fun L => funext fun h => by rw [readCov_ld, readAt_ld]; rfl
  have eD : (fun (n : ℕ) (L : List (View.Piece (Elt F) S2x4x256x256 .f32)) (b : Fin 2) (h : Fin 4) =>
      if n < 8 then View.readAt (Elt F) scM0_0.view (rDs b h).toLoadRect ((Memref.isWhole_whole _ : scM0_0.IsWhole).unread y)
      else scM0_0.view.readCov L (rDs b h).toLoadRect) = rdD' y :=
    funext fun _ => funext fun L => funext fun b => funext fun h => by rw [readCov_ld, readAt_ld]; rfl
  rw [← eG, ← eD, ← blkRaw_eq]
  unfold out0_B_14 out0_B_15 sout0_B_0
  rw [read_junk, read_junk, read_junk]
  refine congrArg₂ Prod.mk (congrArg View.canon ?_) (congrArg₂ Prod.mk (congrArg View.canon ?_) (congrArg View.canon ?_))
  all_goals sl_kernel_rfl

end Cert.KernelIdeal.Body

end
-- ==== Proof.Readback.lean ====
/- The lists of stores read back: what a grid point leaves, head by head. -/
module

public import proofs.«01_k».proof.Proof.Stores

@[expose] public section

set_option maxRecDepth 65536

noncomputable section

namespace Cert.KernelIdeal.Body

open Idealize.ShloMosaic Idealize.ShloMosaic.TcCoe Idealize.ShloMosaic.Tactic Cert.KernelIdeal Cert.KernelIdeal.Gen

variable {F : FTy → Type} [FloatOps F] (Y : Blk F)

/-! ## One store and one load -/

theorem ld_hit {s : Shape} {e : EltTy} (r : Rect s) (w : r.shape.Idx → Elt F e) (L : List (View.Piece (Elt F) s e)) :
    View.ld (View.canon (⟨r, w⟩ :: L)) r = w :=
  funext fun x => View.canon_cons_emb r w L x

theorem ld_miss {s : Shape} {e : EltTy} (r r' : Rect s) (w : r'.shape.Idx → Elt F e) (L : List (View.Piece (Elt F) s e))
    (h : LoadRect.disj r' r.toLoadRect = true) : View.ld (View.canon (⟨r', w⟩ :: L)) r = View.ld (View.canon L) r :=
  funext fun x => View.canon_cons_of_not_mem ⟨r', w⟩ L (LoadRect.idx_not_mem_of_disj h x)

theorem disjHead : ∀ h h' : Fin 4, h' ≠ h → LoadRect.disj (rHead h') (rHead h).toLoadRect = true := by decide
theorem disjDs : ∀ (b : Fin 2) (h : Fin 4) (b' : Fin 2) (h' : Fin 4), ¬(b' = b ∧ h' = h) → LoadRect.disj (rDs b' h') (rDs b h).toLoadRect = true := by
  decide
theorem disjOut : ∀ (cc b : Fin 2) (p h : Fin 4) (cc' b' : Fin 2) (p' h' : Fin 4), ¬(cc' = cc ∧ b' = b ∧ p' = p ∧ h' = h) →
    LoadRect.disj (rOut cc' b' p' h') (rOut cc b p h).toLoadRect = true := by
  decide +kernel

/-! ## The lists, one step at a time -/

theorem gain_step (rd : ℕ → List (View.Piece (Elt F) S4x1x256 .f32) → Fin 4 → Vec F S1x1x256 .f32) (init : List (View.Piece (Elt F) S4x1x256 .f32))
    (cc b : Fin 2) (h' : Fin 4) (l : List (Fin 2 × Fin 2 × Fin 4)) (h : Fin 4) :
    View.ld (View.canon (gainStores Y rd init ((cc, b, h') :: l))) (rHead h) =
      if h' = h then dgainT Y cc b h (rd l.length (gainStores Y rd init l) h) else View.ld (View.canon (gainStores Y rd init l)) (rHead h) := by
  split
  · next e => subst e; exact ld_hit _ _ _
  · next e => exact ld_miss _ _ _ _ (disjHead h h' e)

theorem ds_step (rd : ℕ → List (View.Piece (Elt F) S2x4x256x256 .f32) → Fin 2 → Fin 4 → Vec F S1x1x256x256 .f32)
    (init : List (View.Piece (Elt F) S2x4x256x256 .f32)) (cc b' : Fin 2) (h' : Fin 4) (l : List (Fin 2 × Fin 2 × Fin 4)) (b : Fin 2) (h : Fin 4) :
    View.ld (View.canon (dsStores Y rd init ((cc, b', h') :: l))) (rDs b h) =
      if b' = b ∧ h' = h then dsT Y cc b h (rd l.length (dsStores Y rd init l) b h) else View.ld (View.canon (dsStores Y rd init l)) (rDs b h) := by
  split
  · next e => obtain ⟨rfl, rfl⟩ := e; exact ld_hit _ _ _
  · next e => exact ld_miss _ _ _ _ (disjDs b h b' h' e)

/-- The value stored into part `p` of the gradient's block, over the carried gradient `ds`. -/
def partT (cc b : Fin 2) (h : Fin 4) (ds : Vec F S1x1x256x256 .f32) : Fin 4 → FVec F S1x128x256 .bf16
  | 0 => dqOut Y cc b h
  | 1 => dkOut Y cc b h ds
  | 2 => dvOut Y cc b h ds
  | 3 => dgbT Y cc b h

theorem out_step (rd : ℕ → List (View.Piece (Elt F) S2x4x256x256 .f32) → Fin 2 → Fin 4 → Vec F S1x1x256x256 .f32)
    (init : List (View.Piece (Elt F) S2x4x256x256 .f32)) (cc' b' : Fin 2) (h' : Fin 4) (l : List (Fin 2 × Fin 2 × Fin 4)) (cc b : Fin 2) (p h : Fin 4) :
    View.ld (View.canon (outStores Y rd init ((cc', b', h') :: l))) (rOut cc b p h) =
      if cc' = cc ∧ b' = b ∧ h' = h then partT Y cc b h (rd l.length (dsStores Y rd init l) b h) p
      else View.ld (View.canon (outStores Y rd init l)) (rOut cc b p h) := by
  split
  · next e =>
    obtain ⟨rfl, rfl, rfl⟩ := e
    have d : ∀ p' : Fin 4, p' ≠ p → LoadRect.disj (rOut cc' b' p' h') (rOut cc' b' p h').toLoadRect = true :=
      fun p' hp => disjOut cc' b' p h' cc' b' p' h' (fun ⟨_, _, e, _⟩ => hp e)
    unfold outStores
    match p with
    | 0 => rw [ld_miss _ _ _ _ (d 2 (by decide)), ld_miss _ _ _ _ (d 1 (by decide))]; exact ld_hit _ _ _
    | 1 => rw [ld_miss _ _ _ _ (d 2 (by decide))]; exact ld_hit _ _ _
    | 2 => exact ld_hit _ _ _
    | 3 => rw [ld_miss _ _ _ _ (d 2 (by decide)), ld_miss _ _ _ _ (d 1 (by decide)), ld_miss _ _ _ _ (d 0 (by decide))]; exact ld_hit _ _ _
  · next e =>
    have d : ∀ p' : Fin 4, LoadRect.disj (rOut cc' b' p' h') (rOut cc b p h).toLoadRect = true :=
      fun p' => disjOut cc b p h cc' b' p' h' (fun ⟨e1, e2, _, e4⟩ => e ⟨e1, e2, e4⟩)
    exact (ld_miss _ _ _ _ (d 2)).trans ((ld_miss _ _ _ _ (d 1)).trans ((ld_miss _ _ _ _ (d 0)).trans (ld_miss _ _ _ _ (d 3))))

/-! ## A grid point -/

/-- The carried gradient of one head as chunk `cc` meets it: the later chunk meets what the point before left. -/
def dsIn (x : Vec F S1x1x256x256 .f32) (cc b : Fin 2) (h : Fin 4) : Vec F S1x1x256x256 .f32 :=
  if cc = 1 then x else dsT Y 1 b h x

/-- What a point adds to one head of the gain's gradient. -/
def gainPt (h : Fin 4) (x : Vec F S1x1x256 .f32) : FVec F S1x1x256 .f32 :=
  dgainT Y 0 1 h (dgainT Y 0 0 h (dgainT Y 1 1 h (dgainT Y 1 0 h x)))

/-- What a point does to one head of the carried gradient. -/
def dsPt (b : Fin 2) (h : Fin 4) (x : Vec F S1x1x256x256 .f32) : FVec F S1x1x256x256 .f32 := dsT Y 0 b h (dsT Y 1 b h x)

theorem fill_read {s : Shape} {e : EltTy} {off : Fin s.rank → ℕ} (h : off = fun _ => 0) (inb : ∀ a, off a + s.size a ≤ s.size a) (w : Vec F s e) (r : Rect s) :
    View.ld (View.canon [(⟨Rect.unit off s.size inb, w⟩ : View.Piece (Elt F) s e)]) r = View.ld w r := by
  rw [View.canon_unit_zero h]

theorem gain_fill (h : Fin 4) : View.ld (View.canon (gainStores Y rdG fillG [])) (rHead h) = View.ld k0_pay4 (rHead h) := by
  rw [gainStores, fillG]
  exact fill_read (s := S4x1x256) (e := .f32) (funext (by decide)) _ _ _

theorem ds_fill (b : Fin 2) (h : Fin 4) : View.ld (View.canon (dsStores Y rdD fillD [])) (rDs b h) = View.ld k0_pay3 (rDs b h) := by
  rw [dsStores, fillD]
  exact fill_read (s := S2x4x256x256) (e := .f32) (funext (by decide)) _ _ _

theorem gain_first (h : Fin 4) : View.ld (View.canon (gainStores Y rdG fillG order)) (rHead h) = gainPt Y h (View.ld k0_pay4 (rHead h)) := by
  match h with
  | 0 | 1 | 2 | 3 => simp [order, gain_step, rdG, gain_fill, gainPt]

theorem gain_later (x : Vec F S4x1x256 .f32) (h : Fin 4) :
    View.ld (View.canon (gainStores Y (rdG' x) [] order)) (rHead h) = gainPt Y h (View.ld x (rHead h)) := by
  match h with
  | 0 | 1 | 2 | 3 => simp [order, gain_step, rdG', gainPt]

theorem ds_first (b : Fin 2) (h : Fin 4) :
    View.ld (View.canon (dsStores Y rdD fillD order)) (rDs b h) = dsPt Y b h (View.ld k0_pay3 (rDs b h)) := by
  match b, h with
  | 0, 0 | 0, 1 | 0, 2 | 0, 3 | 1, 0 | 1, 1 | 1, 2 | 1, 3 => simp [order, ds_step, rdD, ds_fill, dsPt]

theorem ds_later (y : Vec F S2x4x256x256 .f32) (b : Fin 2) (h : Fin 4) :
    View.ld (View.canon (dsStores Y (rdD' y) [] order)) (rDs b h) = dsPt Y b h (View.ld y (rDs b h)) := by
  match b, h with
  | 0, 0 | 0, 1 | 0, 2 | 0, 3 | 1, 0 | 1, 1 | 1, 2 | 1, 3 => simp [order, ds_step, rdD', dsPt]

theorem out_first (cc b : Fin 2) (p h : Fin 4) :
    View.ld (View.canon (outStores Y rdD fillD order)) (rOut cc b p h) = partT Y cc b h (dsIn Y (View.ld k0_pay3 (rDs b h)) cc b h) p := by
  match cc, b, h with
  | 0, 0, 0 | 0, 0, 1 | 0, 0, 2 | 0, 0, 3 | 0, 1, 0 | 0, 1, 1 | 0, 1, 2 | 0, 1, 3
  | 1, 0, 0 | 1, 0, 1 | 1, 0, 2 | 1, 0, 3 | 1, 1, 0 | 1, 1, 1 | 1, 1, 2 | 1, 1, 3 => simp [order, out_step, ds_step, rdD, ds_fill, dsIn]

theorem out_later (y : Vec F S2x4x256x256 .f32) (cc b : Fin 2) (p h : Fin 4) :
    View.ld (View.canon (outStores Y (rdD' y) [] order)) (rOut cc b p h) = partT Y cc b h (dsIn Y (View.ld y (rDs b h)) cc b h) p := by
  match cc, b, h with
  | 0, 0, 0 | 0, 0, 1 | 0, 0, 2 | 0, 0, 3 | 0, 1, 0 | 0, 1, 1 | 0, 1, 2 | 0, 1, 3
  | 1, 0, 0 | 1, 0, 1 | 1, 0, 2 | 1, 0, 3 | 1, 1, 0 | 1, 1, 1 | 1, 1, 2 | 1, 1, 3 => simp [order, out_step, ds_step, rdD', dsIn]

end Cert.KernelIdeal.Body

end
-- ==== Proof.Points.lean ====
/- The eight grid points in order: what each leaves of the carried gradient and of the gain's gradient, and so what the two
   result arrays hold when the kernel ends. The blocks are walked from the last one back, so point `t` works on the chunks
   `2 (7 - t)` and `2 (7 - t) + 1`. -/
module

public import proofs.«01_k».proof.Proof.Readback
public import Idealize.ShloMosaic.Lib.Pipeline.ValueKit

@[expose] public section

set_option maxRecDepth 65536

noncomputable section

namespace Cert.KernelIdeal.Body

open Idealize.ShloMosaic Idealize.ShloMosaic.TcCoe Idealize.ShloMosaic.Tactic Cert.KernelIdeal Cert.KernelIdeal.Gen

variable {F : FTy → Type} [FloatOps F] (m : (ℓ : Loc nD τ sig) → Buf (Elt F) ℓ) (c : Dev nD)

/-! ## Indices -/

/-- The chunk point `t` works on as its chunk `cc`. -/
def ch (t : Fin cfg0.N) (cc : Fin 2) : Fin 16 :=
  ⟨2 * (7 - t.val) + cc.val, by have := cc.isLt; omega⟩
/-- Row `i` of chunk `n` of the sequence. -/
def sq (n : Fin 16) (i : Fin 128) : Fin 2048 := ⟨128 * n.val + i.val, by have := n.isLt; have := i.isLt; omega⟩
/-- Column `d` of head `h`. -/
def cl (h : Fin 4) (d : Fin 256) : Fin 1024 := ⟨256 * h.val + d.val, by have := h.isLt; have := d.isLt; omega⟩
/-- Column `d` of head `h` of part `p`. -/
def pc (p h : Fin 4) (d : Fin 256) : Fin 4096 :=
  ⟨1024 * p.val + (256 * h.val + d.val), by have := h.isLt; have := d.isLt; have := p.isLt; omega⟩

/-! ## The points in order -/

/-- The carried gradient of one head before point `n`. -/
def dsAt (b : Fin 2) (h : Fin 4) : ℕ → Vec F S1x1x256x256 .f32
  | 0 => View.ld k0_pay3 (rDs b h)
  | n + 1 => if hn : n < cfg0.N then dsPt (blk m c ⟨n, hn⟩) b h (dsAt b h n) else dsAt b h n

/-- The gain's gradient of one head before point `n`. -/
def gainAt (h : Fin 4) : ℕ → Vec F S1x1x256 .f32
  | 0 => View.ld k0_pay4 (rHead h)
  | n + 1 => if hn : n < cfg0.N then gainPt (blk m c ⟨n, hn⟩) h (gainAt h n) else gainAt h n

theorem mod8 {n : ℕ} (hn : n < cfg0.N) : n % 8 = n := Nat.mod_eq_of_lt hn

/-- WHAT THE POINTS LEAVE. -/
theorem after_point : ∀ (n : ℕ) (hn : n < cfg0.N),
    (∀ h, View.ld (outsAt0 m c n hn).2.1 (rHead h) = gainAt m c h (n + 1)) ∧
    (∀ b h, View.ld (outsAt0 m c n hn).2.2 (rDs b h) = dsAt m c b h (n + 1)) ∧
    (∀ cc b p h, View.ld (outsAt0 m c n hn).1 (rOut cc b p h) =
      partT (blk m c ⟨n, hn⟩) cc b h (dsIn (blk m c ⟨n, hn⟩) (dsAt m c b h n) cc b h) p)
  | 0, hn => by
    have e := outs_first m c ⟨0, hn⟩ rfl
    dsimp only at e
    rw [e]
    refine ⟨fun h => ?_, fun b h => ?_, fun cc b p h => ?_⟩
    · rw [gain_first, gainAt, dif_pos hn]; rfl
    · rw [ds_first, dsAt, dif_pos hn]; rfl
    · rw [out_first]; rfl
  | n + 1, hn => by
    obtain ⟨ih1, ih2, _⟩ := after_point n (Nat.lt_of_succ_lt hn)
    have e := outs_later m c ⟨n + 1, hn⟩ (by rw [mod8 hn]; exact Nat.succ_ne_zero n)
      (outsAt0 m c n (Nat.lt_of_succ_lt hn)).2.1 (outsAt0 m c n (Nat.lt_of_succ_lt hn)).2.2 rfl
    dsimp only at e
    rw [e]
    refine ⟨fun h => ?_, fun b h => ?_, fun cc b p h => ?_⟩
    · rw [gain_later, gainAt, dif_pos hn, ih1]
    · rw [ds_later, dsAt, dif_pos hn, ih2]
    · rw [out_later, ih2]

/-! ## The result arrays -/

/-- A block of the gradient is its parts. -/
theorem out_cover (y : S2x256x4096.Idx) : ∃ (cc b : Fin 2) (p h : Fin 4) (i : Fin 128) (d : Fin 256),
    y = (rOut cc b p h).emb (ix3 0 i d) := by
  have h0 : (y 0).val < 2 := (y 0).isLt
  have h1 : (y 1).val < 256 := (y 1).isLt
  have h2 : (y 2).val < 4096 := (y 2).isLt
  refine ⟨⟨(y 1).val / 128, by omega⟩, ⟨(y 0).val, h0⟩, ⟨(y 2).val / 1024, by omega⟩, ⟨(y 2).val % 1024 / 256, by omega⟩,
    ⟨(y 1).val % 128, by omega⟩, ⟨(y 2).val % 256, by omega⟩, ?_⟩
  funext a
  apply Fin.ext
  match a with
  | ⟨0, _⟩ => show (y 0).val = (y 0).val + 1 * 0; omega
  | ⟨1, _⟩ => show (y 1).val = (y 1).val / 128 * 128 + 1 * ((y 1).val % 128); omega
  | ⟨2, _⟩ => show (y 2).val = (y 2).val / 1024 * 1024 + (y 2).val % 1024 / 256 * 256 + 1 * ((y 2).val % 256); omega

theorem idx14 : ∀ t : Fin cfg0.N, win0_14.index t = ![0, 7 - t.val, 0] :=
  (by decide +kernel : ∀ t : Fin grid0.N, win0_14.index t = ![0, 7 - t.val, 0])

/-- THE GRADIENT'S ARRAY is any array which holds, at each chunk's rows and each part's columns, what the point stored. -/
theorem final14 (G : Vec F S2x2048x4096 .bf16)
    (hG : ∀ (t : Fin cfg0.N) (cc b : Fin 2) (p h : Fin 4) (i : Fin 128) (d : Fin 256),
      partT (blk m c t) cc b h (dsIn (blk m c t) (dsAt m c b h t.val) cc b h) p (ix3 0 i d)
        = G (ix3 b (sq (ch t cc) i) (pc p h d))) :
    (dats m 0 c).arrAt 14 cfg0.N = G := by
  refine (dats m 0 c).arrAt_eq_of_covers 14 _ (by decide +kernel) fun t _ y => ?_
  blk_simp
  rw [after0_14]
  obtain ⟨cc, b, p, h, i, d, hy⟩ := out_cover y
  have e := congrFun ((after_point m c t.val t.isLt).2.2 cc b p h) (ix3 0 i d)
  have e2 := hG t cc b p h i d
  rw [hy]
  refine (e.trans e2).trans (congrArg G ?_)
  subst hy
  have hcc := cc.isLt
  have ht : t.val < 8 := t.isLt
  funext a
  apply Fin.ext
  match a with
  | ⟨0, _⟩ => blk_simp [idx14 t]; rfl
  | ⟨1, _⟩ => blk_simp [idx14 t]; show 128 * (2 * (7 - t.val) + cc.val) + i.val = (7 - t.val) * 256 + (cc.val * 128 + i.val); omega
  | ⟨2, _⟩ => blk_simp [idx14 t]; show 1024 * p.val + (256 * h.val + d.val) = p.val * 1024 + h.val * 256 + d.val; omega

/-- THE GAIN'S GRADIENT is what the last point leaves. -/
theorem final15 (G : Vec F S4x1x256 .f32) (hG : ∀ (h : Fin 4) (d : Fin 256), gainAt m c h 8 (ix3 0 0 d) = G (ix3 h 0 d)) :
    (dats m 0 c).arrAt 15 cfg0.N = G := by
  refine (dats m 0 c).arrAt_eq_of_after_last 15 ⟨7, by decide⟩ (by decide +kernel) G fun j => ?_
  refine (congrFun (after0_15 m c _) _).trans ?_
  have e := congrFun ((after_point m c 7 (by decide)).1 (j 0)) (ix3 0 0 (j 2))
  refine Eq.trans ?_ ((e.trans (hG (j 0) (j 2))).trans (congrArg G ?_))
  · show _ = (outsAt0 m c 7 _).2.1 _
    refine congrArg _ (funext fun a => Fin.ext ?_)
    match a with
    | ⟨0, _⟩ => show (j 0).val = (j 0).val + 1 * 0; omega
    | ⟨1, _⟩ => show (j 1).val = 0 + 1 * 0; have : (j 1).val < 1 := (j 1).isLt; omega
    | ⟨2, _⟩ => show (j 2).val = 0 + 1 * (j 2).val; omega
  · funext a
    apply Fin.ext
    match a with
    | ⟨0, _⟩ => rfl
    | ⟨1, _⟩ => show 0 = (j 1).val; have : (j 1).val < 1 := (j 1).isLt; omega
    | ⟨2, _⟩ => rfl

end Cert.KernelIdeal.Body

end
-- ==== Proof.Blocks.lean ====
/- The input blocks of a grid point, read at an index: each is an element of the arrays the reference computes with. -/
module

public import proofs.«01_k».proof.Proof.HostWin
public import proofs.«01_k».proof.Proof.Points

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

variable (m : (ℓ : Loc nD τ sig) → Buf (Elt Ideal) ℓ) (c : Dev nD) (t : Fin cfg0.N) (cc b : Fin 2) (h : Fin 4)

/-- Column `d` of head `h` of the projections' group `g`. -/
def gc (g : Fin 8) (h : Fin 4) (d : Fin 256) : Fin 8192 :=
  ⟨1024 * g.val + (256 * h.val + d.val), by have := g.isLt; have := h.isLt; have := d.isLt; omega⟩

/-! ## The blocks, as elements of the arrays the windows read -/

theorem index0 : ∀ t : Fin cfg0.N, win0_0.index t = ![0, 7 - t.val, 0] :=
  (by decide +kernel : ∀ t : Fin grid0.N, win0_0.index t = ![0, 7 - t.val, 0])

theorem ld_dy (i : Fin 128) (d : Fin 256) : View.ld (blk m c t).dy (rRows cc b h) (ix3 0 i d) = V m c main_v304 (ix3 b (sq (ch t cc) i) (cl h d)) := by
  have e : View.ld (blk m c t).dy (rRows cc b h) (ix3 0 i d) = V m c main_v304 ((win0_0.blk t).view.emb ((rRows cc b h).toLoadRect.idx (ix3 0 i d))) := rfl
  rw [e]
  refine congrArg _ (funext fun a => Fin.ext ?_)
  have hcc := cc.isLt
  have ht : t.val < 8 := t.isLt
  match a with
  | ⟨0, _⟩ => show win0_0.index t 0 * 2 + 1 * (b.val + 1 * 0) = b.val; rw [index0 t]; show 0 * 2 + 1 * (b.val + 1 * 0) = b.val; omega
  | ⟨1, _⟩ => show win0_0.index t 1 * 256 + 1 * (cc.val * 128 + 1 * i.val) = 128 * (2 * (7 - t.val) + cc.val) + i.val; rw [index0 t]; show (7 - t.val) * 256 + 1 * (cc.val * 128 + 1 * i.val) = 128 * (2 * (7 - t.val) + cc.val) + i.val; omega
  | ⟨2, _⟩ => show win0_0.index t 2 * 1024 + 1 * (h.val * 256 + 1 * d.val) = 256 * h.val + d.val; rw [index0 t]; show 0 * 1024 + 1 * (h.val * 256 + 1 * d.val) = 256 * h.val + d.val; omega

theorem index1 : ∀ t : Fin cfg0.N, win0_1.index t = ![0, 7 - t.val, 0] :=
  (by decide +kernel : ∀ t : Fin grid0.N, win0_1.index t = ![0, 7 - t.val, 0])

theorem ld_o (i : Fin 128) (d : Fin 256) : View.ld (blk m c t).o (rRows cc b h) (ix3 0 i d) = V m c main_v305 (ix3 b (sq (ch t cc) i) (cl h d)) := by
  have e : ∀ W : (a : Ref sig .tc) → Buf (Elt Ideal) ((c : Thread nD τ).loc a),
      View.ld (((cfg0.win 1).blk t).view.read (Elt Ideal) (W (Pipeline.arrRef spec0 1))) (rRows cc b h) (ix3 0 i d) =
        W main_v305 ((win0_1.blk t).view.emb ((rRows cc b h).toLoadRect.idx (ix3 0 i d))) := fun _ => rfl
  refine (e (V m c)).trans ?_
  clear e
  generalize V m c main_v305 = A
  refine congrArg _ (funext fun a => Fin.ext ?_)
  have hcc := cc.isLt
  have ht : t.val < 8 := t.isLt
  match a with
  | ⟨0, _⟩ => show win0_1.index t 0 * 2 + 1 * (b.val + 1 * 0) = b.val; rw [index1 t]; show 0 * 2 + 1 * (b.val + 1 * 0) = b.val; omega
  | ⟨1, _⟩ => show win0_1.index t 1 * 256 + 1 * (cc.val * 128 + 1 * i.val) = 128 * (2 * (7 - t.val) + cc.val) + i.val; rw [index1 t]; show (7 - t.val) * 256 + 1 * (cc.val * 128 + 1 * i.val) = 128 * (2 * (7 - t.val) + cc.val) + i.val; omega
  | ⟨2, _⟩ => show win0_1.index t 2 * 1024 + 1 * (h.val * 256 + 1 * d.val) = 256 * h.val + d.val; rw [index1 t]; show 0 * 1024 + 1 * (h.val * 256 + 1 * d.val) = 256 * h.val + d.val; omega

theorem index2 : ∀ t : Fin cfg0.N, win0_2.index t = ![0, 7 - t.val, 2] :=
  (by decide +kernel : ∀ t : Fin grid0.N, win0_2.index t = ![0, 7 - t.val, 2])

theorem ld_q (i : Fin 128) (d : Fin 256) : View.ld (blk m c t).q (rRows cc b h) (ix3 0 i d) = V m c main_v303 (ix3 b (sq (ch t cc) i) (gc 2 h d)) := by
  have e : View.ld (blk m c t).q (rRows cc b h) (ix3 0 i d) = V m c main_v303 ((win0_2.blk t).view.emb ((rRows cc b h).toLoadRect.idx (ix3 0 i d))) := rfl
  rw [e]
  refine congrArg _ (funext fun a => Fin.ext ?_)
  have hcc := cc.isLt
  have ht : t.val < 8 := t.isLt
  match a with
  | ⟨0, _⟩ => show win0_2.index t 0 * 2 + 1 * (b.val + 1 * 0) = b.val; rw [index2 t]; show 0 * 2 + 1 * (b.val + 1 * 0) = b.val; omega
  | ⟨1, _⟩ => show win0_2.index t 1 * 256 + 1 * (cc.val * 128 + 1 * i.val) = 128 * (2 * (7 - t.val) + cc.val) + i.val; rw [index2 t]; show (7 - t.val) * 256 + 1 * (cc.val * 128 + 1 * i.val) = 128 * (2 * (7 - t.val) + cc.val) + i.val; omega
  | ⟨2, _⟩ => show win0_2.index t 2 * 1024 + 1 * (h.val * 256 + 1 * d.val) = 1024 * 2 + (256 * h.val + d.val); rw [index2 t]; show 2 * 1024 + 1 * (h.val * 256 + 1 * d.val) = 1024 * 2 + (256 * h.val + d.val); omega

theorem index3 : ∀ t : Fin cfg0.N, win0_3.index t = ![0, 7 - t.val, 3] :=
  (by decide +kernel : ∀ t : Fin grid0.N, win0_3.index t = ![0, 7 - t.val, 3])

theorem ld_k (i : Fin 128) (d : Fin 256) : View.ld (blk m c t).k (rRows cc b h) (ix3 0 i d) = V m c main_v303 (ix3 b (sq (ch t cc) i) (gc 3 h d)) := by
  have e : View.ld (blk m c t).k (rRows cc b h) (ix3 0 i d) = V m c main_v303 ((win0_3.blk t).view.emb ((rRows cc b h).toLoadRect.idx (ix3 0 i d))) := rfl
  rw [e]
  refine congrArg _ (funext fun a => Fin.ext ?_)
  have hcc := cc.isLt
  have ht : t.val < 8 := t.isLt
  match a with
  | ⟨0, _⟩ => show win0_3.index t 0 * 2 + 1 * (b.val + 1 * 0) = b.val; rw [index3 t]; show 0 * 2 + 1 * (b.val + 1 * 0) = b.val; omega
  | ⟨1, _⟩ => show win0_3.index t 1 * 256 + 1 * (cc.val * 128 + 1 * i.val) = 128 * (2 * (7 - t.val) + cc.val) + i.val; rw [index3 t]; show (7 - t.val) * 256 + 1 * (cc.val * 128 + 1 * i.val) = 128 * (2 * (7 - t.val) + cc.val) + i.val; omega
  | ⟨2, _⟩ => show win0_3.index t 2 * 1024 + 1 * (h.val * 256 + 1 * d.val) = 1024 * 3 + (256 * h.val + d.val); rw [index3 t]; show 3 * 1024 + 1 * (h.val * 256 + 1 * d.val) = 1024 * 3 + (256 * h.val + d.val); omega

theorem index4 : ∀ t : Fin cfg0.N, win0_4.index t = ![0, 7 - t.val, 4] :=
  (by decide +kernel : ∀ t : Fin grid0.N, win0_4.index t = ![0, 7 - t.val, 4])

theorem ld_v (i : Fin 128) (d : Fin 256) : View.ld (blk m c t).v (rRows cc b h) (ix3 0 i d) = V m c main_v303 (ix3 b (sq (ch t cc) i) (gc 4 h d)) := by
  have e : View.ld (blk m c t).v (rRows cc b h) (ix3 0 i d) = V m c main_v303 ((win0_4.blk t).view.emb ((rRows cc b h).toLoadRect.idx (ix3 0 i d))) := rfl
  rw [e]
  refine congrArg _ (funext fun a => Fin.ext ?_)
  have hcc := cc.isLt
  have ht : t.val < 8 := t.isLt
  match a with
  | ⟨0, _⟩ => show win0_4.index t 0 * 2 + 1 * (b.val + 1 * 0) = b.val; rw [index4 t]; show 0 * 2 + 1 * (b.val + 1 * 0) = b.val; omega
  | ⟨1, _⟩ => show win0_4.index t 1 * 256 + 1 * (cc.val * 128 + 1 * i.val) = 128 * (2 * (7 - t.val) + cc.val) + i.val; rw [index4 t]; show (7 - t.val) * 256 + 1 * (cc.val * 128 + 1 * i.val) = 128 * (2 * (7 - t.val) + cc.val) + i.val; omega
  | ⟨2, _⟩ => show win0_4.index t 2 * 1024 + 1 * (h.val * 256 + 1 * d.val) = 1024 * 4 + (256 * h.val + d.val); rw [index4 t]; show 4 * 1024 + 1 * (h.val * 256 + 1 * d.val) = 1024 * 4 + (256 * h.val + d.val); omega

theorem index5 : ∀ t : Fin cfg0.N, win0_5.index t = ![0, 7 - t.val, 5] :=
  (by decide +kernel : ∀ t : Fin grid0.N, win0_5.index t = ![0, 7 - t.val, 5])

theorem ld_gb (i : Fin 128) (d : Fin 256) : View.ld (blk m c t).gb (rRows cc b h) (ix3 0 i d) = V m c main_v303 (ix3 b (sq (ch t cc) i) (gc 5 h d)) := by
  have e : View.ld (blk m c t).gb (rRows cc b h) (ix3 0 i d) = V m c main_v303 ((win0_5.blk t).view.emb ((rRows cc b h).toLoadRect.idx (ix3 0 i d))) := rfl
  rw [e]
  refine congrArg _ (funext fun a => Fin.ext ?_)
  have hcc := cc.isLt
  have ht : t.val < 8 := t.isLt
  match a with
  | ⟨0, _⟩ => show win0_5.index t 0 * 2 + 1 * (b.val + 1 * 0) = b.val; rw [index5 t]; show 0 * 2 + 1 * (b.val + 1 * 0) = b.val; omega
  | ⟨1, _⟩ => show win0_5.index t 1 * 256 + 1 * (cc.val * 128 + 1 * i.val) = 128 * (2 * (7 - t.val) + cc.val) + i.val; rw [index5 t]; show (7 - t.val) * 256 + 1 * (cc.val * 128 + 1 * i.val) = 128 * (2 * (7 - t.val) + cc.val) + i.val; omega
  | ⟨2, _⟩ => show win0_5.index t 2 * 1024 + 1 * (h.val * 256 + 1 * d.val) = 1024 * 5 + (256 * h.val + d.val); rw [index5 t]; show 5 * 1024 + 1 * (h.val * 256 + 1 * d.val) = 1024 * 5 + (256 * h.val + d.val); omega

theorem index6 : ∀ t : Fin cfg0.N, win0_6.index t = ![7 - t.val, 0, 0, 0, 0] :=
  (by decide +kernel : ∀ t : Fin grid0.N, win0_6.index t = ![7 - t.val, 0, 0, 0, 0])

theorem ld_st (d e : Fin 256) : View.ld (blk m c t).st (rSt cc b h) (ix5 0 0 0 d e) = V m c main_v301 (ix5 (ch t cc) b h d e) := by
  have e' : View.ld (blk m c t).st (rSt cc b h) (ix5 0 0 0 d e) = V m c main_v301 ((win0_6.blk t).view.emb ((rSt cc b h).toLoadRect.idx (ix5 0 0 0 d e))) := rfl
  rw [e']
  refine congrArg _ (funext fun a => Fin.ext ?_)
  have hcc := cc.isLt
  have ht : t.val < 8 := t.isLt
  match a with
  | ⟨0, _⟩ => show win0_6.index t 0 * 2 + 1 * (cc.val + 1 * 0) = 2 * (7 - t.val) + cc.val; rw [index6 t]; show (7 - t.val) * 2 + 1 * (cc.val + 1 * 0) = 2 * (7 - t.val) + cc.val; omega
  | ⟨1, _⟩ => show win0_6.index t 1 * 2 + 1 * (b.val + 1 * 0) = b.val; rw [index6 t]; show 0 * 2 + 1 * (b.val + 1 * 0) = b.val; omega
  | ⟨2, _⟩ => show win0_6.index t 2 * 4 + 1 * (h.val + 1 * 0) = h.val; rw [index6 t]; show 0 * 4 + 1 * (h.val + 1 * 0) = h.val; omega
  | ⟨3, _⟩ => show win0_6.index t 3 * 256 + 1 * (0 + 1 * d.val) = d.val; rw [index6 t]; show 0 * 256 + 1 * (0 + 1 * d.val) = d.val; omega
  | ⟨4, _⟩ => show win0_6.index t 4 * 256 + 1 * (0 + 1 * e.val) = e.val; rw [index6 t]; show 0 * 256 + 1 * (0 + 1 * e.val) = e.val; omega

theorem index7 : ∀ t : Fin cfg0.N, win0_7.index t = ![7 - t.val, 0] :=
  (by decide +kernel : ∀ t : Fin grid0.N, win0_7.index t = ![7 - t.val, 0])

theorem ld_cos (i j : Fin 128) : View.ld (blk m c t).cos (rTrig cc) (ix2 i j) = V m c main_v298 (ix2 (sq (ch t cc) i) j) := by
  have e : View.ld (blk m c t).cos (rTrig cc) (ix2 i j) = V m c main_v298 ((win0_7.blk t).view.emb ((rTrig cc).toLoadRect.idx (ix2 i j))) := rfl
  rw [e]
  refine congrArg _ (funext fun a => Fin.ext ?_)
  have hcc := cc.isLt
  have ht : t.val < 8 := t.isLt
  match a with
  | ⟨0, _⟩ => show win0_7.index t 0 * 256 + 1 * (cc.val * 128 + 1 * i.val) = 128 * (2 * (7 - t.val) + cc.val) + i.val; rw [index7 t]; show (7 - t.val) * 256 + 1 * (cc.val * 128 + 1 * i.val) = 128 * (2 * (7 - t.val) + cc.val) + i.val; omega
  | ⟨1, _⟩ => show win0_7.index t 1 * 128 + 1 * (0 + 1 * j.val) = j.val; rw [index7 t]; show 0 * 128 + 1 * (0 + 1 * j.val) = j.val; omega

theorem index8 : ∀ t : Fin cfg0.N, win0_8.index t = ![7 - t.val, 0] :=
  (by decide +kernel : ∀ t : Fin grid0.N, win0_8.index t = ![7 - t.val, 0])

theorem ld_sin (i j : Fin 128) : View.ld (blk m c t).sin (rTrig cc) (ix2 i j) = V m c main_v299 (ix2 (sq (ch t cc) i) j) := by
  have e : View.ld (blk m c t).sin (rTrig cc) (ix2 i j) = V m c main_v299 ((win0_8.blk t).view.emb ((rTrig cc).toLoadRect.idx (ix2 i j))) := rfl
  rw [e]
  refine congrArg _ (funext fun a => Fin.ext ?_)
  have hcc := cc.isLt
  have ht : t.val < 8 := t.isLt
  match a with
  | ⟨0, _⟩ => show win0_8.index t 0 * 256 + 1 * (cc.val * 128 + 1 * i.val) = 128 * (2 * (7 - t.val) + cc.val) + i.val; rw [index8 t]; show (7 - t.val) * 256 + 1 * (cc.val * 128 + 1 * i.val) = 128 * (2 * (7 - t.val) + cc.val) + i.val; omega
  | ⟨1, _⟩ => show win0_8.index t 1 * 128 + 1 * (0 + 1 * j.val) = j.val; rw [index8 t]; show 0 * 128 + 1 * (0 + 1 * j.val) = j.val; omega

theorem index9 : ∀ t : Fin cfg0.N, win0_9.index t = ![0, 0, 0] :=
  (by decide +kernel : ∀ t : Fin grid0.N, win0_9.index t = ![0, 0, 0])

theorem ld_dm (i j : Fin 128) : View.ld (blk m c t).dm (rSq h) (ix3 0 i j) = V m c main_v274 (ix3 h i j) := by
  have e : View.ld (blk m c t).dm (rSq h) (ix3 0 i j) = V m c main_v274 ((win0_9.blk t).view.emb ((rSq h).toLoadRect.idx (ix3 0 i j))) := rfl
  rw [e]
  refine congrArg _ (funext fun a => Fin.ext ?_)
  match a with
  | ⟨0, _⟩ => show win0_9.index t 0 * 4 + 1 * (h.val + 1 * 0) = h.val; rw [index9 t]; show 0 * 4 + 1 * (h.val + 1 * 0) = h.val; omega
  | ⟨1, _⟩ => show win0_9.index t 1 * 128 + 1 * (0 + 1 * i.val) = i.val; rw [index9 t]; show 0 * 128 + 1 * (0 + 1 * i.val) = i.val; omega
  | ⟨2, _⟩ => show win0_9.index t 2 * 128 + 1 * (0 + 1 * j.val) = j.val; rw [index9 t]; show 0 * 128 + 1 * (0 + 1 * j.val) = j.val; omega

theorem index10 : ∀ t : Fin cfg0.N, win0_10.index t = ![0, 0, 0] :=
  (by decide +kernel : ∀ t : Fin grid0.N, win0_10.index t = ![0, 0, 0])

theorem ld_cd (i : Fin 128) : View.ld (blk m c t).cd (rCol h) (ix3 0 i 0) = V m c main_v283 (ix3 h i 0) := by
  have e : View.ld (blk m c t).cd (rCol h) (ix3 0 i 0) = V m c main_v283 ((win0_10.blk t).view.emb ((rCol h).toLoadRect.idx (ix3 0 i 0))) := rfl
  rw [e]
  refine congrArg _ (funext fun a => Fin.ext ?_)
  match a with
  | ⟨0, _⟩ => show win0_10.index t 0 * 4 + 1 * (h.val + 1 * 0) = h.val; rw [index10 t]; show 0 * 4 + 1 * (h.val + 1 * 0) = h.val; omega
  | ⟨1, _⟩ => show win0_10.index t 1 * 128 + 1 * (0 + 1 * i.val) = i.val; rw [index10 t]; show 0 * 128 + 1 * (0 + 1 * i.val) = i.val; omega
  | ⟨2, _⟩ => show win0_10.index t 2 * 1 + 1 * (0 + 1 * 0) = 0; rw [index10 t]; show 0 * 1 + 1 * (0 + 1 * 0) = 0; omega

theorem index11 : ∀ t : Fin cfg0.N, win0_11.index t = ![0, 0, 0] :=
  (by decide +kernel : ∀ t : Fin grid0.N, win0_11.index t = ![0, 0, 0])

theorem ld_sd (i : Fin 128) : View.ld (blk m c t).sd (rCol h) (ix3 0 i 0) = V m c main_v292 (ix3 h i 0) := by
  have e : View.ld (blk m c t).sd (rCol h) (ix3 0 i 0) = V m c main_v292 ((win0_11.blk t).view.emb ((rCol h).toLoadRect.idx (ix3 0 i 0))) := rfl
  rw [e]
  refine congrArg _ (funext fun a => Fin.ext ?_)
  match a with
  | ⟨0, _⟩ => show win0_11.index t 0 * 4 + 1 * (h.val + 1 * 0) = h.val; rw [index11 t]; show 0 * 4 + 1 * (h.val + 1 * 0) = h.val; omega
  | ⟨1, _⟩ => show win0_11.index t 1 * 128 + 1 * (0 + 1 * i.val) = i.val; rw [index11 t]; show 0 * 128 + 1 * (0 + 1 * i.val) = i.val; omega
  | ⟨2, _⟩ => show win0_11.index t 2 * 1 + 1 * (0 + 1 * 0) = 0; rw [index11 t]; show 0 * 1 + 1 * (0 + 1 * 0) = 0; omega

theorem index12 : ∀ t : Fin cfg0.N, win0_12.index t = ![0, 0, 0] :=
  (by decide +kernel : ∀ t : Fin grid0.N, win0_12.index t = ![0, 0, 0])

theorem ld_gam (d : Fin 256) : View.ld (blk m c t).gam (rHead h) (ix3 0 0 d) = V m c main_v297 (ix3 h 0 d) := by
  have e : View.ld (blk m c t).gam (rHead h) (ix3 0 0 d) = V m c main_v297 ((win0_12.blk t).view.emb ((rHead h).toLoadRect.idx (ix3 0 0 d))) := rfl
  rw [e]
  refine congrArg _ (funext fun a => Fin.ext ?_)
  match a with
  | ⟨0, _⟩ => show win0_12.index t 0 * 4 + 1 * (h.val + 1 * 0) = h.val; rw [index12 t]; show 0 * 4 + 1 * (h.val + 1 * 0) = h.val; omega
  | ⟨1, _⟩ => show win0_12.index t 1 * 1 + 1 * (0 + 1 * 0) = 0; rw [index12 t]; show 0 * 1 + 1 * (0 + 1 * 0) = 0; omega
  | ⟨2, _⟩ => show win0_12.index t 2 * 256 + 1 * (0 + 1 * d.val) = d.val; rw [index12 t]; show 0 * 256 + 1 * (0 + 1 * d.val) = d.val; omega

theorem index13 : ∀ t : Fin cfg0.N, win0_13.index t = ![0, 0, 0] :=
  (by decide +kernel : ∀ t : Fin grid0.N, win0_13.index t = ![0, 0, 0])

theorem ld_gain (d : Fin 256) : View.ld (blk m c t).gain (rHead h) (ix3 0 0 d) = V m c main_v302 (ix3 h 0 d) := by
  have e : View.ld (blk m c t).gain (rHead h) (ix3 0 0 d) = V m c main_v302 ((win0_13.blk t).view.emb ((rHead h).toLoadRect.idx (ix3 0 0 d))) := rfl
  rw [e]
  refine congrArg _ (funext fun a => Fin.ext ?_)
  match a with
  | ⟨0, _⟩ => show win0_13.index t 0 * 4 + 1 * (h.val + 1 * 0) = h.val; rw [index13 t]; show 0 * 4 + 1 * (h.val + 1 * 0) = h.val; omega
  | ⟨1, _⟩ => show win0_13.index t 1 * 1 + 1 * (0 + 1 * 0) = 0; rw [index13 t]; show 0 * 1 + 1 * (0 + 1 * 0) = 0; omega
  | ⟨2, _⟩ => show win0_13.index t 2 * 256 + 1 * (0 + 1 * d.val) = d.val; rw [index13 t]; show 0 * 256 + 1 * (0 + 1 * d.val) = d.val; omega

end Cert.KernelIdeal.Body

end
-- ==== Proof.Tables.lean ====
/- The decay columns, and the gate's and the states' blocks, as the reference's values. -/
module

public import proofs.«01_k».proof.Proof.Blocks

@[expose] public section

set_option maxRecDepth 65536

noncomputable section

namespace Cert.KernelIdeal.Host

open Idealize.ShloMosaic Idealize.ShloMosaic.TcCoe Idealize.ShloMosaic.Tactic Idealize.ShloMosaic.StableHlo Cert.KernelIdeal Cert.KernelIdeal.Gen
open Cert.ReferenceIdeal.Read

variable {F : FTy → Type} [FloatOps F] (m : (ℓ : Loc nD τ sig) → Buf (Elt F) ℓ) (c : Dev nD)

theorem v258_val : V m c main_v258 = val_main_v76 (F := F) := by sl_kernel_rfl
theorem v275_step : V m c main_v275 = broadcastInDim S1x128 ![1] bcast_S128_S1x128_1 (V m c main_v258) := by sl_kernel_rfl
theorem v276_val : V m c main_v276 = broadcastInDim S1x128 ![] bcast_S_S1x128 (val_main_cst_9 (F := F)) := by sl_kernel_rfl
theorem v277_step : V m c main_v277 = addf (V m c main_v275) (V m c main_v276) := by sl_kernel_rfl
theorem v278_step : V m c main_v278 = broadcastInDim S4x1 ![0] bcast_S4_S4x1_0 (V m c main_v257) := by sl_kernel_rfl
theorem v279_step : V m c main_v279 = broadcastInDim S4x128 ![0, 1] bcast_S1x128_S4x128_0_1 (V m c main_v277) := by sl_kernel_rfl
theorem v280_step : V m c main_v280 = broadcastInDim S4x128 ![0, 1] bcast_S4x1_S4x128_0_1 (V m c main_v278) := by sl_kernel_rfl
theorem v281_step : V m c main_v281 = mulf (V m c main_v279) (V m c main_v280) := by sl_kernel_rfl
theorem v282_step : V m c main_v282 = Host.exp (V m c main_v281) := by sl_kernel_rfl
theorem v283_step : V m c main_v283 = broadcastInDim S4x128x1 ![0, 1] bcast_S4x128_S4x128x1_0_1 (V m c main_v282) := by sl_kernel_rfl
theorem v284_step : V m c main_v284 = broadcastInDim S1x128 ![1] bcast_S128_S1x128_1 (V m c main_v258) := by sl_kernel_rfl
theorem v285_val : V m c main_v285 = broadcastInDim S1x128 ![] bcast_S_S1x128 (val_main_cst_10 (F := F)) := by sl_kernel_rfl
theorem v286_step : V m c main_v286 = subf (V m c main_v285) (V m c main_v284) := by sl_kernel_rfl
theorem v287_step : V m c main_v287 = broadcastInDim S4x1 ![0] bcast_S4_S4x1_0 (V m c main_v257) := by sl_kernel_rfl
theorem v288_step : V m c main_v288 = broadcastInDim S4x128 ![0, 1] bcast_S1x128_S4x128_0_1 (V m c main_v286) := by sl_kernel_rfl
theorem v289_step : V m c main_v289 = broadcastInDim S4x128 ![0, 1] bcast_S4x1_S4x128_0_1 (V m c main_v287) := by sl_kernel_rfl
theorem v290_step : V m c main_v290 = mulf (V m c main_v288) (V m c main_v289) := by sl_kernel_rfl
theorem v291_step : V m c main_v291 = Host.exp (V m c main_v290) := by sl_kernel_rfl
theorem v292_step : V m c main_v292 = broadcastInDim S4x128x1 ![0, 1] bcast_S4x128_S4x128x1_0_1 (V m c main_v291) := by sl_kernel_rfl

end Cert.KernelIdeal.Host

end
-- ==== Proof.RefLeaf.lean ====
/- The reference's arrays before its products, read at an index: chunk `n`, batch row `b`, row `i`, head `h`, column `d`. -/
module

public import proofs.«01_k».proof.Proof.Tables

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

/-- Columns of the two halves of a head. -/
def lo (j : Fin 128) : Fin 256 := ⟨j.val, by have := j.isLt; omega⟩
def hi (j : Fin 128) : Fin 256 := ⟨128 + j.val, by have := j.isLt; omega⟩

theorem lo_or_hi (d : Fin 256) : (∃ j, d = lo j) ∨ ∃ j, d = hi j := by
  have hd := d.isLt
  by_cases hc : d.val < 128
  · exact Or.inl ⟨⟨d.val, hc⟩, rfl⟩
  · exact Or.inr ⟨⟨d.val - 128, by omega⟩, Fin.ext (show d.val = 128 + (d.val - 128) by omega)⟩

variable (x0 : Vec Ideal S4096x1024 .f32) (x1 : Vec Ideal S4096x8192 .f32) (x2 : Vec Ideal S4x256 .f32)
  (n : Fin 16) (b : Fin 2) (s : Fin 2048) (i : Fin 128) (h : Fin 4) (d e : Fin 256) (j : Fin 128)

/-! ## The two halves of a head, side by side -/

theorem halves_lo (y z : Vec Ideal S2x2048x4x128 .f32)
    (hc : Shape.Concatenates [S2x2048x4x128, S2x2048x4x128] S2x2048x4x256 3) :
    concatenate S2x2048x4x256 3 [⟨S2x2048x4x128, y⟩, ⟨S2x2048x4x128, z⟩] hc (ix4 b s h (lo j)) = y (ix4 b s h j) :=
  concatenate_pair_apply_left (t := S2x2048x4x256) 3 y z hc (ix4 b s h (lo j)) rfl (ix4 b s h j)
    (fun a => match a with | ⟨0, _⟩ | ⟨1, _⟩ | ⟨2, _⟩ | ⟨3, _⟩ => rfl)

theorem halves_hi (y z : Vec Ideal S2x2048x4x128 .f32)
    (hc : Shape.Concatenates [S2x2048x4x128, S2x2048x4x128] S2x2048x4x256 3) :
    concatenate S2x2048x4x256 3 [⟨S2x2048x4x128, y⟩, ⟨S2x2048x4x128, z⟩] hc (ix4 b s h (hi j)) = z (ix4 b s h j) :=
  concatenate_pair_apply_right (t := S2x2048x4x256) 3 y z hc (ix4 b s h (hi j)) rfl rfl (ix4 b s h j)
    (fun a ha => match a with | ⟨0, _⟩ | ⟨1, _⟩ | ⟨2, _⟩ => rfl | ⟨3, _⟩ => absurd rfl ha)
    (show j.val + 128 = 128 + j.val by omega)

/-! ## The rotated query and key -/

theorem r35_lo : val_main_v35 x1 (ix4 b s h (lo j)) =
    val_main_v6 x1 (ix4 b s h (lo j)) * val_main_v19 (ix2 s j) - val_main_v6 x1 (ix4 b s h (hi j)) * val_main_v21 (ix2 s j) := by
  rw [val_main_v35, halves_lo, val_main_v29_apply, val_main_v26_apply, val_main_v28_apply, val_main_v23_apply, val_main_v24_apply, val_main_v25_apply, val_main_v27_apply, val_main_v20_apply, val_main_v22_apply]
  refine congrArg₂ HSub.hSub (congrArg₂ HMul.hMul ?_ ?_) (congrArg₂ HMul.hMul ?_ ?_) <;> blk_ext [lo, hi]

theorem r35_hi : val_main_v35 x1 (ix4 b s h (hi j)) =
    val_main_v6 x1 (ix4 b s h (lo j)) * val_main_v21 (ix2 s j) + val_main_v6 x1 (ix4 b s h (hi j)) * val_main_v19 (ix2 s j) := by
  rw [val_main_v35, halves_hi, val_main_v34_apply, val_main_v31_apply, val_main_v33_apply, val_main_v23_apply, val_main_v24_apply, val_main_v30_apply, val_main_v32_apply, val_main_v20_apply, val_main_v22_apply]
  refine congrArg₂ HAdd.hAdd (congrArg₂ HMul.hMul ?_ ?_) (congrArg₂ HMul.hMul ?_ ?_) <;> blk_ext [lo, hi]

theorem r49 : val_main_v49 (F := Ideal) = val_main_v19 := rfl
theorem r51 : val_main_v51 (F := Ideal) = val_main_v21 := rfl

theorem r65_lo : val_main_v65 x1 (ix4 b s h (lo j)) =
    val_main_v36 x1 (ix4 b s h (lo j)) * val_main_v19 (ix2 s j) - val_main_v36 x1 (ix4 b s h (hi j)) * val_main_v21 (ix2 s j) := by
  rw [← r49, ← r51, val_main_v65, halves_lo, val_main_v59_apply, val_main_v56_apply, val_main_v58_apply, val_main_v53_apply, val_main_v54_apply, val_main_v55_apply, val_main_v57_apply, val_main_v50_apply, val_main_v52_apply]
  refine congrArg₂ HSub.hSub (congrArg₂ HMul.hMul ?_ ?_) (congrArg₂ HMul.hMul ?_ ?_) <;> blk_ext [lo, hi]

theorem r65_hi : val_main_v65 x1 (ix4 b s h (hi j)) =
    val_main_v36 x1 (ix4 b s h (lo j)) * val_main_v21 (ix2 s j) + val_main_v36 x1 (ix4 b s h (hi j)) * val_main_v19 (ix2 s j) := by
  rw [← r49, ← r51, val_main_v65, halves_hi, val_main_v64_apply, val_main_v61_apply, val_main_v63_apply, val_main_v53_apply, val_main_v54_apply, val_main_v60_apply, val_main_v62_apply, val_main_v50_apply, val_main_v52_apply]
  refine congrArg₂ HAdd.hAdd (congrArg₂ HMul.hMul ?_ ?_) (congrArg₂ HMul.hMul ?_ ?_) <;> blk_ext [lo, hi]

/-! ## The chunked arrays -/

theorem r116 : val_main_v116 x1 (ix5 n b i h d) = val_main_v35 x1 (ix4 b (sq n i) h d) := by
  rw [val_main_v116_apply, val_main_v115_apply]; blk_ext [sq]

theorem r118 : val_main_v118 x1 (ix5 n b i h d) = val_main_v65 x1 (ix4 b (sq n i) h d) * Ideal.ofBits .f32 0x3D800000#32 := by
  rw [val_main_v118_apply, val_main_v117_apply, val_main_v67_apply, val_main_v66_apply, val_main_cst_3_apply]
  exact congrArg₂ HMul.hMul (by blk_ext [sq]) rfl

theorem r120 : val_main_v120 x1 (ix5 n b i h d) = val_main_v68 x1 (ix4 b (sq n i) h d) := by
  rw [val_main_v120_apply, val_main_v119_apply]; blk_ext [sq]

theorem r122 : val_main_v122 (F := Ideal) (ix5 n b i h d) = val_main_v109 (ix2 i h) := by
  rw [val_main_v122_apply, val_main_v110_apply]; blk_ext []

theorem r425 : val_main_v425 (F := Ideal) (ix5 n b i h d) = val_main_v109 (ix2 i h) := by
  rw [val_main_v425_apply, val_main_v110_apply]; blk_ext []

theorem r300 : val_main_v300 (F := Ideal) (ix5 n b i h d) = val_main_v100 (ix2 i h) := by
  rw [val_main_v300_apply, val_main_v101_apply]; blk_ext []

theorem r234 : val_main_v234 (F := Ideal) (ix5 n b i h d) = val_main_v100 (ix2 i h) := by
  rw [val_main_v234_apply, val_main_v101_apply]; blk_ext []

theorem r123 : val_main_v123 x1 (ix5 n b i h d) = val_main_v120 x1 (ix5 n b i h d) * val_main_v109 (ix2 i h) := by
  rw [val_main_v123_apply, r122]; rfl

theorem r228 (i' : Fin 128) : val_main_v228 (F := Ideal) (ix5 n b h i i') = val_main_v92 (ix3 h i i') := by
  rw [val_main_v228_apply, val_main_v227_apply]; blk_ext []

theorem r311 (i' : Fin 128) : val_main_v311 (F := Ideal) (ix5 n b h i i') = val_main_v92 (ix3 h i i') := by
  rw [val_main_v311_apply, val_main_v227_apply]; blk_ext []

/-! ## The blocks' elements, as the reference's -/

variable (m : (ℓ : Loc nD τ sig) → Buf (Elt Ideal) ℓ) (c : Dev nD)

theorem w_q : V m c main_v303 (ix3 b s (gc 2 h d)) = val_main_v6 (X1 m c) (ix4 b s h d) := by
  rw [V_v303, val_main_v6_apply, val_main_v2_apply, val_main_v1_apply, val_main_v0_apply]
  pointwise; blk_ext [gc]

theorem w_k : V m c main_v303 (ix3 b s (gc 3 h d)) = val_main_v36 (X1 m c) (ix4 b s h d) := by
  rw [V_v303, val_main_v36_apply, val_main_v3_apply, val_main_v1_apply, val_main_v0_apply]
  pointwise; blk_ext [gc]

theorem w_v : V m c main_v303 (ix3 b s (gc 4 h d)) = val_main_v68 (X1 m c) (ix4 b s h d) := by
  rw [V_v303, val_main_v68_apply, val_main_v4_apply, val_main_v1_apply, val_main_v0_apply]
  pointwise; blk_ext [gc]

theorem w_gb : V m c main_v303 (ix3 b s (gc 5 h d)) = val_main_v5 (X1 m c) (ix3 b s (cl h d)) := by
  rw [V_v303, val_main_v5_apply, val_main_v1_apply, val_main_v0_apply]
  pointwise; blk_ext [gc, cl]

theorem w_dy : V m c main_v304 (ix3 b s (cl h d)) = val_main_v264 (X0 m c) (ix3 b s (cl h d)) := by
  rw [V_v304, val_main_v264_apply]
  pointwise; blk_ext [cl]

theorem w_o : V m c main_v305 (ix3 b s (cl h d)) = val_main_v238 (X1 m c) (ix4 b s h d) := by
  rw [V_v305]
  generalize val_main_v238 (X1 m c) = y
  pointwise; blk_ext [cl]

theorem w_st : V m c main_v301 (ix5 n b h d e) = val_main_v225 (X1 m c) (ix5 n b h d e) := by
  rw [V_v301]
  generalize val_main_v225 (X1 m c) = y
  rfl

theorem w_gain : V m c main_v302 (ix3 h 0 d) = X2 m c (ix2 h d) := by
  rw [V_v302]
  pointwise; blk_ext []

theorem w_gam : V m c main_v297 (ix3 h 0 d) = val_main_v113 (ix1 h) := by
  rw [V_v297_of]
  generalize val_main_v113 (F := Ideal) = y
  pointwise; blk_ext []

theorem w_cd : V m c main_v283 (ix3 h i 0) = val_main_v100 (ix2 i h) := by
  rw [v283_step, v282_step, v281_step, v280_step, v279_step, v278_step, v277_step, v276_val, v275_step, v258_val, V_v257, val_main_v100_apply,
    val_main_v99_apply, val_main_v97_apply, val_main_v95_apply, val_main_v93_apply, val_main_v94_apply, val_main_v98_apply, val_main_v96_apply]
  generalize val_main_v76 (F := Ideal) = y
  generalize val_main_v75 (F := Ideal) = z
  generalize val_main_cst_9 (F := Ideal) = w
  pointwise
  reads_congr <;> blk_ext []

theorem w_sd : V m c main_v292 (ix3 h i 0) = val_main_v109 (ix2 i h) := by
  rw [v292_step, v291_step, v290_step, v289_step, v288_step, v287_step, v286_step, v285_val, v284_step, v258_val, V_v257, val_main_v109_apply,
    val_main_v108_apply, val_main_v106_apply, val_main_v104_apply, val_main_v102_apply, val_main_v103_apply, val_main_v107_apply, val_main_v105_apply]
  generalize val_main_v76 (F := Ideal) = y
  generalize val_main_v75 (F := Ideal) = z
  generalize val_main_cst_10 (F := Ideal) = w
  pointwise
  reads_congr <;> blk_ext []

end Cert.KernelIdeal.Body

end
-- ==== Proof.Tiles.lean ====
/- The kernel's tiles at an index, as the reference's arrays: chunk `ch t cc`, batch row `b`, head `h`. -/
module

public import proofs.«01_k».proof.Proof.RefLeaf

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

variable (m : (ℓ : Loc nD τ sig) → Buf (Elt Ideal) ℓ) (c : Dev nD) (t : Fin cfg0.N) (cc b : Fin 2) (h : Fin 4) (i i' : Fin 128) (d e : Fin 256) (j : Fin 128)

/-! ## Two halves side by side -/

theorem tile_lo {α : Type} (y z : S128x128.Idx → α) (hc : Shape.Concatenates [S128x128, S128x128] S128x256 1) :
    concatenate S128x256 1 [⟨S128x128, y⟩, ⟨S128x128, z⟩] hc (ix2 i (lo j)) = y (ix2 i j) :=
  concatenate_pair_apply_left (t := S128x256) 1 y z hc (ix2 i (lo j)) rfl (ix2 i j) (fun a => match a with | ⟨0, _⟩ | ⟨1, _⟩ => rfl)

theorem tile_hi {α : Type} (y z : S128x128.Idx → α) (hc : Shape.Concatenates [S128x128, S128x128] S128x256 1) :
    concatenate S128x256 1 [⟨S128x128, y⟩, ⟨S128x128, z⟩] hc (ix2 i (hi j)) = z (ix2 i j) :=
  concatenate_pair_apply_right (t := S128x256) 1 y z hc (ix2 i (hi j)) rfl rfl (ix2 i j)
    (fun a ha => match a with | ⟨0, _⟩ => rfl | ⟨1, _⟩ => absurd rfl ha) (show j.val + 128 = 128 + j.val by omega)

/-- Rounding to a narrower format changes no real number. -/
theorem truncf_at {s : Shape} (x : FVec Ideal s .f32) (hb : FTy.bits .bf16 < FTy.bits .f32) (k : s.Idx) : truncf .bf16 x hb k = x k := rfl

/-! ## Tables, query, key, value -/

theorem t_cos : cosT (blk m c t) cc (ix2 i j) = val_main_v19 (F := Ideal) (ix2 (sq (ch t cc) i) j) := by
  have e : cosT (blk m c t) cc (ix2 i j) = View.ld (blk m c t).cos (rTrig cc) (ix2 i j) := by
    unfold cosT k0_pay5; generalize View.ld (blk m c t).cos (rTrig cc) = y; pointwise
  rw [e, ld_cos, V_v298]

theorem t_sin : sinT (blk m c t) cc (ix2 i j) = val_main_v21 (F := Ideal) (ix2 (sq (ch t cc) i) j) := by
  have e : sinT (blk m c t) cc (ix2 i j) = View.ld (blk m c t).sin (rTrig cc) (ix2 i j) := by
    unfold sinT k0_pay6; generalize View.ld (blk m c t).sin (rTrig cc) = y; pointwise
  rw [e, ld_sin, V_v299]

theorem pay23_lo (co si : FVec Ideal S128x128 .f32) (x : Vec Ideal S1x128x256 .f32) :
    k0_pay23 co si x (ix2 i (lo j)) = x (ix3 0 i (lo j)) * co (ix2 i j) - x (ix3 0 i (hi j)) * si (ix2 i j) := by
  unfold k0_pay23
  rw [truncf_at, tile_lo]
  pointwise
  reads_congr <;> blk_ext [lo, hi]

theorem pay23_hi (co si : FVec Ideal S128x128 .f32) (x : Vec Ideal S1x128x256 .f32) :
    k0_pay23 co si x (ix2 i (hi j)) = x (ix3 0 i (lo j)) * si (ix2 i j) + x (ix3 0 i (hi j)) * co (ix2 i j) := by
  unfold k0_pay23
  rw [truncf_at, tile_hi]
  pointwise
  reads_congr <;> blk_ext [lo, hi]

theorem pay24_eq (co si : FVec Ideal S128x128 .f32) (x : Vec Ideal S1x128x256 .f32) :
    k0_pay24 co si x (ix2 i d) = k0_pay23 co si x (ix2 i d) * Ideal.ofBits .f32 0x3D800000#32 := rfl

theorem t_q : qT (blk m c t) cc b h (ix2 i d) = val_main_v116 (X1 m c) (ix5 (ch t cc) b i h d) := by
  rw [r116, qT]
  rcases lo_or_hi d with ⟨j, rfl⟩ | ⟨j, rfl⟩
  · rw [pay23_lo, r35_lo, t_cos, t_sin, ld_q, ld_q, w_q, w_q]
  · rw [pay23_hi, r35_hi, t_cos, t_sin, ld_q, ld_q, w_q, w_q]

theorem t_k : kT (blk m c t) cc b h (ix2 i d) = val_main_v118 (X1 m c) (ix5 (ch t cc) b i h d) := by
  rw [r118, kT, pay24_eq]
  rcases lo_or_hi d with ⟨j, rfl⟩ | ⟨j, rfl⟩
  · rw [pay23_lo, r65_lo, t_cos, t_sin, ld_k, ld_k, w_k, w_k]
  · rw [pay23_hi, r65_hi, t_cos, t_sin, ld_k, ld_k, w_k, w_k]

theorem t_v : vT (blk m c t) cc b h (ix2 i d) = val_main_v120 (X1 m c) (ix5 (ch t cc) b i h d) := by
  have e : vT (blk m c t) cc b h (ix2 i d) = View.ld (blk m c t).v (rRows cc b h) (ix3 0 i d) := by
    unfold vT k0_pay26 k0_pay25; generalize View.ld (blk m c t).v (rRows cc b h) = y; pointwise
  rw [e, ld_v, w_v, r120]

theorem t_vs : vsT (blk m c t) cc b h (ix2 i d) = val_main_v123 (X1 m c) (ix5 (ch t cc) b i h d) := by
  have e : vsT (blk m c t) cc b h (ix2 i d) = View.ld (blk m c t).v (rRows cc b h) (ix3 0 i d) * View.ld (blk m c t).sd (rCol h) (ix3 0 i 0) := by
    unfold vsT k0_pay27 k0_pay25
    generalize View.ld (blk m c t).v (rRows cc b h) = y; generalize View.ld (blk m c t).sd (rCol h) = z; pointwise
  rw [e, ld_v, w_v, ld_sd, w_sd, r123, r120]

theorem t_cd : cdT (blk m c t) h (ix2 i 0) = val_main_v100 (F := Ideal) (ix2 i h) := by
  have e : cdT (blk m c t) h (ix2 i 0) = View.ld (blk m c t).cd (rCol h) (ix3 0 i 0) := by
    unfold cdT k0_pay29; generalize View.ld (blk m c t).cd (rCol h) = z; pointwise
  rw [e, ld_cd, w_cd]

theorem t_gain : gainT (blk m c t) h (ix2 0 d) = X2 m c (ix2 h d) := by
  have e : gainT (blk m c t) h (ix2 0 d) = View.ld (blk m c t).gain (rHead h) (ix3 0 0 d) := by
    unfold gainT k0_pay7; generalize View.ld (blk m c t).gain (rHead h) = z; pointwise
  rw [e, ld_gain, w_gain]

end Cert.KernelIdeal.Body

end
-- ==== Proof.Reals.lean ====
/- Facts about real numbers among the extended reals: the constants of both programs, sums, and the two identities of the gated norm's gradient. -/
module

public import Idealize.ShloMosaic.Lib.KernelVsHost

@[expose] public section

noncomputable section

namespace Cert.KernelIdeal.Body

open Idealize.ShloMosaic

/-! ## Constants -/

theorem c_one : Ideal.ofBits .f32 0x3F800000#32 = ((1 : ℝ) : EReal) := by
  simp [Ideal.ofBits, Ideal.ieee, -EReal.coe_mul]; norm_num

theorem c_two : Ideal.ofBits .f32 0x40000000#32 = ((2 : ℝ) : EReal) := by
  simp [Ideal.ofBits, Ideal.ieee, -EReal.coe_mul]; norm_num

theorem c_half : Ideal.ofBits .f32 0x3F000000#32 = (((1 : ℝ) / 2 : ℝ) : EReal) := by
  simp [Ideal.ofBits, Ideal.ieee, -EReal.coe_mul]; norm_num

theorem c_neg_half : Ideal.ofBits .f32 0xBF000000#32 = ((-(1 / 2) : ℝ) : EReal) := by
  simp [Ideal.ofBits, Ideal.ieee, -EReal.coe_mul, -EReal.coe_neg]; norm_num

theorem c_sixteenth : Ideal.ofBits .f32 0x3D800000#32 = (((1 : ℝ) / 16 : ℝ) : EReal) := by
  simp [Ideal.ofBits, Ideal.ieee, -EReal.coe_mul]; norm_num

theorem c_256 : Ideal.ofBits .f32 0x43800000#32 = ((256 : ℝ) : EReal) := by
  simp [Ideal.ofBits, Ideal.ieee, -EReal.coe_mul]; norm_num

/-- The small number added to a variance is a positive real. -/
theorem c_eps : ∃ ε : ℝ, 0 < ε ∧ Ideal.ofBits .f32 0x358637BD#32 = ((ε : ℝ) : EReal) := by
  refine ⟨_, ?_, by simp only [Ideal.ofBits, Ideal.ieee]; rw [if_neg (by decide), if_neg (by decide)]⟩
  simp

/-- One sixteenth is not negative and not infinite. -/
theorem sixteenth : 0 ≤ Ideal.ofBits .f32 0x3D800000#32 ∧ Ideal.ofBits .f32 0x3D800000#32 ≠ ⊤ := by
  rw [c_sixteenth]
  exact ⟨EReal.coe_nonneg.mpr (by norm_num), EReal.coe_ne_top _⟩

/-! ## Being a real number -/

/-- An extended real that is a real number. -/
def Re (x : EReal) : Prop := ∃ r : ℝ, x = (r : EReal)

theorem Re.coe (r : ℝ) : Re (r : EReal) := ⟨r, rfl⟩

theorem Re.zero : Re (0 : EReal) := ⟨0, rfl⟩

theorem Re.add {x y : EReal} : Re x → Re y → Re (x + y) := fun ⟨a, ha⟩ ⟨b, hb⟩ => ⟨a + b, by rw [ha, hb, EReal.coe_add]⟩

theorem Re.sub {x y : EReal} : Re x → Re y → Re (x - y) := fun ⟨a, ha⟩ ⟨b, hb⟩ => ⟨a - b, by rw [ha, hb, EReal.coe_sub]⟩

theorem Re.mul {x y : EReal} : Re x → Re y → Re (x * y) := fun ⟨a, ha⟩ ⟨b, hb⟩ => ⟨a * b, by rw [ha, hb, EReal.coe_mul]⟩

theorem Re.neg {x : EReal} : Re x → Re (-x) := fun ⟨a, ha⟩ => ⟨-a, by rw [ha, EReal.coe_neg]⟩

/-- The sum of real numbers, as an extended real. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem Re.sum {ι : Type*} (s : Finset ι) (f : ι → EReal) (h : ∀ k ∈ s, Re (f k)) : Re (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

theorem re_iff {x : EReal} : Re x ↔ x ≠ ⊥ ∧ x ≠ ⊤ :=
  ⟨fun ⟨r, hr⟩ => hr ▸ ⟨EReal.coe_ne_bot r, EReal.coe_ne_top r⟩, fun h => ⟨x.toReal, (EReal.coe_toReal h.2 h.1).symm⟩⟩

/-! ## The two identities -/

/-- The sigmoid, from the hyperbolic tangent of the half. -/
theorem sigmoid_tanh (x : ℝ) : 1 / 2 * Real.tanh (1 / 2 * x) + 1 / 2 = 1 / (1 + Real.exp (-x)) := by
  have hp : (0 : ℝ) < Real.exp (1 / 2 * x) := Real.exp_pos _
  have hn : Real.exp (-(1 / 2 * x)) = (Real.exp (1 / 2 * x))⁻¹ := Real.exp_neg _
  have hx : Real.exp (-x) = (Real.exp (1 / 2 * x))⁻¹ * (Real.exp (1 / 2 * x))⁻¹ := by
    rw [← hn, ← Real.exp_add]; congr 1; ring
  rw [Real.tanh_eq_sinh_div_cosh, Real.sinh_eq, Real.cosh_eq, hn, hx]
  set u := Real.exp (1 / 2 * x)
  field_simp
  ring

/-- The gradient of a normalised row: the mean removed and the part along the row removed, against the form with the derivative of the
    inverse square root written out. The row `c` has mean zero and `r` is the inverse square root of `w`. -/
theorem norm_grad {w r s1 s2 s3 e0 c0 : ℝ} (hw : 0 < w) (hr : r = (Real.sqrt w)⁻¹)
    (hs : s3 = 0) :
    r * ((e0 - s1 / 256) - (c0 * r) * ((r * s2) / 256))
      = (e0 * r + (c0 * (s2 * (-(1 / 2) * (r / w)) / 256) + c0 * (s2 * (-(1 / 2) * (r / w)) / 256)))
        + (-(s1 * r + 2 * (s3 * (s2 * (-(1 / 2) * (r / w)) / 256)))) / 256 := by
  have h : r * r * w = 1 := by
    rw [hr, ← mul_inv, Real.mul_self_sqrt hw.le, inv_mul_cancel₀ hw.ne']
  have hq : r / w = r * r * r := by
    rw [div_eq_iff hw.ne']; linear_combination -r * h
  rw [hq, hs]; ring

end Cert.KernelIdeal.Body
-- ==== Proof.NormTile.lean ====
/- The kernel's tiles of the gated norm, read at an index. -/
module

public import proofs.«01_k».proof.Proof.Tiles
public import proofs.«01_k».proof.Proof.Reals

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host

variable (i : Fin 128) (d : Fin 256)

/-! ## Sums along a row and along a column, and what is spread over a tile -/

theorem row_sum (y : FVec Ideal S128x256 .f32) (hr : S128x256.Reduces [1] S128) (hf : FKind.Formats .f32) (ha : (0x00000000#32 : BitVec 32) = FKind.add.neutral .f32 hf)
    (hc : S128.ShapeCasts S128x1) :
    shapeCast S128x1 (multiReduction .add [1] S128 y 0x00000000#32 hr hf ha) hc (ix2 i 0) = ∑ k : Fin 256, y (ix2 i k) := by
  have e : shapeCast S128x1 (multiReduction .add [1] S128 y 0x00000000#32 hr hf ha) hc (ix2 i 0) = multiReduction .add [1] S128 y 0x00000000#32 hr hf ha (ix1 i) := by
    generalize multiReduction .add [1] S128 y 0x00000000#32 hr hf ha = z
    pointwise; blk_ext []
  rw [e, Ideal.multiReduction_add_single]
  exact Finset.sum_congr rfl fun k _ => congrArg y (funext fun b => match b with | ⟨0, _⟩ | ⟨1, _⟩ => rfl)

theorem col_sum (y : FVec Ideal S128x256 .f32) (hr : S128x256.Reduces [0] S256) (hf : FKind.Formats .f32) (ha : (0x00000000#32 : BitVec 32) = FKind.add.neutral .f32 hf)
    (hc : S256.ShapeCasts S1x256) :
    shapeCast S1x256 (multiReduction .add [0] S256 y 0x00000000#32 hr hf ha) hc (ix2 0 d) = ∑ k : Fin 128, y (ix2 k d) := by
  have e : shapeCast S1x256 (multiReduction .add [0] S256 y 0x00000000#32 hr hf ha) hc (ix2 0 d) = multiReduction .add [0] S256 y 0x00000000#32 hr hf ha (ix1 d) := by
    generalize multiReduction .add [0] S256 y 0x00000000#32 hr hf ha = z
    pointwise; blk_ext []
  rw [e, Ideal.multiReduction_add_single]
  exact Finset.sum_congr rfl fun k _ => congrArg y (funext fun b => match b with | ⟨0, _⟩ | ⟨1, _⟩ => rfl)

theorem spread_col (z : FVec Ideal S128x1 .f32) (hb : S128x1.Broadcasts S128x256) : broadcastTo S128x256 z hb (ix2 i d) = z (ix2 i 0) := by
  pointwise; blk_ext []

theorem spread_row (z : FVec Ideal S1x256 .f32) (hb : S1x256.Broadcasts S128x256) : broadcastTo S128x256 z hb (ix2 i d) = z (ix2 0 d) := by
  pointwise; blk_ext []

theorem drop_front (x : Vec Ideal S1x128x256 .f32) (hc : S1x128x256.ShapeCasts S128x256) : shapeCast S128x256 x hc (ix2 i d) = x (ix3 0 i d) := by
  pointwise; blk_ext []

/-! ## The norm -/

theorem pay8_at (x : Vec Ideal S1x128x256 .f32) :
    k0_pay8 x (ix2 i d) = x (ix3 0 i d) - Ideal.div (∑ k : Fin 256, x (ix3 0 i k)) (Ideal.ofBits .f32 0x43800000#32) := by
  unfold k0_pay8
  refine congrArg₂ HSub.hSub (drop_front i d x _) ((spread_col i d _ _).trans (congrArg (Ideal.div · _)
    ((row_sum i _ _ _ _ _).trans (Finset.sum_congr rfl fun k _ => drop_front i k x _))))

theorem pay9_at (x : Vec Ideal S1x128x256 .f32) :
    k0_pay9 x (ix2 i 0) = Ideal.rsqrt (Ideal.div (∑ k : Fin 256, k0_pay8 x (ix2 i k) * k0_pay8 x (ix2 i k)) (Ideal.ofBits .f32 0x43800000#32)
      + Ideal.ofBits .f32 0x358637BD#32) :=
  congrArg (fun z => Ideal.rsqrt (Ideal.div z _ + _)) (row_sum i _ _ _ _ _)

theorem pay10_at (x : Vec Ideal S1x128x256 .f32) : k0_pay10 x (ix2 i d) = k0_pay8 x (ix2 i d) * k0_pay9 x (ix2 i 0) :=
  congrArg (k0_pay8 x (ix2 i d) * ·) (spread_col i d _ _)

theorem pay11_at (x : Vec Ideal S1x128x256 .f32) : k0_pay11 x (ix2 i d) = x (ix3 0 i d) := drop_front i d x _

theorem pay12_at (x : Vec Ideal S1x128x256 .f32) : k0_pay12 x (ix2 i d) =
    Ideal.ofBits .f32 0x3F000000#32 * Ideal.tanh (Ideal.ofBits .f32 0x3F000000#32 * x (ix3 0 i d)) :=
  congrArg (fun z => Ideal.ofBits .f32 0x3F000000#32 * Ideal.tanh (Ideal.ofBits .f32 0x3F000000#32 * z)) (pay11_at i d x)

/-! ## The gradients, over the norm's and the gate's tiles -/

variable (g : FVec Ideal S1x256 .f32) (n gb th hf : FVec Ideal S128x256 .f32) (y : Vec Ideal S1x128x256 .f32)

theorem pay16_at : k0_pay16 g n gb th hf y (ix3 0 i d) =
    (y (ix3 0 i d) * (n (ix2 i d) * g (ix2 0 d))) * ((th (ix2 i d) + hf (ix2 i d)) * (Ideal.ofBits .f32 0x3F800000#32
      + gb (ix2 i d) * (Ideal.ofBits .f32 0x3F800000#32 - (th (ix2 i d) + hf (ix2 i d))))) := by
  unfold k0_pay16 k0_pay15 k0_pay14
  pointwise

theorem pay17_at : k0_pay17 gb th hf y (ix2 i d) = y (ix3 0 i d) * (gb (ix2 i d) * (th (ix2 i d) + hf (ix2 i d))) :=
  congrArg (· * _) (drop_front i d y _)

theorem pay18_at (a : Vec Ideal S1x1x256 .f32) : k0_pay18 n gb th hf y a (ix3 0 0 d) =
    a (ix3 0 0 d) + ∑ k : Fin 128, k0_pay17 gb th hf y (ix2 k d) * n (ix2 k d) := by
  unfold k0_pay18
  generalize k0_pay17 gb th hf y = z
  have e1 (u : FVec Ideal S1x256 .f32) : shapeCast S1x1x256 u shapeCasts_S1x256_S1x1x256 (ix3 0 0 d) = u (ix2 0 d) := by
    pointwise; blk_ext []
  have e2 : shapeCast S1x256 a shapeCasts_S1x1x256_S1x256 (ix2 0 d) = a (ix3 0 0 d) := by
    pointwise; blk_ext []
  refine (e1 _).trans (congrArg₂ HAdd.hAdd e2 (col_sum d _ _ _ _ _))

theorem pay19_at : k0_pay19 g gb th hf y (ix2 i d) = k0_pay17 gb th hf y (ix2 i d) * g (ix2 0 d) :=
  congrArg (_ * ·) (spread_row i d g _)

theorem pay20_at : k0_pay20 g gb th hf y (ix2 i d) = k0_pay19 g gb th hf y (ix2 i d)
    - Ideal.div (∑ k : Fin 256, k0_pay19 g gb th hf y (ix2 i k)) (Ideal.ofBits .f32 0x43800000#32) :=
  congrArg (_ - ·) ((spread_col i d _ _).trans (congrArg (Ideal.div · _) (row_sum i _ _ _ _ _)))

theorem pay21_at : k0_pay21 g n gb th hf y (ix2 i 0) = ∑ k : Fin 256, k0_pay19 g gb th hf y (ix2 i k) * n (ix2 i k) :=
  row_sum i _ _ _ _ _

theorem pay22_at (r : FVec Ideal S128x1 .f32) (u : FVec Ideal S128x256 .f32) (w : FVec Ideal S128x1 .f32) (k : Ideal .f32) :
    k0_pay22 r n u w k (ix2 i d) = r (ix2 i 0) * (u (ix2 i d) - n (ix2 i d) * Ideal.div (w (ix2 i 0)) k) :=
  congrArg₂ HMul.hMul (spread_col i d r _) (congrArg (u (ix2 i d) - n (ix2 i d) * ·) (spread_col i d _ _))

end Cert.KernelIdeal.Body

end
-- ==== Proof.RefProd.lean ====
/- The reference's products read at an index. -/
module

public import proofs.«01_k».proof.Proof.RefLeaf

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

variable (x0 : Vec Ideal S4096x1024 .f32) (x1 : Vec Ideal S4096x8192 .f32) (x2 : Vec Ideal S4x256 .f32)
  (n : Fin 16) (b : Fin 2) (s : Fin 2048) (i i' : Fin 128) (h : Fin 4) (d e : Fin 256) (j : Fin 128)

theorem r301 : val_main_v301 x0 x1 x2 (ix5 n b i h d) = val_main_v299 x0 x1 x2 (ix5 n b i h d) * val_main_v100 (ix2 i h) := by
  rw [val_main_v301_apply, r300]; rfl

theorem r226 : val_main_v226 x1 (ix5 n b h i i') = ∑ k : Fin 256, val_main_v116 x1 (ix5 n b i h k) * val_main_v118 x1 (ix5 n b i' h k) := by
  rw [val_main_v226_apply]
  exact Finset.sum_congr rfl fun k _ => congrArg₂ HMul.hMul (by blk_ext []) (by blk_ext [])

theorem r229 : val_main_v229 x1 (ix5 n b h i i') =
    (∑ k : Fin 256, val_main_v116 x1 (ix5 n b i h k) * val_main_v118 x1 (ix5 n b i' h k)) * val_main_v92 (ix3 h i i') := by
  rw [val_main_v229_apply, r226, r228]; rfl

theorem r312 : val_main_v312 x0 x1 x2 (ix5 n b h i i') =
    (∑ k : Fin 256, val_main_v299 x0 x1 x2 (ix5 n b i h k) * val_main_v120 x1 (ix5 n b i' h k)) * val_main_v92 (ix3 h i i') := by
  rw [val_main_v312_apply, r311, val_main_v308_apply]
  refine congrArg₂ HMul.hMul (Finset.sum_congr rfl fun k _ => congrArg₂ HMul.hMul ?_ (by blk_ext [])) rfl
  rw [val_main_v307_apply]; blk_ext []

theorem r304 : val_main_v304 x0 x1 x2 (ix5 n b i h d) =
    ∑ k : Fin 256, val_main_v301 x0 x1 x2 (ix5 n b i h k) * val_main_v225 x1 (ix5 n b h d k) := by
  rw [val_main_v304_apply, val_main_v303_apply]
  refine Finset.sum_congr rfl fun k _ => congrArg₂ HMul.hMul ?_ (by blk_ext [])
  rw [val_main_v302_apply]; blk_ext []

theorem r316 : val_main_v316 x0 x1 x2 (ix5 n b i h d) =
    ∑ k : Fin 128, val_main_v312 x0 x1 x2 (ix5 n b h i k) * val_main_v118 x1 (ix5 n b k h d) := by
  rw [val_main_v316_apply, val_main_v315_apply]
  exact Finset.sum_congr rfl fun k _ => congrArg₂ HMul.hMul (by blk_ext []) (by blk_ext [])

theorem r314 : val_main_v314 x0 x1 x2 (ix5 n b i h d) =
    ∑ k : Fin 128, val_main_v312 x0 x1 x2 (ix5 n b h k i) * val_main_v116 x1 (ix5 n b k h d) := by
  rw [val_main_v314_apply, val_main_v313_apply]
  exact Finset.sum_congr rfl fun k _ => congrArg₂ HMul.hMul (by blk_ext []) (by blk_ext [])

theorem r310 : val_main_v310 x0 x1 x2 (ix5 n b i h d) =
    ∑ k : Fin 128, val_main_v299 x0 x1 x2 (ix5 n b k h d) * val_main_v229 x1 (ix5 n b h k i) := by
  rw [val_main_v310_apply, val_main_v309_apply]
  refine Finset.sum_congr rfl fun k _ => congrArg₂ HMul.hMul ?_ (by blk_ext [])
  rw [val_main_v307_apply]; blk_ext []

theorem r306 : val_main_v306 x0 x1 x2 (ix5 n b h d e) =
    ∑ k : Fin 128, val_main_v301 x0 x1 x2 (ix5 n b k h e) * val_main_v116 x1 (ix5 n b k h d) := by
  rw [val_main_v306_apply, val_main_v305_apply]
  refine Finset.sum_congr rfl fun k _ => congrArg₂ HMul.hMul ?_ (by blk_ext [])
  rw [val_main_v302_apply]; blk_ext []

theorem r421 : val_main_v421 x0 x1 x2 (ix5 n b i h d) =
    ∑ k : Fin 256, val_main_v419 x0 x1 x2 (ix5 n b h k d) * val_main_v118 x1 (ix5 n b i h k) := by
  rw [val_main_v421_apply, val_main_v420_apply]
  exact Finset.sum_congr rfl fun k _ => congrArg₂ HMul.hMul (by blk_ext []) (by blk_ext [])

theorem r423 : val_main_v423 x0 x1 x2 (ix5 n b i h d) =
    ∑ k : Fin 256, val_main_v419 x0 x1 x2 (ix5 n b h d k) * val_main_v123 x1 (ix5 n b i h k) := by
  rw [val_main_v423_apply, val_main_v422_apply]
  exact Finset.sum_congr rfl fun k _ => congrArg₂ HMul.hMul (by blk_ext []) (by blk_ext [])

/-! ## The gradients of the query, key and value over one chunk -/

theorem r317 : val_main_v317 x0 x1 x2 (ix5 n b i h d) = val_main_v304 x0 x1 x2 (ix5 n b i h d) + val_main_v316 x0 x1 x2 (ix5 n b i h d) := rfl
theorem r424 : val_main_v424 x0 x1 x2 (ix5 n b i h d) = val_main_v314 x0 x1 x2 (ix5 n b i h d) + val_main_v423 x0 x1 x2 (ix5 n b i h d) := rfl
theorem r427 : val_main_v427 x0 x1 x2 (ix5 n b i h d) =
    val_main_v310 x0 x1 x2 (ix5 n b i h d) + val_main_v421 x0 x1 x2 (ix5 n b i h d) * val_main_v109 (ix2 i h) := by
  rw [val_main_v427_apply, val_main_v426_apply, r425]; rfl

end Cert.KernelIdeal.Body

end
-- ==== Proof.RefOut.lean ====
/- The reference's result at an index: the rotation undone, the heads laid side by side, the four parts joined. -/
module

public import proofs.«01_k».proof.Proof.RefProd
public import Idealize.ShloMosaic.Lib.KernelVsHost

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

variable (x0 : Vec Ideal S4096x1024 .f32) (x1 : Vec Ideal S4096x8192 .f32) (x2 : Vec Ideal S4x256 .f32)
  (n : Fin 16) (b : Fin 2) (s : Fin 2048) (i : Fin 128) (h : Fin 4) (d e : Fin 256) (j : Fin 128)

/-! ## The lower half of a head padded behind, the upper half padded in front -/

section Pads
variable (y : Vec Ideal S2x2048x4x128 .f32) (z : Vec Ideal Cert.ReferenceIdeal.S_ .f32) (h1 : 0 < Cert.ReferenceIdeal.S_.numel)

theorem pad_behind_lo (hp : S2x2048x4x128.Pads (![0, 0, 0, 0] : Fin 4 → Nat) ![0, 0, 0, 128] ![0, 0, 0, 0] S2x2048x4x256) :
    pad S2x2048x4x256 ![0, 0, 0, 0] ![0, 0, 0, 128] ![0, 0, 0, 0] y z hp h1 (ix4 b s h (lo j)) = y (ix4 b s h j) :=
  pad_apply_of_inside _ _ _ y z hp h1 _ (ix4 b s h j) fun a => by
    match a with
    | ⟨0, _⟩ => show b.val = 0 + b.val * (0 + 1); omega
    | ⟨1, _⟩ => show s.val = 0 + s.val * (0 + 1); omega
    | ⟨2, _⟩ => show h.val = 0 + h.val * (0 + 1); omega
    | ⟨3, _⟩ => show j.val = 0 + j.val * (0 + 1); omega

theorem pad_behind_hi (hp : S2x2048x4x128.Pads (![0, 0, 0, 0] : Fin 4 → Nat) ![0, 0, 0, 128] ![0, 0, 0, 0] S2x2048x4x256) :
    pad S2x2048x4x256 ![0, 0, 0, 0] ![0, 0, 0, 128] ![0, 0, 0, 0] y z hp h1 (ix4 b s h (hi j)) = z (Shape.Idx.first h1) :=
  pad_apply_of_not_inside _ _ _ y z hp h1 _ (3 : Fin 4) fun ⟨_, _, hc⟩ => by
    have hc' : (128 + j.val - 0) / (0 + 1) < 128 := hc
    omega

theorem pad_front_lo (hp : S2x2048x4x128.Pads (![0, 0, 0, 128] : Fin 4 → Nat) ![0, 0, 0, 0] ![0, 0, 0, 0] S2x2048x4x256) :
    pad S2x2048x4x256 ![0, 0, 0, 128] ![0, 0, 0, 0] ![0, 0, 0, 0] y z hp h1 (ix4 b s h (lo j)) = z (Shape.Idx.first h1) :=
  pad_apply_of_not_inside _ _ _ y z hp h1 _ (3 : Fin 4) fun ⟨hc, _, _⟩ => by
    have hc' : 128 ≤ j.val := hc
    have := j.isLt
    omega

theorem pad_front_hi (hp : S2x2048x4x128.Pads (![0, 0, 0, 128] : Fin 4 → Nat) ![0, 0, 0, 0] ![0, 0, 0, 0] S2x2048x4x256) :
    pad S2x2048x4x256 ![0, 0, 0, 128] ![0, 0, 0, 0] ![0, 0, 0, 0] y z hp h1 (ix4 b s h (hi j)) = y (ix4 b s h j) :=
  pad_apply_of_inside _ _ _ y z hp h1 _ (ix4 b s h j) fun a => by
    match a with
    | ⟨0, _⟩ => show b.val = 0 + b.val * (0 + 1); omega
    | ⟨1, _⟩ => show s.val = 0 + s.val * (0 + 1); omega
    | ⟨2, _⟩ => show h.val = 0 + h.val * (0 + 1); omega
    | ⟨3, _⟩ => show 128 + j.val = 128 + j.val * (0 + 1); omega

end Pads

/-! ## The gradients before the rotation is undone -/

theorem r433 : val_main_v433 x0 x1 x2 (ix4 b (sq n i) h d) = val_main_v317 x0 x1 x2 (ix5 n b i h d) := by
  rw [val_main_v433_apply, val_main_v432_apply]; blk_ext [sq]

theorem r436 : val_main_v436 x0 x1 x2 (ix4 b (sq n i) h d) = val_main_v424 x0 x1 x2 (ix5 n b i h d) * Ideal.ofBits .f32 0x3D800000#32 := by
  rw [val_main_v436_apply, val_main_v435_apply, val_main_cst_31_apply, val_main_v431_apply, val_main_v430_apply]
  exact congrArg₂ HMul.hMul (by blk_ext [sq]) rfl

theorem r434 : val_main_v434 x0 x1 x2 (ix3 b (sq n i) (cl h d)) = val_main_v427 x0 x1 x2 (ix5 n b i h d) := by
  rw [val_main_v434_apply, val_main_v429_apply, val_main_v428_apply]; blk_ext [sq, cl]

/-! ## The rotation undone -/

theorem zero_bits : (FloatOps.ofBits .f32 0x00000000#32 : Ideal .f32) = (0 : EReal) := Ideal.ofBits_zero_f32

theorem r469_lo : val_main_v469 x0 x1 x2 (ix4 b s h (lo j)) =
    val_main_v433 x0 x1 x2 (ix4 b s h (hi j)) * val_main_v21 (ix2 s j) + val_main_v433 x0 x1 x2 (ix4 b s h (lo j)) * val_main_v19 (ix2 s j) := by
  rw [val_main_v469_apply, val_main_v467, val_main_v468, pad_front_lo, pad_behind_lo, val_main_cst_34_apply, zero_bits, val_main_v466_apply, val_main_v459_apply, val_main_v465_apply,
    val_main_v454_apply, val_main_v455_apply, val_main_v458_apply, val_main_v464_apply, val_main_v20_apply, val_main_v22_apply]
  refine (zero_add _).trans ?_
  refine congrArg₂ HAdd.hAdd (congrArg₂ HMul.hMul ?_ ?_) (congrArg₂ HMul.hMul ?_ ?_) <;> blk_ext [lo, hi]

theorem r469_hi : val_main_v469 x0 x1 x2 (ix4 b s h (hi j)) =
    val_main_v433 x0 x1 x2 (ix4 b s h (hi j)) * val_main_v19 (ix2 s j) + -val_main_v433 x0 x1 x2 (ix4 b s h (lo j)) * val_main_v21 (ix2 s j) := by
  rw [val_main_v469_apply, val_main_v467, val_main_v468, pad_front_hi, pad_behind_hi, val_main_cst_35_apply, zero_bits, val_main_v463_apply, val_main_v457_apply, val_main_v462_apply,
    val_main_v460_apply, val_main_v454_apply, val_main_v455_apply, val_main_v456_apply, val_main_v461_apply, val_main_v20_apply, val_main_v22_apply]
  refine (add_zero _).trans ?_
  refine congrArg₂ HAdd.hAdd (congrArg₂ HMul.hMul ?_ ?_) (congrArg₂ HMul.hMul (congrArg Neg.neg ?_) ?_) <;> blk_ext [lo, hi]

theorem r452_lo : val_main_v452 x0 x1 x2 (ix4 b s h (lo j)) =
    val_main_v436 x0 x1 x2 (ix4 b s h (hi j)) * val_main_v21 (ix2 s j) + val_main_v436 x0 x1 x2 (ix4 b s h (lo j)) * val_main_v19 (ix2 s j) := by
  rw [← r49, ← r51, val_main_v452_apply, val_main_v450, val_main_v451, pad_front_lo, pad_behind_lo, val_main_cst_32_apply, zero_bits, val_main_v449_apply, val_main_v442_apply, val_main_v448_apply,
    val_main_v437_apply, val_main_v438_apply, val_main_v441_apply, val_main_v447_apply, val_main_v50_apply, val_main_v52_apply]
  refine (zero_add _).trans ?_
  refine congrArg₂ HAdd.hAdd (congrArg₂ HMul.hMul ?_ ?_) (congrArg₂ HMul.hMul ?_ ?_) <;> blk_ext [lo, hi]

theorem r452_hi : val_main_v452 x0 x1 x2 (ix4 b s h (hi j)) =
    val_main_v436 x0 x1 x2 (ix4 b s h (hi j)) * val_main_v19 (ix2 s j) + -val_main_v436 x0 x1 x2 (ix4 b s h (lo j)) * val_main_v21 (ix2 s j) := by
  rw [← r49, ← r51, val_main_v452_apply, val_main_v450, val_main_v451, pad_front_hi, pad_behind_hi, val_main_cst_33_apply, zero_bits, val_main_v446_apply, val_main_v440_apply, val_main_v445_apply,
    val_main_v443_apply, val_main_v437_apply, val_main_v438_apply, val_main_v439_apply, val_main_v444_apply, val_main_v50_apply, val_main_v52_apply]
  refine (add_zero _).trans ?_
  refine congrArg₂ HAdd.hAdd (congrArg₂ HMul.hMul ?_ ?_) (congrArg₂ HMul.hMul (congrArg Neg.neg ?_) ?_) <;> blk_ext [lo, hi]

/-! ## The four parts -/

theorem r470 : val_main_v470 x0 x1 x2 (ix3 b s (cl h d)) = val_main_v469 x0 x1 x2 (ix4 b s h d) := by
  rw [val_main_v470_apply]; blk_ext [cl]

theorem r453 : val_main_v453 x0 x1 x2 (ix3 b s (cl h d)) = val_main_v452 x0 x1 x2 (ix4 b s h d) := by
  rw [val_main_v453_apply]; blk_ext [cl]

/-- Part `p` of four arrays joined along the columns. -/
theorem parts (y : Fin 4 → Vec Ideal S2x2048x1024 .f32)
    (hc : Shape.Concatenates [S2x2048x1024, S2x2048x1024, S2x2048x1024, S2x2048x1024] S2x2048x4096 2) (p : Fin 4) :
    concatenate S2x2048x4096 2 [⟨S2x2048x1024, y 0⟩, ⟨S2x2048x1024, y 1⟩, ⟨S2x2048x1024, y 2⟩, ⟨S2x2048x1024, y 3⟩] hc (ix3 b s (pc p h d))
      = y p (ix3 b s (cl h d)) := by
  have off : ∀ a : Fin 3, a.cast rfl ≠ (2 : Fin 3) → ((ix3 b s (cl h d) : S2x2048x1024.Idx) a).val = ((ix3 b s (pc p h d) : S2x2048x4096.Idx) (a.cast rfl)).val :=
    fun a ha => match a with | ⟨0, _⟩ => rfl | ⟨1, _⟩ => rfl | ⟨2, _⟩ => absurd rfl ha
  match p with
  | ⟨0, _⟩ => exact concatenate_apply_piece (t := S2x2048x4096) 2 [⟨S2x2048x1024, y 0⟩, ⟨S2x2048x1024, y 1⟩, ⟨S2x2048x1024, y 2⟩, ⟨S2x2048x1024, y 3⟩] hc _ 0 (Nat.lt_of_sub_pos (by exact Nat.succ_pos _)) S2x2048x1024 (y 0) rfl rfl (1024 * 0) rfl (ix3 b s (cl h d)) off rfl
  | ⟨1, _⟩ => exact concatenate_apply_piece (t := S2x2048x4096) 2 [⟨S2x2048x1024, y 0⟩, ⟨S2x2048x1024, y 1⟩, ⟨S2x2048x1024, y 2⟩, ⟨S2x2048x1024, y 3⟩] hc _ 1 (Nat.lt_of_sub_pos (by exact Nat.succ_pos _)) S2x2048x1024 (y 1) rfl rfl (1024 * 1) rfl (ix3 b s (cl h d)) off rfl
  | ⟨2, _⟩ => exact concatenate_apply_piece (t := S2x2048x4096) 2 [⟨S2x2048x1024, y 0⟩, ⟨S2x2048x1024, y 1⟩, ⟨S2x2048x1024, y 2⟩, ⟨S2x2048x1024, y 3⟩] hc _ 2 (Nat.lt_of_sub_pos (by exact Nat.succ_pos _)) S2x2048x1024 (y 2) rfl rfl (1024 * 2) rfl (ix3 b s (cl h d)) off rfl
  | ⟨3, _⟩ => exact concatenate_apply_piece (t := S2x2048x4096) 2 [⟨S2x2048x1024, y 0⟩, ⟨S2x2048x1024, y 1⟩, ⟨S2x2048x1024, y 2⟩, ⟨S2x2048x1024, y 3⟩] hc _ 3 (Nat.lt_of_sub_pos (by exact Nat.succ_pos _)) S2x2048x1024 (y 3) rfl rfl (1024 * 3) rfl (ix3 b s (cl h d)) off rfl

theorem r472 (p : Fin 4) : val_main_v472 x0 x1 x2 (ix3 b s (pc p h d)) =
    (![val_main_v470 x0 x1 x2, val_main_v453 x0 x1 x2, val_main_v434 x0 x1 x2, val_main_v269 x0 x1 x2] : Fin 4 → Vec Ideal S2x2048x1024 .f32) p (ix3 b s (cl h d)) := by
  rw [val_main_v472_apply, val_main_v471]
  exact parts b s h d (![val_main_v470 x0 x1 x2, val_main_v453 x0 x1 x2, val_main_v434 x0 x1 x2, val_main_v269 x0 x1 x2] : Fin 4 → Vec Ideal S2x2048x1024 .f32) _ p

end Cert.KernelIdeal.Body

end
-- ==== Proof.RefNorm.lean ====
/- The reference's gated norm and its gradients, read at an index. -/
module

public import proofs.«01_k».proof.Proof.RefOut
public import proofs.«01_k».proof.Proof.Reals

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

variable (x0 : Vec Ideal S4096x1024 .f32) (x1 : Vec Ideal S4096x8192 .f32) (x2 : Vec Ideal S4x256 .f32)
  (n : Fin 16) (b : Fin 2) (s : Fin 2048) (i : Fin 128) (h : Fin 4) (d : Fin 256)

/-! ## The norm -/

theorem r244 : val_main_v244 x1 (ix4 b s h d) = val_main_v238 x1 (ix4 b s h d)
    - Ideal.div (∑ k : Fin 256, val_main_v238 x1 (ix4 b s h k)) (Ideal.ofBits .f32 0x43800000#32) := by
  rw [val_main_v244_apply, val_main_v243_apply, val_main_v242_apply, val_main_v240_apply, val_main_v239_apply, val_main_v241_apply,
    val_main_cst_15_apply, val_main_cst_14_apply, zero_bits, zero_add]
  exact congrArg (fun z => val_main_v238 x1 (ix4 b s h d) - Ideal.div z (Ideal.ofBits .f32 0x43800000#32)) (Finset.sum_congr rfl fun k _ => by blk_ext [])

theorem r251 : val_main_v251 x1 (ix4 b s h 0) = Ideal.div (∑ k : Fin 256, val_main_v244 x1 (ix4 b s h k) * val_main_v244 x1 (ix4 b s h k)) (Ideal.ofBits .f32 0x43800000#32)
    + Ideal.ofBits .f32 0x358637BD#32 := by
  rw [val_main_v251_apply, val_main_v249_apply, val_main_v247_apply, val_main_v246_apply, val_main_v248_apply, val_main_v250_apply,
    val_main_cst_16_apply, val_main_cst_17_apply, val_main_cst_18_apply, zero_bits, zero_add]
  refine congrArg (fun z => Ideal.div z (Ideal.ofBits .f32 0x43800000#32) + Ideal.ofBits .f32 0x358637BD#32) (Finset.sum_congr rfl fun k _ => ?_)
  rw [val_main_v245_apply]
  exact congrArg₂ HMul.hMul (by blk_ext []) (by blk_ext [])

theorem r252 : val_main_v252 x1 (ix4 b s h 0) = Ideal.rsqrt (val_main_v251 x1 (ix4 b s h 0)) := rfl

theorem r257 : val_main_v257 x1 (ix4 b s h d) = val_main_v244 x1 (ix4 b s h d) * val_main_v252 x1 (ix4 b s h 0) := by
  rw [val_main_v257_apply, val_main_v256_apply]
  exact congrArg₂ HMul.hMul rfl (by blk_ext [])

/-- The factor the gradient to a row's variance is multiplied by. -/
theorem r255 : val_main_v255 x1 (ix4 b s h 0) = Ideal.ofBits .f32 0xBF000000#32 * Ideal.div (val_main_v252 x1 (ix4 b s h 0)) (val_main_v251 x1 (ix4 b s h 0)) := by
  rw [val_main_v255_apply, val_main_v254_apply, val_main_cst_19_apply]; rfl

/-! ## The gate -/

theorem r_sg : val_main_v261_2 x1 (ix3 b s (cl h d)) = Ideal.div (Ideal.ofBits .f32 0x3F800000#32)
    (Ideal.ofBits .f32 0x3F800000#32 + Ideal.exp (-(val_main_v5 x1 (ix3 b s (cl h d))))) := by
  rw [val_main_v261_2_apply, val_main_call1_v4_apply, val_main_call1_v3_apply, val_main_call1_v2_apply, val_main_call1_cst_apply, val_main_call1_cst_0_apply]; rfl

/-- The gradient to the normalised rows times the gain. -/
theorem r268 : val_main_v268 x0 x1 (ix4 b s h d) =
    (val_main_v5 x1 (ix3 b s (cl h d)) * val_main_v261_2 x1 (ix3 b s (cl h d))) * val_main_v264 x0 (ix3 b s (cl h d)) := by
  rw [val_main_v268_apply, val_main_v266_apply, val_main_v261_0_apply]
  refine congrArg₂ HMul.hMul (congrArg₂ HMul.hMul ?_ ?_) ?_ <;> blk_ext [cl]

theorem r274 : val_main_v274 x0 x1 x2 (ix4 b s h d) = val_main_v268 x0 x1 (ix4 b s h d) * x2 (ix2 h d) := by
  rw [val_main_v274_apply, val_main_v273_apply, val_main_v258_apply]
  exact congrArg₂ HMul.hMul rfl (by blk_ext [])

theorem r267 : val_main_v267 x0 x1 x2 (ix3 b s (cl h d)) = val_main_v264 x0 (ix3 b s (cl h d)) * (val_main_v257 x1 (ix4 b s h d) * x2 (ix2 h d)) := by
  rw [val_main_v267_apply, val_main_v262_apply, val_main_v260_apply, val_main_v259_apply, val_main_v258_apply]
  exact congrArg₂ HMul.hMul rfl (congrArg₂ HMul.hMul (by blk_ext [cl]) (by blk_ext [cl]))

/-- The gradient to the gate's input. -/
theorem r269 : val_main_v269 x0 x1 x2 (ix3 b s (cl h d)) =
    val_main_v267 x0 x1 x2 (ix3 b s (cl h d)) * val_main_v261_2 x1 (ix3 b s (cl h d))
      + (val_main_v5 x1 (ix3 b s (cl h d)) * val_main_v267 x0 x1 x2 (ix3 b s (cl h d)))
        * (val_main_v261_2 x1 (ix3 b s (cl h d)) * (Ideal.ofBits .f32 0x3F800000#32 - val_main_v261_2 x1 (ix3 b s (cl h d)))) := by
  rw [val_main_v269_apply, val_main_call2_v1_apply, val_main_call2_v2_apply, val_main_call2_v0_apply, val_main_v261_1_apply, val_main_call1_v7_apply,
    val_main_call1_v6_apply, val_main_call1_cst_1_apply]; rfl

/-! ## Back through the norm -/

theorem r285 : val_main_v285 x0 x1 x2 (ix4 b s h d) =
    Ideal.div ((∑ k : Fin 256, val_main_v244 x1 (ix4 b s h k) * val_main_v274 x0 x1 x2 (ix4 b s h k)) * val_main_v255 x1 (ix4 b s h 0)) (Ideal.ofBits .f32 0x43800000#32) := by
  rw [val_main_v285_apply, val_main_v284_apply, val_main_cst_25_apply, zero_bits, zero_add, Fin.sum_univ_one, val_main_v283_apply, val_main_v281_apply,
    val_main_v278_apply, val_main_v277_apply, val_main_cst_23_apply, zero_bits, zero_add, val_main_v282_apply, val_main_cst_24_apply]
  refine congrArg (Ideal.div · (Ideal.ofBits .f32 0x43800000#32)) (congrArg₂ HMul.hMul (Finset.sum_congr rfl fun k _ => ?_) (by blk_ext []))
  rw [val_main_v276_apply]
  exact congrArg₂ HMul.hMul (by blk_ext []) (by blk_ext [])

theorem r289 : val_main_v289 x0 x1 x2 (ix4 b s h d) =
    (val_main_v274 x0 x1 x2 (ix4 b s h d) * val_main_v252 x1 (ix4 b s h 0) + val_main_v244 x1 (ix4 b s h d) * val_main_v285 x0 x1 x2 (ix4 b s h d))
      + val_main_v285 x0 x1 x2 (ix4 b s h d) * val_main_v244 x1 (ix4 b s h d) := by
  rw [val_main_v289_apply, val_main_v287_apply, val_main_v280_apply, val_main_v279_apply, val_main_v286_apply, val_main_v288_apply]
  refine congrArg₂ HAdd.hAdd (congrArg₂ HAdd.hAdd (congrArg₂ HMul.hMul rfl ?_) rfl) rfl
  blk_ext []

theorem r296 : val_main_v296 x0 x1 x2 (ix4 b s h d) = Ideal.div (∑ k : Fin 256, -(val_main_v289 x0 x1 x2 (ix4 b s h k))) (Ideal.ofBits .f32 0x43800000#32) := by
  rw [val_main_v296_apply, val_main_v295_apply, val_main_cst_28_apply, zero_bits, zero_add, Fin.sum_univ_one, val_main_v294_apply,
    val_main_v292_apply, val_main_v291_apply, val_main_cst_26_apply, zero_bits, zero_add, val_main_v293_apply, val_main_cst_27_apply]
  refine congrArg (Ideal.div · (Ideal.ofBits .f32 0x43800000#32)) (Finset.sum_congr rfl fun k _ => ?_)
  rw [val_main_v290_apply]
  exact congrArg Neg.neg (by blk_ext [])

theorem r299 : val_main_v299 x0 x1 x2 (ix5 n b i h d) = val_main_v289 x0 x1 x2 (ix4 b (sq n i) h d) + val_main_v296 x0 x1 x2 (ix4 b (sq n i) h d) := by
  rw [val_main_v299_apply, val_main_v298_apply, val_main_v297_apply]
  exact congrArg₂ HAdd.hAdd (by blk_ext [sq]) (by blk_ext [sq])

end Cert.KernelIdeal.Body

end
-- ==== Proof.Finite.lean ====
/- From finite inputs, the forward output of the reference is finite: every array up to it holds real numbers. -/
module

public import proofs.«01_k».proof.Proof.RefLeaf
public import proofs.«01_k».proof.Proof.Reals

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

/-! ## The scalar operations keep real numbers real -/

/-- A literal whose exponent field is not all ones is a real number. -/
theorem re_bits (b : BitVec 32) (h : ¬ (b.extractLsb' 23 8).toNat = 2 ^ 8 - 1 := by decide) : Re (Ideal.ofBits .f32 b) := by
  show Re (Ideal.ieee 8 23 b)
  unfold Ideal.ieee
  simp only
  rw [if_neg h]
  split <;> exact ⟨_, rfl⟩

theorem Re.div {x y : EReal} (hx : Re x) {r : ℝ} (hr : r ≠ 0) (hy : y = (r : EReal)) : Re (Ideal.div x y) := by
  obtain ⟨a, rfl⟩ := hx
  rw [hy, Ideal.div_coe hr]
  exact (Re.coe a).mul (Re.coe _)

theorem Re.exp {x : EReal} : Re x → Re (Ideal.exp x) := fun ⟨a, ha⟩ => ⟨Real.exp a, by rw [ha, Ideal.exp_coe]⟩
theorem Re.cos {x : EReal} : Re x → Re (Ideal.cos x) := fun ⟨a, ha⟩ => ⟨Real.cos a, by rw [ha, Ideal.cos_coe]⟩
theorem Re.sin {x : EReal} : Re x → Re (Ideal.sin x) := fun ⟨a, ha⟩ => ⟨Real.sin a, by rw [ha, Ideal.sin_coe]⟩
theorem Re.pow {x y : EReal} : Re x → Re y → Re (Ideal.pow x y) := fun ⟨a, ha⟩ ⟨b, hb⟩ => ⟨Real.rpow a b, by rw [ha, hb, Ideal.pow_coe_coe]⟩
theorem Re.max {x y : EReal} (hx : Re x) (hy : Re y) : Re (Max.max x y) := by
  rcases max_choice x y with h | h <;> rw [h] <;> assumption

/-! ## Arrays of real numbers -/

/-- Every element of the array is a real number. -/
def AR {s : Shape} (x : FVec Ideal s .f32) : Prop := ∀ i, Re (x i)

section
variable {s t : Shape} {x y : FVec Ideal s .f32}

theorem AR.mul (hx : AR x) (hy : AR y) : AR (mulf x y) := fun i => (hx i).mul (hy i)
theorem AR.add (hx : AR x) (hy : AR y) : AR (addf x y) := fun i => (hx i).add (hy i)
theorem AR.sub (hx : AR x) (hy : AR y) : AR (subf x y) := fun i => (hx i).sub (hy i)
theorem AR.neg (hx : AR x) : AR (Host.negf x) := fun i => (hx i).neg
theorem AR.exp (hx : AR x) : AR (Host.exp x) := fun i => (hx i).exp
theorem AR.cos (hx : AR x) : AR (Host.cos x) := fun i => (hx i).cos
theorem AR.sin (hx : AR x) : AR (Host.sin x) := fun i => (hx i).sin
theorem AR.const (b : BitVec 32) (h : ¬ (b.extractLsb' 23 8).toNat = 2 ^ 8 - 1 := by decide) : AR (constant (F := Ideal) s .f32 b) := fun _ => re_bits b h
theorem AR.int (z : s.Idx → BitVec 32) : AR (sitofp (F := Ideal) .f32 z) := fun _ => ⟨_, rfl⟩
theorem AR.cast (hx : AR x) (h : s.ShapeCasts t) : AR (shapeCast t x h) := fun _ => hx _
theorem AR.bcast (hx : AR x) (d : Fin s.rank → Fin t.rank) (h : s.BroadcastsInDim t d) : AR (broadcastInDim t d h x) := fun _ => hx _
theorem AR.slice (hx : AR x) (off : Fin s.rank → ℕ) (h : s.Slices off t) : AR (extractStridedSlice t off x h) := fun _ => hx _
theorem AR.perm (hx : AR x) (p : List (Fin s.rank)) (h : s.Transposes p t) : AR (transpose t p x h) := fun _ => hx _

theorem AR.dot {sl sr so : Shape} (d : DotDims sl sr so) {x : FVec Ideal sl .f32} {y : FVec Ideal sr .f32} (hx : AR x) (hy : AR y) :
    AR (Host.dotGeneral d none x y) := fun i => by
  simp only [Host.dotGeneral]
  rw [Ideal.dotGeneral_apply]
  exact Re.sum _ _ fun k _ => (hx _).mul (hy _)

theorem AR.concat {t : Shape} {a : Fin t.rank} {xs : List ((s : Shape) × (s.Idx → Ideal .f32))} (hc : Shape.Concatenates (xs.map (·.1)) t a)
    (h : ∀ p ∈ xs, ∀ i, Re (p.2 i)) : AR (concatenate t a xs hc) := fun _ => h _ (List.getElem_mem _) _

end

/-! ## The tables -/

theorem f18 : AR (val_main_v18 (F := Ideal)) := by
  have f10 : AR (val_main_v10 (F := Ideal)) := fun i => by
    have h : val_main_v9 (F := Ideal) i = ((128 : ℝ) : EReal) := by
      rw [val_main_v9_apply, val_main_cst_apply]
      show Ideal.ofBits .f32 0x43000000#32 = _
      simp [Ideal.ofBits, Ideal.ieee, -EReal.coe_mul]; norm_num
    exact (AR.neg (AR.int _) i).div (by norm_num) h
  have f12 : AR (val_main_v12 (F := Ideal)) := fun i => (AR.bcast (AR.const 0x461C4000#32) _ Cert.ReferenceIdeal.Gen.bcast_S_S128 i).pow (f10 i)
  exact AR.mul (AR.bcast (AR.bcast (AR.int _) _ _) _ _) (AR.bcast (AR.bcast f12 _ _) _ _)

theorem f19 : AR (val_main_v19 (F := Ideal)) := AR.cos f18
theorem f21 : AR (val_main_v21 (F := Ideal)) := AR.sin f18

/-- The logarithm of a head's decay is a real number: two to a negative power is below one. -/
theorem f75 : AR (val_main_v75 (F := Ideal)) := fun i => by
  have hn : ∃ n : ℝ, 0 ≤ n ∧ val_main_v69 (F := Ideal) i = (n : EReal) :=
    ⟨((BitVec.ofNat 32 (i 0).val).toInt : ℝ), by
      have h : ∀ k : Fin 4, 0 ≤ (BitVec.ofNat 32 k.val).toInt := by decide
      exact_mod_cast h (i 0), rfl⟩
  obtain ⟨n, hn0, hn⟩ := hn
  have h5 : val_main_v70 (F := Ideal) i = ((-5 : ℝ) : EReal) := by
    rw [val_main_v70_apply, val_main_cst_4_apply]
    show Ideal.ofBits .f32 0xC0A00000#32 = _
    simp [Ideal.ofBits, Ideal.ieee, -EReal.coe_mul, -EReal.coe_neg]; norm_num
  have h2 : val_main_v72 (F := Ideal) i = ((2 : ℝ) : EReal) := by
    rw [val_main_v72_apply, val_main_cst_5_apply]
    exact c_two
  have h73 : val_main_v73 (F := Ideal) i = (((2 : ℝ) ^ (-5 - n) : ℝ) : EReal) := by
    show Ideal.pow (val_main_v72 (F := Ideal) i) (val_main_v70 (F := Ideal) i - val_main_v69 (F := Ideal) i) = _
    rw [h5, h2, hn, ← EReal.coe_sub, Ideal.pow_coe_coe]; rfl
  have hlt : (2 : ℝ) ^ (-5 - n) < 1 := Real.rpow_lt_one_of_one_lt_of_neg (by norm_num) (by linarith)
  show Re (Ideal.log (1 + -(val_main_v73 (F := Ideal) i)))
  rw [h73, ← EReal.coe_neg, ← EReal.coe_one, ← EReal.coe_add, Ideal.log_coe, if_neg (by linarith)]
  exact Re.coe _

theorem f92 : AR (val_main_v92 (F := Ideal)) := by
  have f81 : AR (val_main_v81 (F := Ideal)) := AR.sub (AR.bcast (AR.bcast (AR.int _) _ _) _ _) (AR.bcast (AR.bcast (AR.int _) _ _) _ _)
  have f84 : AR (val_main_v84 (F := Ideal)) := AR.bcast (AR.const _) _ _
  have f85 : AR (val_main_v85 (F := Ideal)) := fun i => (f81 i).max (f84 i)
  have f91 : AR (val_main_v91 (F := Ideal)) := AR.exp (AR.mul (AR.bcast (AR.bcast f85 _ _) _ _) (AR.bcast (AR.bcast f75 _ _) _ _))
  have fz : AR (val_main_call0_v2 (F := Ideal)) := AR.bcast (AR.const (s := S_) 0x00000000#32) _ _
  intro i
  rw [val_main_v92_apply]
  unfold Scalar.select
  split
  · exact f91 i
  · exact fz i

theorem f100 : AR (val_main_v100 (F := Ideal)) :=
  AR.exp (AR.mul (AR.bcast (AR.add (AR.bcast (AR.int _) _ _) (AR.bcast (AR.const _) _ _)) _ _) (AR.bcast (AR.bcast f75 _ _) _ _))

theorem f109 : AR (val_main_v109 (F := Ideal)) :=
  AR.exp (AR.mul (AR.bcast (AR.sub (AR.bcast (AR.const _) _ _) (AR.bcast (AR.int _) _ _)) _ _) (AR.bcast (AR.bcast f75 _ _) _ _))

theorem f113 : AR (val_main_v113 (F := Ideal)) := AR.exp (AR.mul (AR.bcast (AR.const _) _ _) f75)

/-! ## From the projections to the output -/

variable {x1 : Vec Ideal S4096x8192 .f32} (hx1 : AR (s := S4096x8192) x1)
include hx1

theorem f1 : AR (val_main_v1 x1) := AR.cast (AR.slice hx1 _ _) _

theorem f35 : AR (val_main_v35 x1) := by
  have f6 : AR (val_main_v6 x1) := AR.cast (AR.slice (f1 hx1) _ _) _
  have f20 : AR (val_main_v20 (F := Ideal)) := AR.bcast f19 _ _
  have f22 : AR (val_main_v22 (F := Ideal)) := AR.bcast f21 _ _
  have f23 : AR (val_main_v23 x1) := AR.slice f6 _ _
  have f24 : AR (val_main_v24 x1) := AR.slice f6 _ _
  have f29 : AR (val_main_v29 x1) := AR.sub (AR.mul f23 (AR.bcast f20 _ _)) (AR.mul f24 (AR.bcast f22 _ _))
  have f34 : AR (val_main_v34 x1) := AR.add (AR.mul f23 (AR.bcast f22 _ _)) (AR.mul f24 (AR.bcast f20 _ _))
  exact AR.concat _ (List.forall_mem_cons.2 ⟨f29, List.forall_mem_cons.2 ⟨f34, fun _ h => absurd h List.not_mem_nil⟩⟩)

theorem f65 : AR (val_main_v65 x1) := by
  have f36 : AR (val_main_v36 x1) := AR.cast (AR.slice (f1 hx1) _ _) _
  have f50 : AR (val_main_v50 (F := Ideal)) := by rw [val_main_v50, r49]; exact AR.bcast f19 _ _
  have f52 : AR (val_main_v52 (F := Ideal)) := by rw [val_main_v52, r51]; exact AR.bcast f21 _ _
  have f53 : AR (val_main_v53 x1) := AR.slice f36 _ _
  have f54 : AR (val_main_v54 x1) := AR.slice f36 _ _
  have f59 : AR (val_main_v59 x1) := AR.sub (AR.mul f53 (AR.bcast f50 _ _)) (AR.mul f54 (AR.bcast f52 _ _))
  have f64 : AR (val_main_v64 x1) := AR.add (AR.mul f53 (AR.bcast f52 _ _)) (AR.mul f54 (AR.bcast f50 _ _))
  exact AR.concat _ (List.forall_mem_cons.2 ⟨f59, List.forall_mem_cons.2 ⟨f64, fun _ h => absurd h List.not_mem_nil⟩⟩)

theorem f116 : AR (val_main_v116 x1) := AR.perm (AR.cast (f35 hx1) _) _ _

theorem f118 : AR (val_main_v118 x1) := AR.perm (AR.cast (AR.mul (f65 hx1) (AR.bcast (AR.const _) _ _)) _) _ _

theorem f120 : AR (val_main_v120 x1) := AR.perm (AR.cast (AR.cast (AR.slice (f1 hx1) _ _) _) _) _ _

theorem f126 : AR (val_main_v126 x1) := AR.slice (AR.dot _ (f118 hx1) (AR.mul (f120 hx1) (AR.bcast (AR.bcast f109 _ _) _ _))) _ _

/-- The states before each chunk. -/
def state (x1 : Vec Ideal S4096x8192 .f32) : Fin 16 → Vec Ideal S2x4x256x256 .f32 :=
  ![val_main_v121, val_main_v132 x1, val_main_v137 x1, val_main_v142 x1, val_main_v147 x1, val_main_v152 x1, val_main_v157 x1, val_main_v162 x1,
    val_main_v167 x1, val_main_v172 x1, val_main_v177 x1, val_main_v182 x1, val_main_v187 x1, val_main_v192 x1, val_main_v197 x1, val_main_v202 x1]

theorem f_step {u : FVec Ideal S2x4x256x256 .f32} (hu : AR u) (off : Fin 5 → ℕ) (hs : S16x2x4x256x256.Slices off S1x2x4x256x256)
    (hc : S1x2x4x256x256.ShapeCasts S2x4x256x256) :
    AR (addf (mulf (val_main_v130 (F := Ideal)) u) (shapeCast S2x4x256x256 (extractStridedSlice S1x2x4x256x256 off (val_main_v126 x1) hs) hc)) :=
  AR.add (AR.mul (AR.bcast (AR.bcast f113 _ _) _ _) hu) (AR.cast (AR.slice (f126 hx1) _ _) _)

theorem f_state : ∀ (k : ℕ) (hk : k < 16), AR (s := S2x4x256x256) (state x1 ⟨k, hk⟩)
  | 0, _ => by
    have f121 : AR (val_main_v121 (F := Ideal)) := AR.bcast (AR.const _) _ _
    exact f121
  | k + 1, hk => by
    have ih := f_state k (by omega)
    match k, hk, ih with
    | 0, _, ih | 1, _, ih | 2, _, ih | 3, _, ih | 4, _, ih | 5, _, ih | 6, _, ih | 7, _, ih | 8, _, ih | 9, _, ih | 10, _, ih | 11, _, ih
    | 12, _, ih | 13, _, ih | 14, _, ih => exact f_step hx1 ih _ _ _
    | k + 15, hk, _ => exact absurd hk (by omega)

theorem f225 : AR (val_main_v225 x1) := by
  have f224 : AR (val_main_v224 x1) := by
    unfold val_main_v224
    intro i
    refine (congrArg Re (concatenate_ofFn_unit_apply (t := S16x2x4x256x256) (s₁ := S1x2x4x256x256) 0
      (fun n : Fin 16 => broadcastInDim S1x2x4x256x256 ![1, 2, 3, 4] Cert.ReferenceIdeal.Gen.bcast_S2x4x256x256_S1x2x4x256x256_1_2_3_4 (state x1 n))
      _ rfl rfl i (i 0) rfl (ix5 0 (i 1) (i 2) (i 3) (i 4))
      (fun a ha => match a with | ⟨0, _⟩ => absurd rfl ha | ⟨1, _⟩ | ⟨2, _⟩ | ⟨3, _⟩ | ⟨4, _⟩ => rfl))).mpr ?_
    exact AR.bcast (f_state hx1 (i 0).val (i 0).isLt) _ _ _
  exact AR.concat _ (List.forall_mem_cons.2 ⟨fun i => (i 0).elim0, List.forall_mem_cons.2 ⟨f224, fun _ h => absurd h List.not_mem_nil⟩⟩)

/-- The forward output is real wherever the projections are. -/
theorem f238 : AR (val_main_v238 x1) := by
  have f229 : AR (val_main_v229 x1) := AR.mul (AR.dot _ (f116 hx1) (f118 hx1)) (AR.bcast (AR.bcast f92 _ _) _ _)
  have f230 : AR (val_main_v230 x1) := AR.dot _ (f120 hx1) f229
  have f235 : AR (val_main_v235 x1) := AR.mul (AR.perm (AR.dot _ (f225 hx1) (f116 hx1)) _ _) (AR.bcast (AR.bcast f100 _ _) _ _)
  exact AR.cast (AR.perm (AR.add (AR.perm f230 _ _) f235) _ _) _

end Cert.KernelIdeal.Body

end
-- ==== Proof.Pay.lean ====
/- The tile functions of one chunk of one head, read at an index. -/
module

public import proofs.«01_k».proof.Proof.Tiles

@[expose] public section

set_option maxRecDepth 65536

noncomputable section

namespace Cert.KernelIdeal.Body

open Idealize.ShloMosaic Idealize.ShloMosaic.TcCoe Idealize.ShloMosaic.Tactic Cert.KernelIdeal Cert.KernelIdeal.Gen

variable (i i' : Fin 128) (d e : Fin 256) (j : Fin 128)

/-! ## The five kinds of product -/

section Products
variable (a : FVec Ideal S128x128 .bf16) (y z : FVec Ideal S128x256 .bf16) (S : FVec Ideal S256x256 .bf16)

theorem mm_rows : matmul dot_S128x256_S128x256_S128x128_1_1_0_0_n_n none y z (constant S128x128 .f32 0x00000000#32) (ix2 i i') = ∑ k : Fin 256, y (ix2 i k) * z (ix2 i' k) := by
  simp only [matmul]
  rw [Ideal.matmul_constant_zero_apply, DotDims.sum_contr₁ (K := 256) _ rfl rfl]
  exact Finset.sum_congr rfl fun k _ => congrArg₂ HMul.hMul (congrArg y (funext fun b => match b with | ⟨0, _⟩ | ⟨1, _⟩ => rfl)) (congrArg z (funext fun b => match b with | ⟨0, _⟩ | ⟨1, _⟩ => rfl))

theorem mm_sq : matmul dot_S128x128_S128x256_S128x256_1_0_0_1_n_n none a y (constant S128x256 .f32 0x00000000#32) (ix2 i d) = ∑ k : Fin 128, a (ix2 i k) * y (ix2 k d) := by
  simp only [matmul]
  rw [Ideal.matmul_constant_zero_apply, DotDims.sum_contr₁ (K := 128) _ rfl rfl]
  exact Finset.sum_congr rfl fun k _ => congrArg₂ HMul.hMul (congrArg a (funext fun b => match b with | ⟨0, _⟩ | ⟨1, _⟩ => rfl)) (congrArg y (funext fun b => match b with | ⟨0, _⟩ | ⟨1, _⟩ => rfl))

theorem mm_sqT : matmul dot_S128x128_S128x256_S128x256_0_0_1_1_n_n none a y (constant S128x256 .f32 0x00000000#32) (ix2 i d) = ∑ k : Fin 128, a (ix2 k i) * y (ix2 k d) := by
  simp only [matmul]
  rw [Ideal.matmul_constant_zero_apply, DotDims.sum_contr₁ (K := 128) _ rfl rfl]
  exact Finset.sum_congr rfl fun k _ => congrArg₂ HMul.hMul (congrArg a (funext fun b => match b with | ⟨0, _⟩ | ⟨1, _⟩ => rfl)) (congrArg y (funext fun b => match b with | ⟨0, _⟩ | ⟨1, _⟩ => rfl))

theorem mm_stT : matmul dot_S128x256_S256x256_S128x256_1_1_0_0_n_n none y S (constant S128x256 .f32 0x00000000#32) (ix2 i d) = ∑ k : Fin 256, y (ix2 i k) * S (ix2 d k) := by
  simp only [matmul]
  rw [Ideal.matmul_constant_zero_apply, DotDims.sum_contr₁ (K := 256) _ rfl rfl]
  exact Finset.sum_congr rfl fun k _ => congrArg₂ HMul.hMul (congrArg y (funext fun b => match b with | ⟨0, _⟩ | ⟨1, _⟩ => rfl)) (congrArg S (funext fun b => match b with | ⟨0, _⟩ | ⟨1, _⟩ => rfl))

theorem mm_st : matmul dot_S128x256_S256x256_S128x256_1_0_0_1_n_n none y S (constant S128x256 .f32 0x00000000#32) (ix2 i d) = ∑ k : Fin 256, y (ix2 i k) * S (ix2 k d) := by
  simp only [matmul]
  rw [Ideal.matmul_constant_zero_apply, DotDims.sum_contr₁ (K := 256) _ rfl rfl]
  exact Finset.sum_congr rfl fun k _ => congrArg₂ HMul.hMul (congrArg y (funext fun b => match b with | ⟨0, _⟩ | ⟨1, _⟩ => rfl)) (congrArg S (funext fun b => match b with | ⟨0, _⟩ | ⟨1, _⟩ => rfl))

theorem mm_cols : matmul dot_S128x256_S128x256_S256x256_0_0_1_1_n_n none y z (constant S256x256 .f32 0x00000000#32) (ix2 d e) = ∑ k : Fin 128, y (ix2 k d) * z (ix2 k e) := by
  simp only [matmul]
  rw [Ideal.matmul_constant_zero_apply, DotDims.sum_contr₁ (K := 128) _ rfl rfl]
  exact Finset.sum_congr rfl fun k _ => congrArg₂ HMul.hMul (congrArg y (funext fun b => match b with | ⟨0, _⟩ | ⟨1, _⟩ => rfl)) (congrArg z (funext fun b => match b with | ⟨0, _⟩ | ⟨1, _⟩ => rfl))

end Products

/-! ## The gradients of the products -/

theorem pay30_at (g : FVec Ideal S128x256 .f32) (w : FVec Ideal S128x1 .f32) : k0_pay30 g w (ix2 i d) = g (ix2 i d) * w (ix2 i 0) := by
  unfold k0_pay30; rw [truncf_at]; pointwise

theorem pay31_at (dm : Vec Ideal S1x128x128 .f32) : k0_pay31 dm (ix2 i i') = dm (ix3 0 i i') := by
  unfold k0_pay31; pointwise

theorem pay32_at (ds : Vec Ideal S1x1x256x256 .f32) : k0_pay32 ds (ix2 d e) = ds (ix4 0 0 d e) := by
  unfold k0_pay32; pointwise

theorem pay33_at (ds : Vec Ideal S1x1x256x256 .f32) : k0_pay33 ds (ix2 d e) = ds (ix4 0 0 d e) := pay32_at d e ds

theorem pay34_at (v ob : FVec Ideal S128x256 .bf16) (dm : Vec Ideal S1x128x128 .f32) :
    k0_pay34 v ob dm (ix2 i i') = (∑ k : Fin 256, ob (ix2 i k) * v (ix2 i' k)) * dm (ix3 0 i i') := by
  unfold k0_pay34; rw [truncf_at]
  exact congrArg₂ HMul.hMul (mm_rows i i' ob v) (pay31_at i i' dm)

theorem pay35_at (g : FVec Ideal S128x256 .f32) (k v ob : FVec Ideal S128x256 .bf16) (cd : FVec Ideal S128x1 .f32) (dm : Vec Ideal S1x128x128 .f32)
    (st : Vec Ideal S1x1x1x256x256 .bf16) : k0_pay35 g k v ob cd dm st (ix2 i d) =
      (∑ i' : Fin 128, k0_pay34 v ob dm (ix2 i i') * k (ix2 i' d)) + ∑ e : Fin 256, k0_pay30 g cd (ix2 i e) * st (ix5 0 0 0 d e) := by
  unfold k0_pay35
  refine congrArg₂ HAdd.hAdd (mm_sq i d _ k) ((mm_stT i d _ _).trans (Finset.sum_congr rfl fun e _ => congrArg₂ HMul.hMul rfl ?_))
  pointwise

theorem pay36_at (q v vs ob : FVec Ideal S128x256 .bf16) (dm : Vec Ideal S1x128x128 .f32) (ds : Vec Ideal S1x1x256x256 .f32) :
    k0_pay36 q v vs ob dm ds (ix2 i d) =
      (∑ i' : Fin 128, k0_pay34 v ob dm (ix2 i' i) * q (ix2 i' d)) + ∑ e : Fin 256, vs (ix2 i e) * ds (ix4 0 0 d e) := by
  unfold k0_pay36
  exact congrArg₂ HAdd.hAdd (mm_sqT i d _ q) ((mm_stT i d vs _).trans (Finset.sum_congr rfl fun e _ => congrArg₂ HMul.hMul rfl (pay33_at d e ds)))

theorem pay37_at (q k ob : FVec Ideal S128x256 .bf16) (dm : Vec Ideal S1x128x128 .f32) (ds : Vec Ideal S1x1x256x256 .f32) (sd : Vec Ideal S1x128x1 .f32) :
    k0_pay37 q k ob dm ds sd (ix2 i d) =
      (∑ i' : Fin 128, ((∑ e : Fin 256, q (ix2 i' e) * k (ix2 i e)) * dm (ix3 0 i' i)) * ob (ix2 i' d))
        + (∑ e : Fin 256, k (ix2 i e) * ds (ix4 0 0 e d)) * sd (ix3 0 i 0) := by
  unfold k0_pay37
  refine congrArg₂ HAdd.hAdd ((mm_sqT i d _ ob).trans (Finset.sum_congr rfl fun i' _ => congrArg₂ HMul.hMul (congrArg₂ HMul.hMul (mm_rows i' i q k) (pay31_at i' i dm)) rfl))
    (congrArg₂ HMul.hMul ((mm_st i d k _).trans (Finset.sum_congr rfl fun e _ => congrArg₂ HMul.hMul rfl (pay33_at e d ds))) ?_)
  pointwise

theorem pay38_at (ds : Vec Ideal S1x1x256x256 .f32) (gam : Vec Ideal S1x1x256 .f32) : k0_pay38 ds gam (ix2 d e) = gam (ix3 0 0 e) * ds (ix4 0 0 d e) := by
  unfold k0_pay38
  refine congrArg₂ HMul.hMul ?_ (pay32_at d e ds)
  pointwise

theorem pay39_at (q oc : FVec Ideal S128x256 .bf16) (s : FVec Ideal S256x256 .f32) :
    k0_pay39 q oc s (constant S256x256 .f32 0x00000000#32) (ix4 0 0 d e) = s (ix2 d e) + ∑ k : Fin 128, q (ix2 k d) * oc (ix2 k e) := by
  rw [← mm_cols d e q oc]
  unfold k0_pay39
  generalize matmul dot_S128x256_S128x256_S256x256_0_0_1_1_n_n none q oc (constant S256x256 .f32 0x00000000#32) = y
  pointwise

/-! ## Undoing the rotation -/

theorem addUnit_at (y : FVec Ideal S128x256 .bf16) : shapeCast S1x128x256 y shapeCasts_S128x256_S1x128x256 (ix3 0 i d) = y (ix2 i d) := by
  pointwise

theorem pay40_lo (co si : FVec Ideal S128x128 .f32) (g : FVec Ideal S128x256 .f32) :
    k0_pay40 co si g (ix3 0 i (lo j)) = g (ix2 i (lo j)) * co (ix2 i j) + g (ix2 i (hi j)) * si (ix2 i j) := by
  unfold k0_pay40
  rw [addUnit_at, truncf_at, tile_lo]
  pointwise
  reads_congr <;> blk_ext [lo, hi]

theorem pay40_hi (co si : FVec Ideal S128x128 .f32) (g : FVec Ideal S128x256 .f32) :
    k0_pay40 co si g (ix3 0 i (hi j)) = g (ix2 i (hi j)) * co (ix2 i j) - g (ix2 i (lo j)) * si (ix2 i j) := by
  unfold k0_pay40
  rw [addUnit_at, truncf_at, tile_hi]
  pointwise
  reads_congr <;> blk_ext [lo, hi]

theorem pay41_at (co si : FVec Ideal S128x128 .f32) (g : FVec Ideal S128x256 .f32) :
    k0_pay41 co si g (ix3 0 i d) = k0_pay40 co si g (ix3 0 i d) * Ideal.ofBits .f32 0x3D800000#32 := by
  unfold k0_pay41 k0_pay40
  rw [addUnit_at, addUnit_at]
  rfl

theorem pay42_at (g : FVec Ideal S128x256 .f32) : k0_pay42 g (ix3 0 i d) = g (ix2 i d) := by
  unfold k0_pay42
  rw [addUnit_at]; rfl

end Cert.KernelIdeal.Body

end
-- ==== Proof.Chain.lean ====
/- The reference's recurrence of the carried gradient, from the last chunk to the first. -/
module

public import proofs.«01_k».proof.Proof.RefOut

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

variable (x0 : Vec Ideal S4096x1024 .f32) (x1 : Vec Ideal S4096x8192 .f32) (x2 : Vec Ideal S4x256 .f32)
  (b : Fin 2) (h : Fin 4) (d e : Fin 256)

/-- What is carried into the chunk with `k` chunks after it. -/
def carried : Fin 16 → Vec Ideal S2x4x256x256 .f32 :=
  ![val_main_v318, val_main_v326 x0 x1 x2, val_main_v331 x0 x1 x2, val_main_v336 x0 x1 x2, val_main_v341 x0 x1 x2, val_main_v346 x0 x1 x2,
    val_main_v351 x0 x1 x2, val_main_v356 x0 x1 x2, val_main_v361 x0 x1 x2, val_main_v366 x0 x1 x2, val_main_v371 x0 x1 x2, val_main_v376 x0 x1 x2,
    val_main_v381 x0 x1 x2, val_main_v386 x0 x1 x2, val_main_v391 x0 x1 x2, val_main_v396 x0 x1 x2]

/-- One step of the recurrence at an index. -/
theorem step_at (off : Fin 5 → ℕ) (n : Fin 16) (h0 : off 0 = n.val) (h1 : off 1 = 0) (h2 : off 2 = 0) (h3 : off 3 = 0) (h4 : off 4 = 0)
    (hs : S16x2x4x256x256.Slices off S1x2x4x256x256) (hc : S1x2x4x256x256.ShapeCasts S2x4x256x256)
    (u : Vec Ideal S2x4x256x256 .f32) :
    addf (shapeCast S2x4x256x256 (extractStridedSlice S1x2x4x256x256 off (val_main_v319 x0 x1 x2) hs) hc)
      (mulf (val_main_v324 (F := Ideal)) u) (ix4 b h d e)
      = val_main_v306 x0 x1 x2 (ix5 n b h d e) + val_main_v113 (ix1 h) * u (ix4 b h d e) := by
  have e1 : val_main_v324 (F := Ideal) (ix4 b h d e) = val_main_v113 (ix1 h) := by
    rw [val_main_v324_apply, val_main_v114_apply]; blk_ext []
  have e2 : val_main_v319 x0 x1 x2 (ix5 n b h d e) = val_main_v306 x0 x1 x2 (ix5 n b h d e) := by
    rw [val_main_v319_apply]; blk_ext []
  show shapeCast S2x4x256x256 (extractStridedSlice S1x2x4x256x256 off (val_main_v319 x0 x1 x2) hs) hc (ix4 b h d e) + val_main_v324 (F := Ideal) (ix4 b h d e) * u (ix4 b h d e) = _
  rw [e1, ← e2]
  refine congrArg₂ HAdd.hAdd ?_ rfl
  generalize val_main_v319 x0 x1 x2 = y
  pointwise
  reads_congr <;> (blk_ext [] <;> omega)

theorem carried_zero : carried x0 x1 x2 0 (ix4 b h d e) = 0 := by
  show val_main_v318 (F := Ideal) (ix4 b h d e) = 0
  rw [val_main_v318_apply, val_main_cst_29_apply]; exact zero_bits

theorem carried_succ (k : ℕ) (hk : k + 1 < 16) : carried x0 x1 x2 ⟨k + 1, hk⟩ (ix4 b h d e) =
    val_main_v306 x0 x1 x2 (ix5 ⟨15 - k, by omega⟩ b h d e) + val_main_v113 (ix1 h) * carried x0 x1 x2 ⟨k, by omega⟩ (ix4 b h d e) := by
  match k, hk with
  | 0, _ | 1, _ | 2, _ | 3, _ | 4, _ | 5, _ | 6, _ | 7, _ | 8, _ | 9, _ | 10, _ | 11, _ | 12, _ | 13, _ | 14, _ =>
    exact step_at x0 x1 x2 b h d e _ _ rfl rfl rfl rfl rfl _ _ _
  | k + 15, hk => exact absurd hk (by omega)

theorem r419 (n : Fin 16) : val_main_v419 x0 x1 x2 (ix5 n b h d e) = carried x0 x1 x2 (Fin.rev n) (ix4 b h d e) := by
  have e1 : val_main_v419 x0 x1 x2 (ix5 n b h d e) = val_main_v418 x0 x1 x2 (ix5 n b h d e) := by
    unfold val_main_v419
    generalize val_main_v418 x0 x1 x2 = y
    exact concatenate_pair_apply_left (t := S16x2x4x256x256) 0 y _ _ (ix5 n b h d e) rfl (ix5 n b h d e)
      (fun a => match a with | ⟨0, _⟩ | ⟨1, _⟩ | ⟨2, _⟩ | ⟨3, _⟩ | ⟨4, _⟩ => rfl)
  rw [e1]
  unfold val_main_v418
  refine (concatenate_ofFn_unit_apply (t := S16x2x4x256x256) (s₁ := S1x2x4x256x256) 0
    (fun n : Fin 16 => broadcastInDim S1x2x4x256x256 ![1, 2, 3, 4] Cert.ReferenceIdeal.Gen.bcast_S2x4x256x256_S1x2x4x256x256_1_2_3_4 (carried x0 x1 x2 (Fin.rev n)))
    _ rfl rfl (ix5 n b h d e) n rfl (ix5 0 b h d e)
    (fun a ha => match a with | ⟨0, _⟩ => absurd rfl ha | ⟨1, _⟩ | ⟨2, _⟩ | ⟨3, _⟩ | ⟨4, _⟩ => rfl)).trans ?_
  generalize carried x0 x1 x2 (Fin.rev n) = y
  pointwise

end Cert.KernelIdeal.Body

end
-- ==== Proof.Chunk.lean ====
/- The products of one chunk of one head: the kernel's tiles are the reference's arrays once the gradient to the output is. -/
module

public import proofs.«01_k».proof.Proof.Pay
public import proofs.«01_k».proof.Proof.Chain
public import proofs.«01_k».proof.Proof.Reals

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

variable (m : (ℓ : Loc nD τ sig) → Buf (Elt Ideal) ℓ) (c : Dev nD) (t : Fin cfg0.N) (cc b : Fin 2) (h : Fin 4)

/-- The gradient to the output over one chunk of one head is the reference's. -/
def DoEq : Prop := ∀ (i : Fin 128) (d : Fin 256),
  doT (blk m c t) cc b h (ix2 i d) = val_main_v299 (X0 m c) (X1 m c) (X2 m c) (ix5 (ch t cc) b i h d)

/-- The gradient carried into a chunk is `u`. -/
def DsEq (ds : Vec Ideal S1x1x256x256 .f32) (u : Vec Ideal S2x4x256x256 .f32) : Prop :=
  ∀ d e : Fin 256, ds (ix4 0 0 d e) = u (ix4 b h d e)

variable {m c t cc b h} (hdo : DoEq m c t cc b h) (i i' : Fin 128) (d e : Fin 256)
include hdo

theorem t_dob : dobT (blk m c t) cc b h (ix2 i d) = val_main_v299 (X0 m c) (X1 m c) (X2 m c) (ix5 (ch t cc) b i h d) := hdo i d

theorem t_doc : docT (blk m c t) cc b h (ix2 i d) = val_main_v301 (X0 m c) (X1 m c) (X2 m c) (ix5 (ch t cc) b i h d) := by
  rw [docT, pay30_at, r301, hdo, t_cd]

theorem t_dscore : k0_pay34 (vT (blk m c t) cc b h) (dobT (blk m c t) cc b h) (View.ld (blk m c t).dm (rSq h)) (ix2 i i')
    = val_main_v312 (X0 m c) (X1 m c) (X2 m c) (ix5 (ch t cc) b h i i') := by
  rw [pay34_at, r312, ld_dm, V_v274]
  exact congrArg₂ HMul.hMul (Finset.sum_congr rfl fun k _ => congrArg₂ HMul.hMul (t_dob hdo i k) (t_v m c t cc b h i' k)) rfl

theorem t_dq : dqT (blk m c t) cc b h (ix2 i d) = val_main_v317 (X0 m c) (X1 m c) (X2 m c) (ix5 (ch t cc) b i h d) := by
  rw [dqT, pay35_at, r317, r304, r316, add_comm]
  refine congrArg₂ HAdd.hAdd (Finset.sum_congr rfl fun e _ => congrArg₂ HMul.hMul (t_doc hdo i e) ?_)
    (Finset.sum_congr rfl fun k _ => congrArg₂ HMul.hMul (t_dscore hdo i k) (t_k m c t cc b h k d))
  rw [ld_st, w_st]

variable {ds : Vec Ideal S1x1x256x256 .f32} (hds : DsEq b h ds (carried (X0 m c) (X1 m c) (X2 m c) (Fin.rev (ch t cc))))
include hds

theorem t_dk : dkT (blk m c t) cc b h ds (ix2 i d) = val_main_v424 (X0 m c) (X1 m c) (X2 m c) (ix5 (ch t cc) b i h d) := by
  rw [dkT, pay36_at, r424, r314, r423]
  refine congrArg₂ HAdd.hAdd (Finset.sum_congr rfl fun k _ => congrArg₂ HMul.hMul (t_dscore hdo k i) (t_q m c t cc b h k d))
    (Finset.sum_congr rfl fun e _ => ?_)
  rw [t_vs, hds, r419, mul_comm]

theorem t_dv : dvT (blk m c t) cc b h ds (ix2 i d) = val_main_v427 (X0 m c) (X1 m c) (X2 m c) (ix5 (ch t cc) b i h d) := by
  rw [dvT, pay37_at, r427, r310, r421, ld_sd, w_sd]
  refine congrArg₂ HAdd.hAdd (Finset.sum_congr rfl fun k _ => ?_)
    (congrArg₂ HMul.hMul (Finset.sum_congr rfl fun e _ => ?_) rfl)
  · rw [t_dob hdo, r229, ld_dm, V_v274, mul_comm]
    refine congrArg₂ HMul.hMul rfl (congrArg₂ HMul.hMul (Finset.sum_congr rfl fun e _ => ?_) rfl)
    rw [t_q, t_k]
  · rw [t_k, hds, r419, mul_comm]

/-- The gradient handed on is the next step of the reference's recurrence. -/
theorem t_ds : dsT (blk m c t) cc b h ds (ix4 0 0 d e) = val_main_v306 (X0 m c) (X1 m c) (X2 m c) (ix5 (ch t cc) b h d e)
    + val_main_v113 (ix1 h) * carried (X0 m c) (X1 m c) (X2 m c) (Fin.rev (ch t cc)) (ix4 b h d e) := by
  rw [dsT, pay39_at, pay38_at, r306, add_comm, ld_gam, w_gam, hds]
  refine congrArg₂ HAdd.hAdd (Finset.sum_congr rfl fun k _ => ?_) rfl
  rw [t_q, t_doc hdo, mul_comm]

omit hds

/-! ## The parts of the result -/

theorem t_part0 : partT (blk m c t) cc b h ds 0 (ix3 0 i d) = val_main_v470 (X0 m c) (X1 m c) (X2 m c) (ix3 b (sq (ch t cc) i) (cl h d)) := by
  show dqOut (blk m c t) cc b h (ix3 0 i d) = _
  rw [r470, dqOut]
  rcases lo_or_hi d with ⟨j, rfl⟩ | ⟨j, rfl⟩
  · rw [pay40_lo, r469_lo, r433, r433, t_cos, t_sin, t_dq hdo, t_dq hdo, add_comm]
  · rw [pay40_hi, r469_hi, r433, r433, t_cos, t_sin, t_dq hdo, t_dq hdo, sub_eq_add_neg, EReal.neg_mul]

include hds

theorem t_part1 : partT (blk m c t) cc b h ds 1 (ix3 0 i d) = val_main_v453 (X0 m c) (X1 m c) (X2 m c) (ix3 b (sq (ch t cc) i) (cl h d)) := by
  show dkOut (blk m c t) cc b h ds (ix3 0 i d) = _
  rw [r453, dkOut, pay41_at]
  have hs := sixteenth
  rcases lo_or_hi d with ⟨j, rfl⟩ | ⟨j, rfl⟩
  · rw [pay40_lo, r452_lo, r436, r436, t_cos, t_sin, t_dk hdo _ _ hds, t_dk hdo _ _ hds, EReal.right_distrib_of_nonneg_of_ne_top hs.1 hs.2, add_comm, mul_right_comm]
    refine congrArg₂ HAdd.hAdd rfl (mul_right_comm _ _ _)
  · rw [pay40_hi, r452_hi, r436, r436, t_cos, t_sin, t_dk hdo _ _ hds, t_dk hdo _ _ hds, sub_eq_add_neg, EReal.right_distrib_of_nonneg_of_ne_top hs.1 hs.2, mul_right_comm]
    refine congrArg₂ HAdd.hAdd rfl ?_
    rw [← EReal.neg_mul, mul_right_comm, EReal.neg_mul]

theorem t_part2 : partT (blk m c t) cc b h ds 2 (ix3 0 i d) = val_main_v434 (X0 m c) (X1 m c) (X2 m c) (ix3 b (sq (ch t cc) i) (cl h d)) := by
  show dvOut (blk m c t) cc b h ds (ix3 0 i d) = _
  rw [r434, dvOut, pay42_at, t_dv hdo i d hds]

end Cert.KernelIdeal.Body

end
-- ==== Proof.Norm.lean ====
/- The gated norm's gradients: the kernel's tiles are the reference's arrays wherever the inputs are real numbers. -/
module

public import proofs.«01_k».proof.Proof.NormTile
public import proofs.«01_k».proof.Proof.RefNorm
public import proofs.«01_k».proof.Proof.Finite
public import proofs.«01_k».proof.Proof.Chunk

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

/-! ## Over the real numbers -/

/-- Both ways of writing the gradient through a row's norm agree. -/
theorem norm_grad_coe (v e : Fin 256 → ℝ) {w r : ℝ} (hw : 0 < w) (hr : r = (Real.sqrt w)⁻¹) (hv : ∑ k, v k = 0) (d : Fin 256)
    {K : EReal} (hK : K = Ideal.div ((∑ k, (v k : EReal) * (e k : EReal)) * (Ideal.ofBits .f32 0xBF000000#32 * Ideal.div (r : EReal) (w : EReal)))
      (Ideal.ofBits .f32 0x43800000#32)) :
    (r : EReal) * (((e d : EReal) - Ideal.div (∑ k, (e k : EReal)) (Ideal.ofBits .f32 0x43800000#32))
      - ((v d : EReal) * (r : EReal)) * Ideal.div (∑ k, (e k : EReal) * ((v k : EReal) * (r : EReal))) (Ideal.ofBits .f32 0x43800000#32))
    = (((e d : EReal) * (r : EReal) + (v d : EReal) * K) + K * (v d : EReal))
      + Ideal.div (∑ k, -(((e k : EReal) * (r : EReal) + (v k : EReal) * K) + K * (v k : EReal))) (Ideal.ofBits .f32 0x43800000#32) := by
  have h256 : (256 : ℝ) ≠ 0 := by norm_num
  have hK' : K = (((∑ k, v k * e k) * (-(1 / 2) * (r * (1 / w))) * (1 / 256) : ℝ) : EReal) := by
    rw [hK, c_neg_half, c_256, Ideal.div_coe hw.ne', Ideal.div_coe h256]
    simp only [EReal.coe_mul, coe_sum]
  set κ : ℝ := (∑ k, v k * e k) * (-(1 / 2) * (r * (1 / w))) * (1 / 256) with hκ
  rw [hK', c_256, Ideal.div_coe h256, Ideal.div_coe h256, Ideal.div_coe h256]
  simp only [← EReal.coe_mul, ← EReal.coe_add, ← EReal.coe_neg, ← coe_sum, ← EReal.coe_sub]
  refine congrArg _ ?_
  have key := norm_grad (s1 := ∑ k, e k) (s2 := ∑ k, v k * e k) (s3 := ∑ k, v k) (e0 := e d) (c0 := v d) hw hr hv
  have e1 : ∑ k, e k * (v k * r) = r * ∑ k, v k * e k := by
    rw [Finset.mul_sum]; exact Finset.sum_congr rfl fun k _ => by ring
  have e2 : ∑ k, -(e k * r + v k * κ + κ * v k) = -((∑ k, e k) * r + 2 * ((∑ k, v k) * κ)) := by
    rw [Finset.sum_neg_distrib, Finset.sum_add_distrib, Finset.sum_add_distrib, ← Finset.sum_mul, ← Finset.sum_mul, ← Finset.mul_sum]; ring
  rw [e1, e2, hκ]
  simp only [div_eq_mul_inv] at key ⊢
  linear_combination key

/-- The gradient to the gate's input, gathered and spread out. -/
theorem gate_grad {u g : EReal} (hu : Re u) (hg : Re g) {σ : EReal} (hσ : Re σ) :
    u * (σ * (Ideal.ofBits .f32 0x3F800000#32 + g * (Ideal.ofBits .f32 0x3F800000#32 - σ)))
      = u * σ + (g * u) * (σ * (Ideal.ofBits .f32 0x3F800000#32 - σ)) := by
  obtain ⟨a, rfl⟩ := hu; obtain ⟨b, rfl⟩ := hg; obtain ⟨s, rfl⟩ := hσ
  rw [c_one]
  simp only [← EReal.coe_mul, ← EReal.coe_add, ← EReal.coe_sub]
  exact congrArg _ (by ring)

/-- The kernel's sigmoid and the reference's. -/
theorem sigmoid_eq {x : EReal} (hx : Re x) :
    Ideal.ofBits .f32 0x3F000000#32 * Ideal.tanh (Ideal.ofBits .f32 0x3F000000#32 * x) + Ideal.ofBits .f32 0x3F000000#32
      = Ideal.div (Ideal.ofBits .f32 0x3F800000#32) (Ideal.ofBits .f32 0x3F800000#32 + Ideal.exp (-x))
    ∧ Re (Ideal.div (Ideal.ofBits .f32 0x3F800000#32) (Ideal.ofBits .f32 0x3F800000#32 + Ideal.exp (-x))) := by
  obtain ⟨a, rfl⟩ := hx
  have h0 : (1 + Real.exp (-a)) ≠ 0 := by positivity
  have e : Ideal.div (Ideal.ofBits .f32 0x3F800000#32) (Ideal.ofBits .f32 0x3F800000#32 + Ideal.exp (-(a : EReal)))
      = ((1 / (1 + Real.exp (-a)) : ℝ) : EReal) := by
    rw [c_one, ← EReal.coe_neg, Ideal.exp_coe, ← EReal.coe_add, Ideal.div_coe h0, ← EReal.coe_mul, one_mul]
  rw [e]
  refine ⟨?_, Re.coe _⟩
  rw [c_half, ← EReal.coe_mul, Ideal.tanh_coe, ← EReal.coe_mul, ← EReal.coe_add, sigmoid_tanh]

/-! ## The reference's rows, as real numbers -/

section
variable {x1 : Vec Ideal S4096x8192 .f32} (hx1 : AR (s := S4096x8192) x1) (b : Fin 2) (s : Fin 2048) (h : Fin 4)
include hx1

theorem norm_real : ∃ (v : Fin 256 → ℝ) (w r : ℝ), 0 < w ∧ r = (Real.sqrt w)⁻¹ ∧ ∑ k, v k = 0
    ∧ (∀ d, val_main_v244 x1 (ix4 b s h d) = (v d : EReal)) ∧ val_main_v251 x1 (ix4 b s h 0) = (w : EReal)
    ∧ val_main_v252 x1 (ix4 b s h 0) = (r : EReal) := by
  choose o ho using fun k : Fin 256 => f238 hx1 (ix4 b s h k)
  have h256 : (256 : ℝ) ≠ 0 := by norm_num
  obtain ⟨ε, hε, he⟩ := c_eps
  have hv (d : Fin 256) : val_main_v244 x1 (ix4 b s h d) = ((o d - (∑ k, o k) * (1 / 256) : ℝ) : EReal) := by
    rw [r244, c_256, Ideal.div_coe h256, ho, Finset.sum_congr rfl fun k _ => ho k, EReal.coe_sub, EReal.coe_mul, coe_sum]
  set v : Fin 256 → ℝ := fun d => o d - (∑ k, o k) * (1 / 256)
  have hw : val_main_v251 x1 (ix4 b s h 0) = (((∑ k, v k * v k) * (1 / 256) + ε : ℝ) : EReal) := by
    rw [r251, c_256, he, Ideal.div_coe h256, Finset.sum_congr rfl fun k _ => congrArg₂ HMul.hMul (hv k) (hv k)]
    rw [EReal.coe_add, EReal.coe_mul, coe_sum]
    simp only [EReal.coe_mul]
    rfl
  have hpos : 0 < (∑ k, v k * v k) * (1 / 256) + ε :=
    add_pos_of_nonneg_of_pos (mul_nonneg (Finset.sum_nonneg fun k _ => mul_self_nonneg _) (by norm_num)) hε
  refine ⟨v, _, _, hpos, rfl, ?_, hv, hw, ?_⟩
  · show ∑ d, (o d - (∑ k, o k) * (1 / 256)) = 0
    rw [Finset.sum_sub_distrib, Finset.sum_const, Finset.card_univ, Fintype.card_fin, nsmul_eq_mul]
    push_cast; ring
  · rw [r252, hw, Ideal.rsqrt_coe, if_neg hpos.not_gt, if_neg hpos.ne']

theorem re_gb (d : Fin 1024) : Re (val_main_v5 x1 (ix3 b s d)) := by
  rw [val_main_v5_apply]; exact f1 hx1 _

end

theorem re_dy {x0 : Vec Ideal S4096x1024 .f32} (hx0 : AR (s := S4096x1024) x0) (b : Fin 2) (s : Fin 2048) (d : Fin 1024) :
    Re (val_main_v264 x0 (ix3 b s d)) := by
  rw [val_main_v264_apply]; exact hx0 _

/-! ## The kernel's tiles -/

section
variable (m : (ℓ : Loc nD τ sig) → Buf (Elt Ideal) ℓ) (c : Dev nD) (t : Fin cfg0.N) (cc b : Fin 2) (h : Fin 4) (i : Fin 128) (d : Fin 256)

theorem t_c : k0_pay8 (View.ld (blk m c t).o (rRows cc b h)) (ix2 i d) = val_main_v244 (X1 m c) (ix4 b (sq (ch t cc) i) h d) := by
  rw [pay8_at, r244]
  have e (k : Fin 256) : View.ld (blk m c t).o (rRows cc b h) (ix3 0 i k) = val_main_v238 (X1 m c) (ix4 b (sq (ch t cc) i) h k) := by
    rw [ld_o, w_o]
  rw [e, Finset.sum_congr rfl fun k _ => e k]

theorem t_rs : rsT (blk m c t) cc b h (ix2 i 0) = val_main_v252 (X1 m c) (ix4 b (sq (ch t cc) i) h 0) := by
  rw [rsT, pay9_at, r252, r251]
  simp only [t_c]

/-- The normalised rows. -/
theorem t_n : nT (blk m c t) cc b h (ix2 i d) = val_main_v257 (X1 m c) (ix4 b (sq (ch t cc) i) h d) := by
  have e := t_rs m c t cc b h i
  rw [rsT] at e
  rw [nT, pay10_at, r257, t_c, e]

variable {m c} (h0 : AR (s := S4096x1024) (X0 m c)) (h1 : AR (s := S4096x8192) (X1 m c)) (h2 : AR (s := S4x256) (X2 m c))

theorem t_dy : dyT (blk m c t) cc b h (ix3 0 i d) = val_main_v264 (X0 m c) (ix3 b (sq (ch t cc) i) (cl h d)) := by
  rw [dyT, ld_dy, w_dy]

theorem t_gb : gbT (blk m c t) cc b h (ix2 i d) = val_main_v5 (X1 m c) (ix3 b (sq (ch t cc) i) (cl h d)) := by
  rw [gbT, pay11_at, ld_gb, w_gb]

include h1

theorem t_sg : thT (blk m c t) cc b h (ix2 i d) + (k0_pay13 (F := Ideal)) (ix2 i d) = val_main_v261_2 (X1 m c) (ix3 b (sq (ch t cc) i) (cl h d)) := by
  rw [thT, pay12_at, ld_gb, w_gb, r_sg]
  exact (sigmoid_eq (re_gb h1 b _ _)).1

theorem t_dgn : k0_pay17 (gbT (blk m c t) cc b h) (thT (blk m c t) cc b h) k0_pay13 (dyT (blk m c t) cc b h) (ix2 i d)
    = val_main_v268 (X0 m c) (X1 m c) (ix4 b (sq (ch t cc) i) h d) := by
  rw [pay17_at, t_sg t cc b h i d h1, t_dy, t_gb, r268, mul_comm]

theorem t_e : k0_pay19 (gainT (blk m c t) h) (gbT (blk m c t) cc b h) (thT (blk m c t) cc b h) k0_pay13 (dyT (blk m c t) cc b h) (ix2 i d)
    = val_main_v274 (X0 m c) (X1 m c) (X2 m c) (ix4 b (sq (ch t cc) i) h d) := by
  rw [pay19_at, t_dgn t cc b h i d h1, t_gain, r274]

/-- One chunk's addition to the gain's gradient. -/
theorem t_dgain (a : Vec Ideal S1x1x256 .f32) : dgainT (blk m c t) cc b h a (ix3 0 0 d) =
    a (ix3 0 0 d) + ∑ k : Fin 128, val_main_v270 (X0 m c) (X1 m c) (ix4 b (sq (ch t cc) k) h d) := by
  rw [dgainT, pay18_at]
  refine congrArg (_ + ·) (Finset.sum_congr rfl fun k _ => ?_)
  rw [t_dgn t cc b h k d h1, t_n, val_main_v270_apply]
  exact mul_comm _ _

include h0 h2

theorem re_e (s : Fin 2048) (d : Fin 256) : Re (val_main_v274 (X0 m c) (X1 m c) (X2 m c) (ix4 b s h d)) := by
  rw [r274, r268, r_sg]
  exact (((re_gb h1 b s _).mul (sigmoid_eq (re_gb h1 b s _)).2).mul (re_dy h0 b s _)).mul (h2 _)

/-- The gradient to the output. -/
theorem t_do : DoEq m c t cc b h := fun i d => by
  obtain ⟨v, w, r, hw, hr, hv, ev, ew, er⟩ := norm_real h1 b (sq (ch t cc) i) h
  choose e he using fun k : Fin 256 => re_e b h h0 h1 h2 (sq (ch t cc) i) k
  have hn (k : Fin 256) : nT (blk m c t) cc b h (ix2 i k) = (v k : EReal) * (r : EReal) := by rw [t_n, r257, ev, er]
  have h285 (k : Fin 256) : val_main_v285 (X0 m c) (X1 m c) (X2 m c) (ix4 b (sq (ch t cc) i) h k) =
      Ideal.div ((∑ k, (v k : EReal) * (e k : EReal)) * (Ideal.ofBits .f32 0xBF000000#32 * Ideal.div (r : EReal) (w : EReal))) (Ideal.ofBits .f32 0x43800000#32) := by
    rw [r285, r255, er, ew]
    simp only [ev, he]
  rw [doT, pay22_at, t_rs, er, hn, dnT, pay20_at, dnmT, pay21_at, r299, r296]
  simp only [r289, h285, t_e _ _ _ _ _ _ h1, he, ev, er, hn]
  exact norm_grad_coe v e hw hr hv d rfl

theorem t_part3 (ds : Vec Ideal S1x1x256x256 .f32) : partT (blk m c t) cc b h ds 3 (ix3 0 i d)
    = val_main_v269 (X0 m c) (X1 m c) (X2 m c) (ix3 b (sq (ch t cc) i) (cl h d)) := by
  show dgbT (blk m c t) cc b h (ix3 0 i d) = _
  obtain ⟨v, w, r, hw, hr, hv, ev, ew, er⟩ := norm_real h1 b (sq (ch t cc) i) h
  rw [dgbT, pay16_at, t_sg t cc b h i d h1, t_dy, t_gb, t_gain, t_n, r269, r267]
  refine gate_grad (Re.mul (re_dy h0 b _ _) (Re.mul ?_ (h2 _))) (re_gb h1 b _ _) ?_
  · rw [r257, ev, er]; exact (Re.coe _).mul (Re.coe _)
  · rw [r_sg]; exact (sigmoid_eq (re_gb h1 b _ _)).2

end

end Cert.KernelIdeal.Body

end
-- ==== Proof.Final.lean ====
/- The grid's points in order, and what the two result arrays hold after the last. -/
module

public import proofs.«01_k».proof.Proof.Norm

@[expose] public section

set_option maxRecDepth 65536

noncomputable section

namespace Cert.KernelIdeal.Body

open Idealize.ShloMosaic Idealize.ShloMosaic.TcCoe Idealize.ShloMosaic.Tactic Cert.KernelIdeal Cert.KernelIdeal.Gen Cert.KernelIdeal.Host
open Cert.ReferenceIdeal.Read

/-! ## The reference's gain gradient -/

/-- A host sum over the first two of four axes. -/
theorem sum_front {n0 n1 n2 n3 : ℕ} (r : (⟨4, ![n0, n1, n2, n3]⟩ : Shape).ReducesTo [0, 1] ⟨2, ![n2, n3]⟩)
    (v : (⟨4, ![n0, n1, n2, n3]⟩ : Shape).Idx → EReal) (z : EReal) (h : Fin n2) (d : Fin n3) :
    Ideal.hostReduceAdd r v z (ix2 h d) = z + ∑ a : Fin n0, ∑ b : Fin n1, v (ix4 a b h d) := by
  refine congrArg (z + ·) ((Finset.sum_filter_eq_sum_of_fiber _ (fun k : Fin n0 × Fin n1 => ix4 k.1 k.2 h d)
    (fun _ _ e => Prod.ext (congrFun e 0) (congrFun e 1)) (fun i => ?_) v).trans (by simp only [Fintype.sum_prod_type]))
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    refine funext fun b => Fin.ext ?_
    match b with
    | ⟨0, _⟩ => rfl
    | ⟨1, _⟩ => rfl

section
variable (x0 : Vec Ideal S4096x1024 .f32) (x1 : Vec Ideal S4096x8192 .f32) (h : Fin 4) (d : Fin 256)

theorem r271 : val_main_v271 x0 x1 (ix2 h d) = ∑ b : Fin 2, ∑ s : Fin 2048, val_main_v270 x0 x1 (ix4 b s h d) := by
  unfold val_main_v271
  generalize val_main_v270 x0 x1 = y
  rw [Host.reduceAdd_apply, Ideal.hostReduceAdd_def, sum_front]
  exact (congrArg (· + _) zero_bits).trans (zero_add _)

theorem r275 : val_main_v275 x0 x1 (ix2 h d) = val_main_v271 x0 x1 (ix2 h d) := by
  have e (a b : Fin 1) : val_main_v272 x0 x1 (ix4 a b h d) = val_main_v271 x0 x1 (ix2 h d) := by
    rw [val_main_v272_apply]
    blk_ext []
  unfold val_main_v275
  generalize val_main_v272 x0 x1 = y at e ⊢
  rw [Host.reduceAdd_apply, Ideal.hostReduceAdd_def, sum_front]
  refine ((congrArg (· + _) zero_bits).trans (zero_add _)).trans ?_
  rw [Fin.sum_univ_one, Fin.sum_univ_one, e]

/-- Chunk `n`'s share of the gain's gradient. -/
def share (n : Fin 16) : EReal := ∑ b : Fin 2, ∑ i : Fin 128, val_main_v270 x0 x1 (ix4 b (sq n i) h d)

theorem r473 : val_main_v473 x0 x1 (ix3 h 0 d) = ∑ n : Fin 16, share x0 x1 h d n := by
  have e : val_main_v473 x0 x1 (ix3 h 0 d) = val_main_v275 x0 x1 (ix2 h d) := by
    rw [val_main_v473_apply]
    blk_ext []
  rw [e, r275, r271]
  unfold share
  refine Eq.trans ?_ (Finset.sum_comm (s := (Finset.univ : Finset (Fin 2))) (t := (Finset.univ : Finset (Fin 16)))
    (f := fun b n => ∑ i : Fin 128, val_main_v270 x0 x1 (ix4 b (sq n i) h d)))
  refine Finset.sum_congr rfl fun b _ => ?_
  rw [Fin.sum_univ_tiles 16 128 rfl]
  refine Finset.sum_congr rfl fun n _ => Finset.sum_congr rfl fun i _ => congrArg (fun s => val_main_v270 x0 x1 (ix4 b s h d)) (Fin.ext ?_)
  show n.val * 128 + i.val = 128 * n.val + i.val
  rw [mul_comm]

end

/-! ## The points -/

/-- A value read from one of four arrays, case by case. -/
theorem of_four {α β : Type} {w x y z : α → β} (p : Fin 4) {v : β} {a : α} (e0 : p = 0 → v = w a) (e1 : p = 1 → v = x a) (e2 : p = 2 → v = y a)
    (e3 : p = 3 → v = z a) : v = (![w, x, y, z] : Fin 4 → α → β) p a := by
  match p with
  | 0 => exact e0 rfl
  | 1 => exact e1 rfl
  | 2 => exact e2 rfl
  | 3 => exact e3 rfl

section
variable (m : (ℓ : Loc nD τ sig) → Buf (Elt Ideal) ℓ) (c : Dev nD)
variable (h0 : AR (s := S4096x1024) (X0 m c)) (h1 : AR (s := S4096x8192) (X1 m c)) (h2 : AR (s := S4x256) (X2 m c))
include h0 h1 h2

/-- One chunk carries the gradient one chunk on. -/
theorem ds_step_eq (t : Fin cfg0.N) (cc b : Fin 2) (h : Fin 4) (ds : Vec Ideal S1x1x256x256 .f32) (k : ℕ) (hk : k + 1 < 16)
    (e : (ch t cc).val = 15 - k) (hds : DsEq b h ds (carried (X0 m c) (X1 m c) (X2 m c) ⟨k, by omega⟩)) :
    DsEq b h (dsT (blk m c t) cc b h ds) (carried (X0 m c) (X1 m c) (X2 m c) ⟨k + 1, hk⟩) := fun x y => by
  have er : Fin.rev (ch t cc) = ⟨k, by omega⟩ := Fin.ext (by rw [Fin.val_rev, e]; show 16 - (15 - k + 1) = k; omega)
  have hds' : DsEq b h ds (carried (X0 m c) (X1 m c) (X2 m c) (Fin.rev (ch t cc))) := by rw [er]; exact hds
  have e' : ch t cc = ⟨15 - k, by omega⟩ := Fin.ext e
  rw [t_ds (t_do t cc b h h0 h1 h2) x y hds', carried_succ, er, e']

/-- The carried gradient before point `n`. -/
theorem ds_at (b : Fin 2) (h : Fin 4) : ∀ (n : ℕ) (hn : n < 8),
    DsEq b h (dsAt m c b h n) (carried (X0 m c) (X1 m c) (X2 m c) ⟨2 * n, by omega⟩)
  | 0, _ => fun x y => by
    refine Eq.trans ?_ (carried_zero _ _ _ b h x y).symm
    exact zero_bits
  | n + 1, hn => by
    have hN : n < cfg0.N := Nat.lt_of_succ_lt hn
    have ih := ds_at b h n (Nat.lt_of_succ_lt hn)
    have e1 : (ch ⟨n, hN⟩ 1).val = 15 - 2 * n := by show 2 * (7 - n) + 1 = _; omega
    have e0 : (ch ⟨n, hN⟩ 0).val = 15 - (2 * n + 1) := by show 2 * (7 - n) + 0 = _; omega
    have s1 := ds_step_eq m c h0 h1 h2 ⟨n, hN⟩ 1 b h _ (2 * n) (by omega) e1 ih
    have s0 := ds_step_eq m c h0 h1 h2 ⟨n, hN⟩ 0 b h _ (2 * n + 1) (by omega) e0 s1
    rw [dsAt, dif_pos hN, dsPt]
    exact s0

/-- What chunk `cc` of point `t` meets. -/
theorem ds_in (t : Fin cfg0.N) (cc b : Fin 2) (h : Fin 4) :
    DsEq b h (dsIn (blk m c t) (dsAt m c b h t.val) cc b h) (carried (X0 m c) (X1 m c) (X2 m c) (Fin.rev (ch t cc))) := by
  have ht : t.val < 8 := t.isLt
  have a := ds_at m c h0 h1 h2 b h t.val ht
  match cc with
  | 1 =>
    have e : Fin.rev (ch t 1) = ⟨2 * t.val, by omega⟩ := Fin.ext (by rw [Fin.val_rev]; show 16 - (2 * (7 - t.val) + 1 + 1) = 2 * t.val; omega)
    rw [e]
    exact a
  | 0 =>
    have e1 : (ch t 1).val = 15 - 2 * t.val := by show 2 * (7 - t.val) + 1 = _; omega
    have e : Fin.rev (ch t 0) = ⟨2 * t.val + 1, by omega⟩ := Fin.ext (by rw [Fin.val_rev]; show 16 - (2 * (7 - t.val) + 0 + 1) = 2 * t.val + 1; omega)
    rw [e]
    exact ds_step_eq m c h0 h1 h2 t 1 b h _ (2 * t.val) (by omega) e1 a

/-- THE GRADIENT TO THE PROJECTIONS. -/
theorem grad_eq : (dats m 0 c).arrAt 14 cfg0.N = val_main_v472 (X0 m c) (X1 m c) (X2 m c) :=
  final14 m c _ fun t cc b p h i d => by
    rw [r472]
    have hds := ds_in m c h0 h1 h2 t cc b h
    have hdo := t_do t cc b h h0 h1 h2
    exact of_four p (fun e => by subst e; exact t_part0 hdo i d) (fun e => by subst e; exact t_part1 hdo i d hds)
      (fun e => by subst e; exact t_part2 hdo i d hds) (fun e => by subst e; exact t_part3 t cc b h i d h0 h1 h2 _)

omit h0 h2

/-- The gain's gradient before point `n`: the shares of the chunks met. -/
theorem gain_at (h : Fin 4) (d : Fin 256) : ∀ (n : ℕ) (_ : n ≤ 8), gainAt m c h n (ix3 0 0 d) =
    ∑ k ∈ Finset.range (2 * n), if hk : k < 16 then share (X0 m c) (X1 m c) h d (Fin.rev ⟨k, hk⟩) else 0
  | 0, _ => zero_bits
  | n + 1, hn => by
    have hN : n < cfg0.N := hn
    have ih := gain_at h d n (Nat.le_of_succ_le hn)
    have e1 : Fin.rev (⟨2 * n, by omega⟩ : Fin 16) = ch ⟨n, hN⟩ 1 := Fin.ext (by rw [Fin.val_rev]; show 16 - (2 * n + 1) = 2 * (7 - n) + 1; omega)
    have e0 : Fin.rev (⟨2 * n + 1, by omega⟩ : Fin 16) = ch ⟨n, hN⟩ 0 := Fin.ext (by rw [Fin.val_rev]; show 16 - (2 * n + 1 + 1) = 2 * (7 - n) + 0; omega)
    rw [gainAt, dif_pos hN, gainPt, t_dgain _ _ _ _ _ h1, t_dgain _ _ _ _ _ h1, t_dgain _ _ _ _ _ h1, t_dgain _ _ _ _ _ h1, ih]
    rw [show 2 * (n + 1) = 2 * n + 1 + 1 from rfl, Finset.sum_range_succ, Finset.sum_range_succ,
      dif_pos (by omega), dif_pos (by omega), e0, e1]
    simp only [share, Fin.sum_univ_two, add_assoc]

/-- THE GRADIENT TO THE GAIN. -/
theorem gain_eq : (dats m 0 c).arrAt 15 cfg0.N = val_main_v473 (X0 m c) (X1 m c) :=
  final15 m c _ fun h d => by
    rw [gain_at m c h1 h d 8 le_rfl, r473]
    refine (Fin.sum_univ_eq_sum_range (fun k => if hk : k < 16 then share (X0 m c) (X1 m c) h d (Fin.rev ⟨k, hk⟩) else 0) 16).symm.trans ?_
    refine (Finset.sum_congr rfl fun k _ => dif_pos k.isLt).trans ?_
    exact Equiv.sum_comp Fin.revPerm fun n => share (X0 m c) (X1 m c) h d n

end

end Cert.KernelIdeal.Body

end
-- ==== Proof.Entry.lean ====
/- What the precondition says of an element, and the two programs' results. -/
module

public import proofs.«01_k».proof.Proof.Final
public import proofs.«01_k».proof.Proof.Gen.Pre_finite
public import Idealize.ShloMosaic.Lib.ReduceAll

@[expose] public section

set_option maxRecDepth 65536

noncomputable section

namespace Cert.Proof

open Idealize.ShloMosaic Idealize.SL.Sem Idealize.ShloMosaic.TcCoe

/-- An element whose magnitude is below the infinite is a real number. -/
theorem re_of_olt {x : EReal} (h : FloatOps.cmpf (F := Ideal) (φ := .f32) .olt (FloatOps.hostAbsf (F := Ideal) (φ := .f32) x) (FloatOps.ofBits .f32 0x7F800000#32) = 1#1) :
    Cert.KernelIdeal.Body.Re x := by
  rw [← Ideal.xori_weird_eq_hostAbsf_olt_inf] at h
  match x, h with
  | ⊤, h => exact absurd h (by decide)
  | ⊥, h => exact absurd h (by decide)
  | (r : ℝ), _ => exact ⟨r, rfl⟩

theorem and_one {a b : BitVec 1} (h : IntOp.andi a b = 1#1) : a = 1#1 ∧ b = 1#1 := by
  revert a b; decide

/-- The precondition, read: every element of the three arguments is a real number. -/
theorem pre_real (x : FVec Ideal Cert.Pre_finite.S4096x1024 .f32) (y : FVec Ideal Cert.Pre_finite.S4096x8192 .f32) (z : FVec Ideal Cert.Pre_finite.S4x256 .f32)
    (h : Cert.Pre_finite.fn (F := Ideal) x y z = fun _ => 1#1) :
    Cert.KernelIdeal.Body.AR x ∧ Cert.KernelIdeal.Body.AR y ∧ Cert.KernelIdeal.Body.AR z := by
  have e := congrFun h ix0
  unfold Cert.Pre_finite.fn at e
  obtain ⟨e12, e3⟩ := and_one e
  obtain ⟨e1, e2⟩ := and_one e12
  haveI : Subsingleton Cert.Pre_finite.S_.Idx := ⟨fun a b => funext fun k => k.elim0⟩
  exact ⟨fun i => re_of_olt (Host.reduce_andi_all _ _ _ _ ix0 e1 i), fun i => re_of_olt (Host.reduce_andi_all _ _ _ _ ix0 e2 i),
    fun i => re_of_olt (Host.reduce_andi_all _ _ _ _ ix0 e3 i)⟩

end Cert.Proof

end
-- ==== Proof.WGrad.lean ====
/- One tile of the gradient of the input projection's weights: 1024 rows, all 4096 tokens summed, 512 columns. The first grid
   point sums the tokens by quarters, as they arrive; the later ones take the whole product; each stores the rows by halves. -/
module

public import proofs.«01_k».proof.Proof.Readback
public import Idealize.ShloMosaic.Lib.MatmulPlain
public import Idealize.ShloMosaic.Lib.Pointwise
public import Idealize.ShloMosaic.Lib.Pipeline.ValueKit

@[expose] public section

set_option maxRecDepth 65536

noncomputable section

namespace Cert.WGrad

open Idealize.ShloMosaic Idealize.ShloMosaic.TcCoe Idealize.ShloMosaic.Tactic

abbrev SH : Shape := ⟨2, ![1024, 4096]⟩
abbrev SD : Shape := ⟨2, ![4096, 512]⟩
abbrev SG : Shape := ⟨2, ![1024, 512]⟩
abbrev SHalf : Shape := ⟨2, ![512, 512]⟩
abbrev SPart : Shape := ⟨4, ![1, 1, 512, 512]⟩
abbrev SO : Shape := ⟨4, ![1, 2, 512, 512]⟩

/-- Token `j` of quarter `n`. -/
def tok (n : Fin 4) (j : Fin 1024) : Fin 4096 := ⟨n.val * 1024 + j.val, by have := n.isLt; have := j.isLt; omega⟩
/-- Row `i` of half `p`. -/
def row (p : Fin 2) (i : Fin 512) : Fin 1024 := ⟨p.val * 512 + i.val, by have := p.isLt; have := i.isLt; omega⟩

/-- The gradient's entry: the sum over the tokens. -/
def entry (h : Vec Ideal SH .bf16) (d : Vec Ideal SD .bf16) (r : Fin 1024) (q : Fin 512) : EReal :=
  ∑ k : Fin 4096, (h (ix2 r k) : EReal) * d (ix2 k q)

/-- What one quarter of the tokens gives. -/
def quarter (h : Vec Ideal SH .bf16) (d : Vec Ideal SD .bf16) (r : Fin 1024) (q : Fin 512) (n : Fin 4) : EReal :=
  ∑ j : Fin 1024, (h (ix2 r (tok n j)) : EReal) * d (ix2 (tok n j) q)

theorem entry_quarters (h : Vec Ideal SH .bf16) (d : Vec Ideal SD .bf16) (r : Fin 1024) (q : Fin 512) :
    entry h d r q = quarter h d r q 0 + quarter h d r q 1 + quarter h d r q 2 + quarter h d r q 3 := by
  unfold entry
  rw [Fin.sum_univ_tiles 4 1024 rfl, Fin.sum_univ_four]
  rfl

/-! ## Products -/

theorem mm {M K N : ℕ} (D : DotDims ⟨2, ![M, K]⟩ ⟨2, ![K, N]⟩ ⟨2, ![M, N]⟩) (hD : D = DotDims.plain M K N)
    (a : FVec Ideal ⟨2, ![M, K]⟩ .bf16) (b : FVec Ideal ⟨2, ![K, N]⟩ .bf16) (r : Fin M) (q : Fin N) :
    matmul D none a b (constant ⟨2, ![M, N]⟩ .f32 0x00000000#32) (ix2 r q) = ∑ k : Fin K, (a (ix2 r k) : EReal) * b (ix2 k q) := by
  subst hD
  refine (Ideal.matmul_plain_apply none a b _ r q).trans ?_
  exact (congrArg (· + _) (Ideal.ofBits_zero_f32 : constant (F := Ideal) ⟨2, ![M, N]⟩ .f32 0x00000000#32 (ix2 r q) = (0 : EReal))).trans (zero_add _)

/-! ## The two halves, stored -/

theorem inb (p : Fin 2) : ∀ a, (![0, p.val, 0, 0] : Fin 4 → ℕ) a + SPart.size a ≤ SO.size a := by
  revert p; decide

/-- Half `p` of a tile's block. -/
abbrev rHalf (p : Fin 2) : Rect SO := Rect.unit (s := SO) ![0, p.val, 0, 0] SPart.size (inb p)

theorem disjHalf : ∀ p p' : Fin 2, p' ≠ p → LoadRect.disj (rHalf p') (rHalf p).toLoadRect = true := by decide

/-- A half of the rows, as it is stored. -/
theorem half_at (p : Fin 2) (g : FVec Ideal SG .f32) (hs : Shape.Slices SG ![p.val * 512, 0] SHalf) (hc : Shape.ShapeCasts SHalf SPart) (i j : Fin 512) :
    shapeCast SPart (extractStridedSlice SHalf ![p.val * 512, 0] g hs) hc (ix4 0 0 i j) = g (ix2 (row p i) j) := by
  rw [shapeCast_apply _ hc (ix4 0 0 i j) (ix2 i j) (by
    rw [Shape.rowMajor_val_two, Shape.rowMajor_val_four]
    show i.val * 512 + j.val = ((0 * 1 + 0) * 512 + i.val) * 512 + j.val
    omega)]
  exact extractStridedSlice_apply _ g hs (ix2 i j) (ix2 (row p i) j) fun a => match a with
    | ⟨0, _⟩ => rfl
    | ⟨1, _⟩ => (Nat.zero_add _).symm

/-- The two halves read back. -/
theorem stored (w0 w1 : SPart.Idx → Elt Ideal .f32) (p : Fin 2) (i j : Fin 512) :
    View.canon [(⟨rHalf 1, w1⟩ : View.Piece (Elt Ideal) SO .f32), ⟨rHalf 0, w0⟩] (ix4 0 p i j) = if p = 0 then w0 (ix4 0 0 i j) else w1 (ix4 0 0 i j) := by
  have e : (ix4 0 p i j : SO.Idx) = (rHalf p).idx (ix4 0 0 i j) := by
    funext a; apply Fin.ext
    match a with
    | ⟨0, _⟩ => rfl
    | ⟨1, _⟩ => exact (Nat.add_zero _).symm
    | ⟨2, _⟩ => show i.val = 0 + 1 * i.val; omega
    | ⟨3, _⟩ => show j.val = 0 + 1 * j.val; omega
  rw [e]
  match p with
  | 0 =>
    refine (congrFun (Cert.KernelIdeal.Body.ld_miss (rHalf 0) (rHalf 1) w1 _ (disjHalf 0 1 (by decide))) (ix4 0 0 i j)).trans ?_
    exact congrFun (Cert.KernelIdeal.Body.ld_hit (rHalf 0) w0 []) (ix4 0 0 i j)
  | 1 => exact congrFun (Cert.KernelIdeal.Body.ld_hit (rHalf 1) w1 _) (ix4 0 0 i j)

/-! ## The tokens by quarters -/

section Runs
variable {F : FTy → Type} [FloatOps F] (h : Vec F SH .bf16) (d : Vec F SD .bf16)

abbrev SSq : Shape := ⟨2, ![1024, 1024]⟩

theorem inbCol (n : Fin 4) : ∀ a, (![0, n.val * 1024] : Fin 2 → ℕ) a + SSq.size a ≤ SH.size a := by revert n; decide
theorem inbRow (n : Fin 4) : ∀ a, (![n.val * 1024, 0] : Fin 2 → ℕ) a + SG.size a ≤ SD.size a := by revert n; decide

/-- Quarter `n` of the tokens, of the activations and of the gradient. -/
abbrev rCol (n : Fin 4) : Rect SH := Rect.unit (s := SH) ![0, n.val * 1024] SSq.size (inbCol n)
abbrev rRow (n : Fin 4) : Rect SD := Rect.unit (s := SD) ![n.val * 1024, 0] SG.size (inbRow n)

/-- The activations, as the four copies bring them. -/
def arrivals : List (View.Piece (Elt F) SH .bf16) := [rCol 3, rCol 2, rCol 1, rCol 0].map fun r => ⟨r, View.ld h r⟩

theorem arrived : View.canon (arrivals h) = h := by
  funext y
  refine View.canon_apply_of_pieces h _ (fun p hp x => ?_) y ?_
  · obtain ⟨r, -, rfl⟩ := List.mem_map.mp hp; rfl
  have hk : (y 1).val < 4096 := (y 1).isLt
  have hn : (y 1).val / 1024 < 4 := by omega
  refine ⟨⟨rCol ⟨(y 1).val / 1024, hn⟩, View.ld h _⟩, List.mem_map_of_mem (f := fun r => (⟨r, View.ld h r⟩ : View.Piece (Elt F) SH .bf16)) ?_, (Rect.mem_set_unit (inb := inbCol ⟨(y 1).val / 1024, hn⟩)).mpr fun a => ?_⟩
  swap
  · match a with
    | ⟨0, _⟩ => exact ⟨Nat.zero_le _, (Nat.zero_add _).symm ▸ (y 0).isLt⟩
    | ⟨1, _⟩ => show (y 1).val / 1024 * 1024 ≤ (y 1).val ∧ (y 1).val < (y 1).val / 1024 * 1024 + 1024; omega
  generalize (⟨(y 1).val / 1024, hn⟩ : Fin 4) = n
  match n with
  | 0 => exact .tail _ (.tail _ (.tail _ (.head _)))
  | 1 => exact .tail _ (.tail _ (.head _))
  | 2 => exact .tail _ (.head _)
  | 3 => exact .head _

section Reads
variable {sig : RefSig} {κ : Kind} {sp : Space}

/-- The scratch read by quarters, once the four copies have come. -/
theorem read_arrived (v : View sig κ sp SH .bf16) :
    (fun n : Fin 4 => v.readCov (arrivals h) (rCol n).toLoadRect) = fun n => View.ld h (rCol n) :=
  funext fun n => (Cert.KernelIdeal.Body.readCov_ld _ _ _).trans (congrArg (View.ld · (rCol n)) (arrived _))

/-- The gradient's block read by quarters. -/
theorem read_rows (M : Memref sig κ sp SD .bf16) (hM : M.IsWhole) :
    (fun n : Fin 4 => View.readAt (Elt F) M.view (rRow n).toLoadRect (hM.unread d)) = fun n => View.ld d (rRow n) :=
  funext fun n => Cert.KernelIdeal.Body.readAt_ld _ _ _ _

/-- A buffer read whole. -/
theorem read_all {s : Shape} {e : EltTy} (M : Memref sig κ sp s e) (hM : M.IsWhole) (x : Vec F s e) {off : Fin s.rank → ℕ}
    (inb : ∀ a, off a + s.size a ≤ s.size a) (h0 : ∀ a, off a = 0) :
    View.readAt (Elt F) M.view (Rect.unit off s.size inb).toLoadRect (hM.unread x) = x :=
  (Cert.KernelIdeal.Body.readAt_ld _ _ _ _).trans (View.ld_unit_lit _ _ h0)

end Reads

/-! ## What a point computes and stores -/

/-- The product over one quarter, from the two parts read. -/
def mmQ (a : Vec F SSq .bf16) (b : Vec F SG .bf16) : FVec F SG .f32 :=
  matmul (DotDims.plain 1024 1024 512) none a (shapeCast SG b (by decide)) (constant SG .f32 0x00000000#32)

/-- The first point's sum, from the eight parts read. -/
def sumQ (a : Fin 4 → Vec F SSq .bf16) (b : Fin 4 → Vec F SG .bf16) : FVec F SG .f32 :=
  addf (addf (addf (addf (broadcast SG (FloatOps.ofBits .f32 0x00000000#32)) (mmQ (a 0) (b 0))) (mmQ (a 1) (b 1))) (mmQ (a 2) (b 2))) (mmQ (a 3) (b 3))

/-- A later point's product. -/
def mmAll : FVec F SG .f32 :=
  matmul (DotDims.plain 1024 4096 512) none h (shapeCast SD d (by decide)) (constant SG .f32 0x00000000#32)

/-- The stores of a tile, by halves of its rows. -/
def halves (g : FVec F SG .f32) : List (View.Piece (Elt F) SO .f32) :=
  [⟨rHalf 1, shapeCast SPart (extractStridedSlice SHalf ![(1 : Fin 2).val * 512, 0] g (by decide)) (by decide)⟩,
    ⟨rHalf 0, shapeCast SPart (extractStridedSlice SHalf ![(0 : Fin 2).val * 512, 0] g (by decide)) (by decide)⟩]

def first : Vec F SO .f32 := View.canon (halves (sumQ (fun n => View.ld h (rCol n)) (fun n => View.ld d (rRow n))))
def later : Vec F SO .f32 := View.canon (halves (mmAll h d))

end Runs

/-- An index of a tile's block. -/
theorem index_eq (y : SO.Idx) : ∃ (p : Fin 2) (i j : Fin 512), y = ix4 0 p i j :=
  ⟨y 1, y 2, y 3, funext fun a => Fin.ext (match a with
    | ⟨0, _⟩ => (by have h : (y 0).val < 1 := (y 0).isLt; show (y 0).val = 0; omega)
    | ⟨1, _⟩ | ⟨2, _⟩ | ⟨3, _⟩ => rfl)⟩

/-! ## Both are the gradient -/

theorem halves_at (g : FVec Ideal SG .f32) (p : Fin 2) (i j : Fin 512) : View.canon (halves g) (ix4 0 p i j) = g (ix2 (row p i) j) := by
  refine (stored _ _ p i j).trans ?_
  match p with
  | 0 => exact half_at 0 g _ _ i j
  | 1 => exact half_at 1 g _ _ i j

theorem mmQ_at (h : Vec Ideal SH .bf16) (d : Vec Ideal SD .bf16) (n : Fin 4) (r : Fin 1024) (q : Fin 512) :
    mmQ (View.ld h (rCol n)) (View.ld d (rRow n)) (ix2 r q) = quarter h d r q n := by
  refine (mm _ rfl _ _ r q).trans (Finset.sum_congr rfl fun j _ => ?_)
  rw [shapeCast_apply _ _ (ix2 j q) (ix2 j q) rfl]
  refine congrArg₂ HMul.hMul (congrArg h ?_) (congrArg d ?_) <;> funext a <;> apply Fin.ext
  · match a with
    | ⟨0, _⟩ => show 0 + 1 * r.val = r.val; omega
    | ⟨1, _⟩ => show n.val * 1024 + 1 * j.val = n.val * 1024 + j.val; omega
  · match a with
    | ⟨0, _⟩ => show n.val * 1024 + 1 * j.val = n.val * 1024 + j.val; omega
    | ⟨1, _⟩ => show 0 + 1 * q.val = q.val; omega

theorem first_at (h : Vec Ideal SH .bf16) (d : Vec Ideal SD .bf16) (p : Fin 2) (i j : Fin 512) :
    first h d (ix4 0 p i j) = entry h d (row p i) j := by
  refine (halves_at _ p i j).trans ?_
  rw [entry_quarters, ← mmQ_at, ← mmQ_at, ← mmQ_at, ← mmQ_at]
  exact congrArg (· + _) (congrArg (· + _) (congrArg (· + _) ((congrArg (· + _) Ideal.ofBits_zero_f32).trans (zero_add _))))

theorem later_at (h : Vec Ideal SH .bf16) (d : Vec Ideal SD .bf16) (p : Fin 2) (i j : Fin 512) :
    later h d (ix4 0 p i j) = entry h d (row p i) j := by
  refine (halves_at _ p i j).trans ((mm _ rfl _ _ _ _).trans (Finset.sum_congr rfl fun k _ => ?_))
  rw [shapeCast_apply _ _ (ix2 k j) (ix2 k j) rfl]

theorem first_of {o : Vec Ideal SO .f32 × Vec Ideal SH .bf16} {h h' : Vec Ideal SH .bf16} {d : Vec Ideal SD .bf16} (e : o = (first h d, h'))
    (p : Fin 2) (i j : Fin 512) : o.1 (ix4 0 p i j) = entry h d (row p i) j := by
  subst e; dsimp only; exact first_at h d p i j

theorem later_of {o : Vec Ideal SO .f32 × Vec Ideal SH .bf16} {h h' : Vec Ideal SH .bf16} {d : Vec Ideal SD .bf16} (e : o = (later h d, h'))
    (p : Fin 2) (i j : Fin 512) : o.1 (ix4 0 p i j) = entry h d (row p i) j := by
  subst e; dsimp only; exact later_at h d p i j

/-- The entry in terms of the activations before their transposition and of the whole gradient. -/
theorem entry_eq {h : Vec Ideal SH .bf16} {d : Vec Ideal SD .bf16} {N : ℕ} (x : Vec Ideal ⟨2, ![4096, 1024]⟩ .f32) (g : Vec Ideal ⟨2, ![4096, N]⟩ .f32)
    {r : Fin 1024} {q : Fin 512} {e : Fin N} (hh : ∀ k, (h (ix2 r k) : EReal) = x (ix2 k r)) (hd : ∀ k, (d (ix2 k q) : EReal) = g (ix2 k e)) :
    entry h d r q = ∑ k : Fin 4096, (g (ix2 k e) : EReal) * x (ix2 k r) :=
  Finset.sum_congr rfl fun k _ => (mul_comm _ _).trans (congrArg₂ HMul.hMul (hd k) (hh k))

/-- The transposed activations. -/
theorem turned (x : Vec Ideal ⟨2, ![4096, 1024]⟩ .f32) (ht : Shape.Transposes ⟨2, ![4096, 1024]⟩ [1, 0] SH) (hb : FTy.bits .bf16 < FTy.bits .f32) (r : Fin 1024) (k : Fin 4096) :
    truncf (F := Ideal) .bf16 (transpose SH [1, 0] x ht) hb (ix2 r k) = x (ix2 k r) :=
  transpose_apply [1, 0] x ht (ix2 r k) (ix2 k r) fun b => match b with | ⟨0, _⟩ | ⟨1, _⟩ => rfl

end Cert.WGrad

end
-- ==== Proof.WGradM.lean ====
/- The weight gradient of the groups [ma|mb]: four grid points of 512 columns each. -/
module

public import proofs.«01_k».proof.Proof.WGrad
public import proofs.«01_k».proof.Proof.Gen.KernelMIdeal.Value
public import proofs.«01_k».proof.Proof.Gen.ReferenceMIdeal.Read

@[expose] public section

set_option maxRecDepth 65536

noncomputable section

namespace Cert.KernelMIdeal.Body

open Idealize.ShloMosaic Idealize.ShloMosaic.TcCoe Idealize.ShloMosaic.Tactic Cert.KernelMIdeal Cert.KernelMIdeal.Gen Cert.WGrad
open Cert.KernelIdeal.Body (read_junk)

section Points
variable {F : FTy → Type} [FloatOps F] (m : (ℓ : Loc nD τ sig) → Buf (Elt F) ℓ) (c : Dev nD) (t : Fin cfg0.N)

theorem outs_first (h0 : t.val % 4 = 0) (h1 : ¬1 ≤ t.val) :
    outsAt0 m c t.val t.isLt = (first (V m c main_v13) (iblk m c 0 t), V m c main_v13) := by
  rw [outsAt0_A m c t h0 h1]
  refine congrArg₂ Prod.mk ?_ ?_
  · unfold out0_A_1
    rw [read_junk]
    refine Eq.trans (congrArg View.canon ?_) (congrArg₂ (fun a b => View.canon (halves (sumQ a b))) (read_arrived _ scM0_0.view) (read_rows _ (ms0_0 t) (hs0_0 t)))
    sl_kernel_rfl
  · unfold sout0_A_0
    rw [read_junk]
    refine Eq.trans (congrArg View.canon ?_) (arrived _)
    sl_kernel_rfl

theorem outs_later (h0 : ¬t.val % 4 = 0) (h1 : 1 ≤ t.val) (h : Vec F S1024x4096 .bf16)
    (hh : (outsAt0 m c (t.val - 1) (Nat.lt_of_le_of_lt (Nat.sub_le _ _) t.isLt)).2 = h) :
    outsAt0 m c t.val t.isLt = (later h (iblk m c 0 t), h) := by
  subst hh
  rw [outsAt0_B m c t h0 h1]
  refine congrArg₂ Prod.mk ?_ rfl
  unfold out0_B_1
  rw [read_junk]
  generalize (outsAt0 m c (t.val - 1) _).2 = h
  refine Eq.trans (congrArg View.canon ?_) (congrArg₂ (fun a b => View.canon (halves (mmAll a b)))
    (read_all scM0_0 (Memref.isWhole_whole _) h inb_S1024x4096_S1024x4096_0_0 (by decide))
    (read_all (ms0_0 t) (hs0_0 t) (iblk m c 0 t) inb_S4096x512_S4096x512_0_0 (by decide)))
  sl_kernel_rfl

theorem scratch : ∀ (n : ℕ) (hn : n < cfg0.N), (outsAt0 m c n hn).2 = V m c main_v13
  | 0, hn => congrArg Prod.snd (outs_first m c ⟨0, hn⟩ rfl (Nat.not_succ_le_zero 0))
  | n + 1, hn => congrArg Prod.snd (outs_later m c ⟨n + 1, hn⟩
      (by have e : n + 1 < 4 := hn; show ¬(n + 1) % 4 = 0; omega) (Nat.succ_le_succ (Nat.zero_le n)) _ (scratch n _))

end Points

variable (m : (ℓ : Loc nD τ sig) → Buf (Elt Ideal) ℓ) (c : Dev nD) (t : Fin cfg0.N)

/-- WHAT A POINT STORES. -/
theorem out_at (p : Fin 2) (i j : Fin 512) :
    (outsAt0 m c t.val t.isLt).1 (ix4 0 p i j) = entry (V m c main_v13) (iblk m c 0 t) (row p i) j := by
  have ht : t.val < 4 := t.isLt
  by_cases h0 : t.val = 0
  · exact first_of (outs_first m c t (by omega) (by omega)) p i j
  · exact later_of (outs_later m c t (by omega) (by omega) _ (scratch m c _ _)) p i j

/-! ## The arrays read -/

/-- The arguments: the input, the norm's gain and the gradient of the projections. -/
abbrev X0 : Vec Ideal S4096x1024 .f32 := m ((c : Thread nD τ).loc main_arg0)
abbrev X1 : Vec Ideal S1x1024 .f32 := m ((c : Thread nD τ).loc main_arg1)
abbrev X2 : Vec Ideal S4096x2048 .f32 := m ((c : Thread nD τ).loc main_arg2)

theorem host_h : (V m c main_v13 : Vec Ideal S1024x4096 .bf16) = truncf .bf16 (transpose S1024x4096 [1, 0] (Cert.ReferenceMIdeal.Read.val_main_v12 (X0 m c) (X1 m c))
    transposes_S4096x1024_S1024x4096_1_0) bitsLt_bf16_f32 := by sl_kernel_rfl
theorem host_d : (V m c main_v14 : Vec Ideal S4096x2048 .bf16) = truncf (F := Ideal) (s := S4096x2048) .bf16 (X2 m c) bitsLt_bf16_f32 := by sl_kernel_rfl

/-- Column `j` of point `t`. -/
def col (t : Fin cfg0.N) (j : Fin 512) : Fin 2048 := ⟨t.val * 512 + j.val, by have ht : t.val < 4 := t.isLt; have := j.isLt; omega⟩

theorem index_in : ∀ t : Fin cfg0.N, win0_0.index t = ![0, t.val] :=
  (by decide +kernel : ∀ t : Fin grid0.N, win0_0.index t = ![0, t.val])

theorem read_d (k : Fin 4096) (j : Fin 512) : (iblk m c 0 t : Vec Ideal S4096x512 .bf16) (ix2 k j) = X2 m c (ix2 k (col t j)) := by
  have e : (iblk m c 0 t : Vec Ideal S4096x512 .bf16) (ix2 k j) = V m c main_v14 ((win0_0.blk t).view.emb (ix2 k j)) := rfl
  rw [e, host_d]
  refine congrArg (X2 m c) (funext fun a => Fin.ext ?_)
  match a with
  | ⟨0, _⟩ => show win0_0.index t 0 * 4096 + 1 * k.val = k.val; rw [index_in t]; show 0 * 4096 + 1 * k.val = k.val; omega
  | ⟨1, _⟩ => show win0_0.index t 1 * 512 + 1 * j.val = t.val * 512 + j.val; rw [index_in t]; show t.val * 512 + 1 * j.val = t.val * 512 + j.val; omega

/-! ## The result -/

section
open Cert.ReferenceMIdeal.Read

/-- The reference's gradient, at the place of entry (`row p i`, `col t j`). -/
theorem ref_at (x0 : Vec Ideal S4096x1024 .f32) (x1 : Vec Ideal S1x1024 .f32) (x2 : Vec Ideal S4096x2048 .f32) (p : Fin 2) (i : Fin 512) (j : Fin 2048) :
    val_main_v17 x0 x1 x2 (ix4 0 p i j) = ∑ k : Fin 4096, (x2 (ix2 k j) : EReal) * val_main_v12 x0 x1 (ix2 k (row p i)) := by
  rw [val_main_v17_apply, val_main_v16_apply, val_main_v15_apply, val_main_v14_apply]
  refine Finset.sum_congr rfl fun k _ => congrArg₂ HMul.hMul (congrArg x2 ?_) (congrArg (val_main_v12 x0 x1) ?_) <;> funext a <;> apply Fin.ext <;> have hp := p.isLt <;> have hi := i.isLt <;> have hj := j.isLt
  · match a with
    | ⟨0, _⟩ => rfl
    | ⟨1, _⟩ => show (((p.val * 512 + i.val) * 1 + 0) * 2048 + j.val) % 2048 = j.val; omega
  · match a with
    | ⟨0, _⟩ => rfl
    | ⟨1, _⟩ => show (((p.val * 512 + i.val) * 1 + 0) * 2048 + j.val) / 2048 = p.val * 512 + i.val; omega

theorem ref_congr {x0 y0 : Vec Ideal S4096x1024 .f32} {x1 y1 : Vec Ideal S1x1024 .f32} {x2 y2 : Vec Ideal S4096x2048 .f32} (e0 : x0 = y0) (e1 : x1 = y1) (e2 : x2 = y2) :
    val_main_v17 x0 x1 x2 = val_main_v17 y0 y1 y2 := by
  subst e0 e1 e2; rfl

theorem index_out : ∀ t : Fin cfg0.N, win0_1.index t = ![0, 0, 0, t.val] :=
  (by decide +kernel : ∀ t : Fin grid0.N, win0_1.index t = ![0, 0, 0, t.val])

/-- THE RESULT IS THE REFERENCE'S. -/
theorem grad_eq : (dats m 0 c).arrAt 1 cfg0.N = val_main_v17 (X0 m c) (X1 m c) (X2 m c) := by
  refine (dats m 0 c).arrAt_eq_of_covers 1 _ (by decide +kernel) fun t _ y => ?_
  have ht : t.val < 4 := t.isLt
  blk_simp
  rw [after0_1]
  obtain ⟨p, i, j, rfl⟩ := index_eq y
  refine (out_at m c t p i j).trans ?_
  have hj := j.isLt
  have e := ref_at (X0 m c) (X1 m c) (X2 m c) p i (col t j)
  refine Eq.trans (Eq.trans ?_ e.symm) (congrArg _ ?_)
  · refine entry_eq _ _ (fun k => by rw [host_h]; exact turned _ _ _ _ k) fun k => read_d m c t k j
  · funext a
    apply Fin.ext
    match a with
    | ⟨0, _⟩ => blk_simp [index_out t]
    | ⟨1, _⟩ => blk_simp [index_out t]
    | ⟨2, _⟩ => blk_simp [index_out t]
    | ⟨3, _⟩ => blk_simp [index_out t]; rfl
end

end Cert.KernelMIdeal.Body

end
-- ==== Proof.WGradR.lean ====
/- The weight gradient of the groups [q|k|v|gb]: eight grid points of 512 columns each. The activations come into scratch at the
   first point, by quarters, and stay there. -/
module

public import proofs.«01_k».proof.Proof.WGrad
public import proofs.«01_k».proof.Proof.Gen.KernelRIdeal.Value
public import proofs.«01_k».proof.Proof.Gen.ReferenceRIdeal.Read

@[expose] public section

set_option maxRecDepth 65536

noncomputable section

namespace Cert.KernelRIdeal.Body

open Idealize.ShloMosaic Idealize.ShloMosaic.TcCoe Idealize.ShloMosaic.Tactic Cert.KernelRIdeal Cert.KernelRIdeal.Gen Cert.WGrad
open Cert.KernelIdeal.Body (read_junk)

section Points
variable {F : FTy → Type} [FloatOps F] (m : (ℓ : Loc nD τ sig) → Buf (Elt F) ℓ) (c : Dev nD) (t : Fin cfg0.N)

theorem outs_first (h0 : t.val % 8 = 0) (h1 : ¬1 ≤ t.val) :
    outsAt0 m c t.val t.isLt = (first (V m c main_v13) (iblk m c 0 t), V m c main_v13) := by
  rw [outsAt0_A m c t h0 h1]
  refine congrArg₂ Prod.mk ?_ ?_
  · unfold out0_A_1
    rw [read_junk]
    refine Eq.trans (congrArg View.canon ?_) (congrArg₂ (fun a b => View.canon (halves (sumQ a b))) (read_arrived _ scM0_0.view) (read_rows _ (ms0_0 t) (hs0_0 t)))
    sl_kernel_rfl
  · unfold sout0_A_0
    rw [read_junk]
    refine Eq.trans (congrArg View.canon ?_) (arrived _)
    sl_kernel_rfl

theorem outs_later (h0 : ¬t.val % 8 = 0) (h1 : 1 ≤ t.val) (h : Vec F S1024x4096 .bf16)
    (hh : (outsAt0 m c (t.val - 1) (Nat.lt_of_le_of_lt (Nat.sub_le _ _) t.isLt)).2 = h) :
    outsAt0 m c t.val t.isLt = (later h (iblk m c 0 t), h) := by
  subst hh
  rw [outsAt0_B m c t h0 h1]
  refine congrArg₂ Prod.mk ?_ rfl
  unfold out0_B_1
  rw [read_junk]
  generalize (outsAt0 m c (t.val - 1) _).2 = h
  refine Eq.trans (congrArg View.canon ?_) (congrArg₂ (fun a b => View.canon (halves (mmAll a b)))
    (read_all scM0_0 (Memref.isWhole_whole _) h inb_S1024x4096_S1024x4096_0_0 (by decide))
    (read_all (ms0_0 t) (hs0_0 t) (iblk m c 0 t) inb_S4096x512_S4096x512_0_0 (by decide)))
  sl_kernel_rfl

theorem scratch : ∀ (n : ℕ) (hn : n < cfg0.N), (outsAt0 m c n hn).2 = V m c main_v13
  | 0, hn => congrArg Prod.snd (outs_first m c ⟨0, hn⟩ rfl (Nat.not_succ_le_zero 0))
  | n + 1, hn => congrArg Prod.snd (outs_later m c ⟨n + 1, hn⟩
      (by have e : n + 1 < 8 := hn; show ¬(n + 1) % 8 = 0; omega) (Nat.succ_le_succ (Nat.zero_le n)) _ (scratch n _))

end Points

variable (m : (ℓ : Loc nD τ sig) → Buf (Elt Ideal) ℓ) (c : Dev nD) (t : Fin cfg0.N)

/-- WHAT A POINT STORES. -/
theorem out_at (p : Fin 2) (i j : Fin 512) :
    (outsAt0 m c t.val t.isLt).1 (ix4 0 p i j) = entry (V m c main_v13) (iblk m c 0 t) (row p i) j := by
  have ht : t.val < 8 := t.isLt
  by_cases h0 : t.val = 0
  · exact first_of (outs_first m c t (by omega) (by omega)) p i j
  · exact later_of (outs_later m c t (by omega) (by omega) _ (scratch m c _ _)) p i j

/-! ## The arrays read -/

/-- The arguments: the input, the norm's gain and the gradient of the projections. -/
abbrev X0 : Vec Ideal S4096x1024 .f32 := m ((c : Thread nD τ).loc main_arg0)
abbrev X1 : Vec Ideal S1x1024 .f32 := m ((c : Thread nD τ).loc main_arg1)
abbrev X2 : Vec Ideal S4096x4096 .f32 := m ((c : Thread nD τ).loc main_arg2)

theorem host_h : (V m c main_v13 : Vec Ideal S1024x4096 .bf16) = truncf .bf16 (transpose S1024x4096 [1, 0] (Cert.ReferenceRIdeal.Read.val_main_v12 (X0 m c) (X1 m c))
    transposes_S4096x1024_S1024x4096_1_0) bitsLt_bf16_f32 := by sl_kernel_rfl
theorem host_d : (V m c main_v14 : Vec Ideal S4096x4096 .bf16) = truncf (F := Ideal) (s := S4096x4096) .bf16 (X2 m c) bitsLt_bf16_f32 := by sl_kernel_rfl

/-- Column `j` of point `t`. -/
def col (t : Fin cfg0.N) (j : Fin 512) : Fin 4096 := ⟨t.val * 512 + j.val, by have ht : t.val < 8 := t.isLt; have := j.isLt; omega⟩

theorem index_in : ∀ t : Fin cfg0.N, win0_0.index t = ![0, t.val] :=
  (by decide +kernel : ∀ t : Fin grid0.N, win0_0.index t = ![0, t.val])

theorem read_d (k : Fin 4096) (j : Fin 512) : (iblk m c 0 t : Vec Ideal S4096x512 .bf16) (ix2 k j) = X2 m c (ix2 k (col t j)) := by
  have e : (iblk m c 0 t : Vec Ideal S4096x512 .bf16) (ix2 k j) = V m c main_v14 ((win0_0.blk t).view.emb (ix2 k j)) := rfl
  rw [e, host_d]
  refine congrArg (X2 m c) (funext fun a => Fin.ext ?_)
  match a with
  | ⟨0, _⟩ => show win0_0.index t 0 * 4096 + 1 * k.val = k.val; rw [index_in t]; show 0 * 4096 + 1 * k.val = k.val; omega
  | ⟨1, _⟩ => show win0_0.index t 1 * 512 + 1 * j.val = t.val * 512 + j.val; rw [index_in t]; show t.val * 512 + 1 * j.val = t.val * 512 + j.val; omega

/-! ## The result -/

section
open Cert.ReferenceRIdeal.Read

/-- The reference's gradient, at the place of entry (`row p i`, `col t j`). -/
theorem ref_at (x0 : Vec Ideal S4096x1024 .f32) (x1 : Vec Ideal S1x1024 .f32) (x2 : Vec Ideal S4096x4096 .f32) (n p : Fin 2) (i : Fin 512) (j : Fin 2048) :
    val_main_v17 x0 x1 x2 (ix4 n p i j) =
      ∑ k : Fin 4096, (x2 (ix2 k ⟨n.val * 2048 + j.val, by have := n.isLt; have := j.isLt; omega⟩) : EReal) * val_main_v12 x0 x1 (ix2 k (row p i)) := by
  rw [val_main_v17_apply, val_main_v16_apply, val_main_v15_apply, val_main_v14_apply]
  refine Finset.sum_congr rfl fun k _ => congrArg₂ HMul.hMul (congrArg x2 ?_) (congrArg (val_main_v12 x0 x1) ?_) <;> funext a <;> apply Fin.ext <;> have hn := n.isLt <;> have hp := p.isLt <;> have hi := i.isLt <;> have hj := j.isLt
  · match a with
    | ⟨0, _⟩ => rfl
    | ⟨1, _⟩ => show (((p.val * 512 + i.val) * 2 + n.val) * 2048 + j.val) % 4096 = n.val * 2048 + j.val; omega
  · match a with
    | ⟨0, _⟩ => rfl
    | ⟨1, _⟩ => show (((p.val * 512 + i.val) * 2 + n.val) * 2048 + j.val) / 4096 = p.val * 512 + i.val; omega

theorem ref_congr {x0 y0 : Vec Ideal S4096x1024 .f32} {x1 y1 : Vec Ideal S1x1024 .f32} {x2 y2 : Vec Ideal S4096x4096 .f32} (e0 : x0 = y0) (e1 : x1 = y1) (e2 : x2 = y2) :
    val_main_v17 x0 x1 x2 = val_main_v17 y0 y1 y2 := by
  subst e0 e1 e2; rfl

theorem index_out : ∀ t : Fin cfg0.N, win0_1.index t = ![t.val / 4, 0, 0, t.val % 4] :=
  (by decide +kernel : ∀ t : Fin grid0.N, win0_1.index t = ![t.val / 4, 0, 0, t.val % 4])

/-- THE RESULT IS THE REFERENCE'S. -/
theorem grad_eq : (dats m 0 c).arrAt 1 cfg0.N = val_main_v17 (X0 m c) (X1 m c) (X2 m c) := by
  refine (dats m 0 c).arrAt_eq_of_covers 1 _ (by decide +kernel) fun t _ y => ?_
  have ht : t.val < 8 := t.isLt
  blk_simp
  rw [after0_1]
  obtain ⟨p, i, j, rfl⟩ := index_eq y
  refine (out_at m c t p i j).trans ?_
  have hj := j.isLt
  have e := ref_at (X0 m c) (X1 m c) (X2 m c) ⟨t.val / 4, by omega⟩ p i ⟨t.val % 4 * 512 + j.val, by omega⟩
  refine Eq.trans (Eq.trans ?_ e.symm) (congrArg _ ?_)
  · refine entry_eq _ _ (fun k => by rw [host_h]; exact turned _ _ _ _ k) fun k => (read_d m c t k j).trans (congrArg (X2 m c) (congrArg (ix2 k) (Fin.ext ?_)))
    show t.val * 512 + j.val = t.val / 4 * 2048 + (t.val % 4 * 512 + j.val)
    omega
  · funext a
    apply Fin.ext
    match a with
    | ⟨0, _⟩ => blk_simp [index_out t]; rfl
    | ⟨1, _⟩ => blk_simp [index_out t]
    | ⟨2, _⟩ => blk_simp [index_out t]
    | ⟨3, _⟩ => blk_simp [index_out t]
end

end Cert.KernelRIdeal.Body

end
-- ==== Proof.WGradA.lean ====
/- The weight gradient of the groups [xa|ga]: two grid points on the first gradient's columns, then two on the second's. -/
module

public import proofs.«01_k».proof.Proof.WGrad
public import proofs.«01_k».proof.Proof.Gen.KernelAIdeal.Value
public import proofs.«01_k».proof.Proof.Gen.ReferenceAIdeal.Read

@[expose] public section

set_option maxRecDepth 65536

noncomputable section

namespace Cert.KernelAIdeal.Body

open Idealize.ShloMosaic Idealize.ShloMosaic.TcCoe Idealize.ShloMosaic.Tactic Cert.KernelAIdeal Cert.KernelAIdeal.Gen Cert.WGrad
open Cert.KernelIdeal.Body (read_junk)

section Points
variable {F : FTy → Type} [FloatOps F] (m : (ℓ : Loc nD τ sig) → Buf (Elt F) ℓ) (c : Dev nD) (t : Fin cfg0.N)

theorem outs_first (h0 : t.val = 0) :
    outsAt0 m c t.val t.isLt = (first (V m c main_v13) (iblk m c 0 t), V m c main_v13) := by
  rw [outsAt0_A m c t (by omega) (by omega) (by omega)]
  refine congrArg₂ Prod.mk ?_ ?_
  · unfold out0_A_2
    rw [read_junk]
    refine Eq.trans (congrArg View.canon ?_) (congrArg₂ (fun a b => View.canon (halves (sumQ a b))) (read_arrived _ scM0_0.view) (read_rows _ (ms0_0 t) (hs0_0 t)))
    sl_kernel_rfl
  · unfold sout0_A_0
    rw [read_junk]
    refine Eq.trans (congrArg View.canon ?_) (arrived _)
    sl_kernel_rfl

variable (h : Vec F S1024x4096 .bf16) (hh : (outsAt0 m c (t.val - 1) (Nat.lt_of_le_of_lt (Nat.sub_le _ _) t.isLt)).2 = h)
include hh

/-- The second point, still on the first gradient. -/
theorem outs_second (h1 : t.val = 1) : outsAt0 m c t.val t.isLt = (later h (iblk m c 0 t), h) := by
  subst hh
  rw [outsAt0_B m c t (by omega) (by omega) (by omega)]
  refine congrArg₂ Prod.mk ?_ rfl
  unfold out0_B_2
  rw [read_junk]
  generalize (outsAt0 m c (t.val - 1) _).2 = h
  refine Eq.trans (congrArg View.canon ?_) (congrArg₂ (fun a b => View.canon (halves (mmAll a b)))
    (read_all scM0_0 (Memref.isWhole_whole _) h inb_S1024x4096_S1024x4096_0_0 (by decide))
    (read_all (ms0_0 t) (hs0_0 t) (iblk m c 0 t) inb_S4096x512_S4096x512_0_0 (by decide)))
  sl_kernel_rfl

/-- The points on the second gradient. -/
theorem outs_last (h2 : 2 ≤ t.val) : outsAt0 m c t.val t.isLt = (later h (iblk m c 1 t), h) := by
  subst hh
  have ht : t.val < 4 := t.isLt
  rw [outsAt0_C m c t (by omega) (by omega) h2]
  refine congrArg₂ Prod.mk ?_ rfl
  unfold out0_C_2
  rw [read_junk]
  generalize (outsAt0 m c (t.val - 1) _).2 = h
  refine Eq.trans (congrArg View.canon ?_) (congrArg₂ (fun a b => View.canon (halves (mmAll a b)))
    (read_all scM0_0 (Memref.isWhole_whole _) h inb_S1024x4096_S1024x4096_0_0 (by decide))
    (read_all (ms0_1 t) (hs0_1 t) (iblk m c 1 t) inb_S4096x512_S4096x512_0_0 (by decide)))
  sl_kernel_rfl

omit hh
theorem scratch : ∀ (n : ℕ) (hn : n < cfg0.N), (outsAt0 m c n hn).2 = V m c main_v13
  | 0, hn => congrArg Prod.snd (outs_first m c ⟨0, hn⟩ rfl)
  | 1, hn => congrArg Prod.snd (outs_second m c ⟨1, hn⟩ _ (scratch 0 _) rfl)
  | n + 2, hn => congrArg Prod.snd (outs_last m c ⟨n + 2, hn⟩ _ (scratch (n + 1) _) (Nat.le_add_left 2 n))

end Points

variable (m : (ℓ : Loc nD τ sig) → Buf (Elt Ideal) ℓ) (c : Dev nD) (t : Fin cfg0.N)

/-! ## The arrays read -/

/-- The arguments: the input, the norm's gain and the gradients of the two groups. -/
abbrev X0 : Vec Ideal S4096x1024 .f32 := m ((c : Thread nD τ).loc main_arg0)
abbrev X1 : Vec Ideal S1x1024 .f32 := m ((c : Thread nD τ).loc main_arg1)
abbrev X2 : Vec Ideal S4096x1024 .f32 := m ((c : Thread nD τ).loc main_arg2)
abbrev X3 : Vec Ideal S4096x1024 .f32 := m ((c : Thread nD τ).loc main_arg3)

theorem host_h : (V m c main_v13 : Vec Ideal S1024x4096 .bf16) = truncf .bf16 (transpose S1024x4096 [1, 0] (Cert.ReferenceAIdeal.Read.val_main_v13 (X0 m c) (X1 m c))
    transposes_S4096x1024_S1024x4096_1_0) bitsLt_bf16_f32 := by sl_kernel_rfl
theorem host_d0 : (V m c main_v14 : Vec Ideal S4096x1024 .bf16) = truncf (F := Ideal) (s := S4096x1024) .bf16 (X2 m c) bitsLt_bf16_f32 := by sl_kernel_rfl
theorem host_d1 : (V m c main_v15 : Vec Ideal S4096x1024 .bf16) = truncf (F := Ideal) (s := S4096x1024) .bf16 (X3 m c) bitsLt_bf16_f32 := by sl_kernel_rfl

theorem index_in0 : ∀ t : Fin cfg0.N, win0_0.index t = ![0, min t.val 1] :=
  (by decide +kernel : ∀ t : Fin grid0.N, win0_0.index t = ![0, min t.val 1])
theorem index_in1 : ∀ t : Fin cfg0.N, win0_1.index t = ![0, t.val - 2] :=
  (by decide +kernel : ∀ t : Fin grid0.N, win0_1.index t = ![0, t.val - 2])

/-- Column `j` of point `t`, in the two groups side by side. -/
def col (t : Fin cfg0.N) (j : Fin 512) : Fin 2048 := ⟨t.val * 512 + j.val, by have ht : t.val < 4 := t.isLt; have := j.isLt; omega⟩

section
open Cert.ReferenceAIdeal.Read

theorem read_d0 (ht : t.val < 2) (k : Fin 4096) (j : Fin 512) :
    (iblk m c 0 t : Vec Ideal S4096x512 .bf16) (ix2 k j) = val_main_v0 (X2 m c) (X3 m c) (ix2 k (col t j)) := by
  have hj := j.isLt
  have e : (iblk m c 0 t : Vec Ideal S4096x512 .bf16) (ix2 k j) = V m c main_v14 ((win0_0.blk t).view.emb (ix2 k j)) := rfl
  have er : val_main_v0 (X2 m c) (X3 m c) (ix2 k (col t j)) = X2 m c (ix2 k ⟨t.val * 512 + j.val, by omega⟩) :=
    concatenate_pair_apply_left (t := Cert.ReferenceAIdeal.S4096x2048) 1 (X2 m c) (X3 m c) _ (ix2 k (col t j)) rfl _ fun b => match b with | ⟨0, _⟩ | ⟨1, _⟩ => rfl
  rw [e, er, host_d0]
  refine congrArg (X2 m c) (funext fun a => Fin.ext ?_)
  match a with
  | ⟨0, _⟩ => show win0_0.index t 0 * 4096 + 1 * k.val = k.val; rw [index_in0 t]; show 0 * 4096 + 1 * k.val = k.val; omega
  | ⟨1, _⟩ => show win0_0.index t 1 * 512 + 1 * j.val = t.val * 512 + j.val; rw [index_in0 t]; show min t.val 1 * 512 + 1 * j.val = t.val * 512 + j.val; omega

theorem read_d1 (ht : 2 ≤ t.val) (k : Fin 4096) (j : Fin 512) :
    (iblk m c 1 t : Vec Ideal S4096x512 .bf16) (ix2 k j) = val_main_v0 (X2 m c) (X3 m c) (ix2 k (col t j)) := by
  have hj := j.isLt
  have ht4 : t.val < 4 := t.isLt
  have e : ∀ W : (a : Ref sig .tc) → Buf (Elt Ideal) ((c : Thread nD τ).loc a),
      (((cfg0.win 1).blk t).view.read (Elt Ideal) (W (Pipeline.arrRef spec0 1)) : Vec Ideal S4096x512 .bf16) (ix2 k j) = W main_v15 ((win0_1.blk t).view.emb (ix2 k j)) := fun _ => rfl
  have er : val_main_v0 (X2 m c) (X3 m c) (ix2 k (col t j)) = X3 m c (ix2 k ⟨(t.val - 2) * 512 + j.val, by omega⟩) :=
    concatenate_pair_apply_right (t := Cert.ReferenceAIdeal.S4096x2048) 1 (X2 m c) (X3 m c) _ (ix2 k (col t j)) rfl rfl _ (fun b hb => match b with | ⟨0, _⟩ => rfl | ⟨1, _⟩ => absurd rfl hb)
      (show (t.val - 2) * 512 + j.val + 1024 = t.val * 512 + j.val by omega)
  refine (e (V m c)).trans ?_
  rw [er, host_d1]
  refine congrArg (X3 m c) (funext fun a => Fin.ext ?_)
  match a with
  | ⟨0, _⟩ => show win0_1.index t 0 * 4096 + 1 * k.val = k.val; rw [index_in1 t]; show 0 * 4096 + 1 * k.val = k.val; omega
  | ⟨1, _⟩ => show win0_1.index t 1 * 512 + 1 * j.val = (t.val - 2) * 512 + j.val; rw [index_in1 t]; show (t.val - 2) * 512 + 1 * j.val = (t.val - 2) * 512 + j.val; omega

/-! ## The result -/

/-- WHAT A POINT STORES. -/
theorem out_at (p : Fin 2) (i j : Fin 512) : (outsAt0 m c t.val t.isLt).1 (ix4 0 p i j) =
    ∑ k : Fin 4096, (val_main_v0 (X2 m c) (X3 m c) (ix2 k (col t j)) : EReal) * val_main_v13 (X0 m c) (X1 m c) (ix2 k (row p i)) := by
  have hh (k : Fin 4096) : (V m c main_v13 : Vec Ideal S1024x4096 .bf16) (ix2 (row p i) k) = val_main_v13 (X0 m c) (X1 m c) (ix2 k (row p i)) := by
    rw [host_h]; exact turned _ _ _ _ k
  by_cases h0 : t.val = 0
  · exact (first_of (outs_first m c t h0) p i j).trans (entry_eq _ _ hh fun k => read_d0 m c t (by omega) k j)
  by_cases h1 : t.val = 1
  · exact (later_of (outs_second m c t _ (scratch m c _ _) h1) p i j).trans (entry_eq _ _ hh fun k => read_d0 m c t (by omega) k j)
  · exact (later_of (outs_last m c t _ (scratch m c _ _) (by omega)) p i j).trans (entry_eq _ _ hh fun k => read_d1 m c t (by omega) k j)

/-- The reference's gradient, at the place of entry (`row p i`, `col t j`). -/
theorem ref_at (x0 : Vec Ideal S4096x1024 .f32) (x1 : Vec Ideal S1x1024 .f32) (x2 x3 : Vec Ideal S4096x1024 .f32) (p : Fin 2) (i : Fin 512) (j : Fin 2048) :
    val_main_v18 x0 x1 x2 x3 (ix4 0 p i j) = ∑ k : Fin 4096, (val_main_v0 x2 x3 (ix2 k j) : EReal) * val_main_v13 x0 x1 (ix2 k (row p i)) := by
  rw [val_main_v18_apply, val_main_v17_apply, val_main_v16_apply, val_main_v15_apply]
  refine Finset.sum_congr rfl fun k _ => congrArg₂ HMul.hMul (congrArg (val_main_v0 x2 x3) ?_) (congrArg (val_main_v13 x0 x1) ?_) <;> funext a <;> apply Fin.ext <;> have hp := p.isLt <;> have hi := i.isLt <;> have hj := j.isLt
  · match a with
    | ⟨0, _⟩ => rfl
    | ⟨1, _⟩ => show (((p.val * 512 + i.val) * 1 + 0) * 2048 + j.val) % 2048 = j.val; omega
  · match a with
    | ⟨0, _⟩ => rfl
    | ⟨1, _⟩ => show (((p.val * 512 + i.val) * 1 + 0) * 2048 + j.val) / 2048 = p.val * 512 + i.val; omega

theorem ref_congr {x0 y0 : Vec Ideal S4096x1024 .f32} {x1 y1 : Vec Ideal S1x1024 .f32} {x2 y2 : Vec Ideal S4096x1024 .f32} {x3 y3 : Vec Ideal S4096x1024 .f32} (e0 : x0 = y0) (e1 : x1 = y1) (e2 : x2 = y2) (e3 : x3 = y3) :
    val_main_v18 x0 x1 x2 x3 = val_main_v18 y0 y1 y2 y3 := by
  subst e0 e1 e2 e3; rfl

theorem index_out : ∀ t : Fin cfg0.N, win0_2.index t = ![0, 0, 0, t.val] :=
  (by decide +kernel : ∀ t : Fin grid0.N, win0_2.index t = ![0, 0, 0, t.val])

/-- THE RESULT IS THE REFERENCE'S. -/
theorem grad_eq : (dats m 0 c).arrAt 2 cfg0.N = val_main_v18 (X0 m c) (X1 m c) (X2 m c) (X3 m c) := by
  refine (dats m 0 c).arrAt_eq_of_covers 2 _ (by decide +kernel) fun t _ y => ?_
  blk_simp
  rw [after0_2]
  obtain ⟨p, i, j, rfl⟩ := index_eq y
  refine ((out_at m c t p i j).trans (ref_at (X0 m c) (X1 m c) (X2 m c) (X3 m c) p i (col t j)).symm).trans (congrArg _ ?_)
  funext a
  apply Fin.ext
  match a with
  | ⟨0, _⟩ => blk_simp [index_out t]
  | ⟨1, _⟩ => blk_simp [index_out t]
  | ⟨2, _⟩ => blk_simp [index_out t]
  | ⟨3, _⟩ => blk_simp [index_out t]; rfl
end

end Cert.KernelAIdeal.Body

end
-- ==== Proof.XTile.lean ====
/- One tile of the gradient of the input projection's input: 512 tokens, the eight groups of 1024 columns summed, then the root mean
   square norm's gradient. The first grid point takes the weights' parts as they arrive; each point adds its tokens to the gain's gradient. -/
module

public import proofs.«01_k».proof.Proof.WGrad
public import proofs.«01_k».proof.Proof.Gen.KernelXIdeal.Value

@[expose] public section

set_option maxRecDepth 65536

noncomputable section

namespace Cert.KernelXIdeal.Body

open Idealize.ShloMosaic Idealize.ShloMosaic.TcCoe Idealize.ShloMosaic.Tactic Cert.KernelXIdeal Cert.KernelXIdeal.Gen
open Cert.KernelIdeal.Body (read_junk)
open Cert.WGrad (read_all)

section Runs
variable {F : FTy → Type} [FloatOps F]

/-! ## The weights by parts -/

theorem inbPart (j : Fin 8) : ∀ a, (![j.val / 2, 0, j.val % 2 * 1024] : Fin 3 → ℕ) a + S1x1024x1024.size a ≤ S4x1024x2048.size a := by
  revert j; decide

/-- The part of the weights that belongs to group `j`. -/
abbrev rPart (j : Fin 8) : Rect S4x1024x2048 := Rect.unit (s := S4x1024x2048) ![j.val / 2, 0, j.val % 2 * 1024] S1x1024x1024.size (inbPart j)

/-- The weights, as the eight copies bring them. -/
def arrivals (w : Vec F S4x1024x2048 .bf16) : List (View.Piece (Elt F) S4x1024x2048 .bf16) :=
  [rPart 7, rPart 6, rPart 5, rPart 4, rPart 3, rPart 2, rPart 1, rPart 0].map fun r => ⟨r, View.ld w r⟩

theorem arrived (w : Vec F S4x1024x2048 .bf16) : View.canon (arrivals w) = w := by
  funext y
  refine View.canon_apply_of_pieces w _ (fun p hp x => ?_) y ?_
  · obtain ⟨r, -, rfl⟩ := List.mem_map.mp hp; rfl
  have h0 : (y 0).val < 4 := (y 0).isLt
  have h2 : (y 2).val < 2048 := (y 2).isLt
  obtain ⟨j, e0, e2⟩ : ∃ j : Fin 8, j.val / 2 = (y 0).val ∧ j.val % 2 = (y 2).val / 1024 :=
    ⟨⟨2 * (y 0).val + (y 2).val / 1024, by omega⟩, by dsimp only; omega, by dsimp only; omega⟩
  refine ⟨⟨rPart j, View.ld w _⟩, List.mem_map_of_mem (f := fun r => (⟨r, View.ld w r⟩ : View.Piece (Elt F) S4x1024x2048 .bf16)) ?_,
    (Rect.mem_set_unit (inb := inbPart j)).mpr fun a => ?_⟩
  swap
  · match a with
    | ⟨0, _⟩ => show j.val / 2 ≤ (y 0).val ∧ (y 0).val < j.val / 2 + 1; omega
    | ⟨1, _⟩ => exact ⟨Nat.zero_le _, (Nat.zero_add _).symm ▸ (y 1).isLt⟩
    | ⟨2, _⟩ => show j.val % 2 * 1024 ≤ (y 2).val ∧ (y 2).val < j.val % 2 * 1024 + 1024; omega
  match j with
  | 0 | 1 | 2 | 3 | 4 | 5 | 6 | 7 => simp only [List.mem_cons, true_or, or_true]

/-- The weights read by parts, once they have come. -/
theorem read_arrived {sig : RefSig} {κ : Kind} {sp : Space} (v : View sig κ sp S4x1024x2048 .bf16) (w : Vec F S4x1024x2048 .bf16) :
    (fun j : Fin 8 => v.readCov (arrivals w) (rPart j).toLoadRect) = fun j => View.ld w (rPart j) :=
  funext fun j => (Cert.KernelIdeal.Body.readCov_ld _ _ _).trans (congrArg (View.ld · (rPart j)) (arrived _))

theorem read_parts {sig : RefSig} {κ : Kind} {sp : Space} (M : Memref sig κ sp S4x1024x2048 .bf16) (hM : M.IsWhole) (w : Vec F S4x1024x2048 .bf16) :
    (fun j : Fin 8 => View.readAt (Elt F) M.view (rPart j).toLoadRect (hM.unread w)) = fun j => View.ld w (rPart j) :=
  funext fun j => Cert.KernelIdeal.Body.readAt_ld _ _ _ _

/-! ## The cotangent's blocks by groups -/

theorem inbQ (k : Fin 4) : ∀ a, (![0, k.val * 1024] : Fin 2 → ℕ) a + S512x1024.size a ≤ S512x4096.size a := by revert k; decide
theorem inbM (k : Fin 2) : ∀ a, (![0, k.val * 1024] : Fin 2 → ℕ) a + S512x1024.size a ≤ S512x2048.size a := by revert k; decide

abbrev rQ (k : Fin 4) : Rect S512x4096 := Rect.unit (s := S512x4096) ![0, k.val * 1024] S512x1024.size (inbQ k)
abbrev rM (k : Fin 2) : Rect S512x2048 := Rect.unit (s := S512x2048) ![0, k.val * 1024] S512x1024.size (inbM k)

/-- The eight groups' columns of the four blocks. -/
def groups (x0 x1 : Vec F S512x1024 .bf16) (x2 : Vec F S512x4096 .bf16) (x3 : Vec F S512x2048 .bf16) : Fin 8 → Vec F S512x1024 .bf16 :=
  ![x0, x1, View.ld x2 (rQ 0), View.ld x2 (rQ 1), View.ld x2 (rQ 2), View.ld x2 (rQ 3), View.ld x3 (rM 0), View.ld x3 (rM 1)]

theorem read_groups (M0 M1 : Memref sig .tc .vmem S512x1024 .bf16) (M2 : Memref sig .tc .vmem S512x4096 .bf16) (M3 : Memref sig .tc .vmem S512x2048 .bf16)
    (h0 : M0.IsWhole) (h1 : M1.IsWhole) (h2 : M2.IsWhole) (h3 : M3.IsWhole)
    (x0 x1 : Vec F S512x1024 .bf16) (x2 : Vec F S512x4096 .bf16) (x3 : Vec F S512x2048 .bf16) :
    (![View.readAt (Elt F) M0.view (Rect.unit (s := S512x1024) ![0, 0] S512x1024.size inb_S512x1024_S512x1024_0_0).toLoadRect (h0.unread x0),
      View.readAt (Elt F) M1.view (Rect.unit (s := S512x1024) ![0, 0] S512x1024.size inb_S512x1024_S512x1024_0_0).toLoadRect (h1.unread x1),
      View.readAt (Elt F) M2.view (rQ 0).toLoadRect (h2.unread x2), View.readAt (Elt F) M2.view (rQ 1).toLoadRect (h2.unread x2),
      View.readAt (Elt F) M2.view (rQ 2).toLoadRect (h2.unread x2), View.readAt (Elt F) M2.view (rQ 3).toLoadRect (h2.unread x2),
      View.readAt (Elt F) M3.view (rM 0).toLoadRect (h3.unread x3), View.readAt (Elt F) M3.view (rM 1).toLoadRect (h3.unread x3)]
        : Fin 8 → Vec F S512x1024 .bf16) = groups x0 x1 x2 x3 := by
  rw [read_all M0 h0 x0 _ (by decide), read_all M1 h1 x1 _ (by decide)]
  unfold groups
  simp only [Cert.KernelIdeal.Body.readAt_ld]

/-! ## What a point computes -/

/-- One group's product. -/
def product (d : Vec F S512x1024 .bf16) (w : Vec F S1x1024x1024 .bf16) : FVec F S512x1024 .f32 :=
  matmul (DotDims.transposedRhs 512 1024 1024) none (shapeCast S512x1024 d shapeCasts_S512x1024_S512x1024)
    (shapeCast S1024x1024 w shapeCasts_S1x1024x1024_S1024x1024) (constant S512x1024 .f32 0x00000000#32)

/-- The gradient to the normalised tokens: the groups' sum. -/
def dhT (d : Fin 8 → Vec F S512x1024 .bf16) (w : Fin 8 → Vec F S1x1024x1024 .bf16) : FVec F S512x1024 .f32 :=
  addf (addf (addf (addf (addf (addf (addf (addf (broadcast S512x1024 (FloatOps.ofBits .f32 0x00000000#32)) (product (d 0) (w 0))) (product (d 1) (w 1)))
    (product (d 2) (w 2))) (product (d 3) (w 3))) (product (d 4) (w 4))) (product (d 5) (w 5))) (product (d 6) (w 6))) (product (d 7) (w 7))

/-- A point's sum, over its blocks and the weights. -/
def dh (x0 x1 : Vec F S512x1024 .bf16) (x2 : Vec F S512x4096 .bf16) (x3 : Vec F S512x2048 .bf16) (w : Vec F S4x1024x2048 .bf16) : FVec F S512x1024 .f32 :=
  dhT (groups x0 x1 x2 x3) fun j => View.ld w (rPart j)

variable {d d' : Fin 8 → Vec F S512x1024 .bf16} (ed : d = d') {w w' : Fin 8 → Vec F S1x1024x1024 .bf16} (ew : w = w') {x x' : Vec F S512x1024 .f32} (ex : x = x')
include ed ew ex

/-- The tile stored, from what was read. -/
theorem tile_of {g g' : Vec F S1x1024 .f32} (eg : g = g') {r r' : Vec F S512x1024 .f32} (er : r = r') :
    View.canon [(⟨Rect.unit (s := S512x1024) ![0, 0] S512x1024.size inb_S512x1024_S512x1024_0_0, k0_pay4 (dhT d w) x g r⟩ : View.Piece (Elt F) S512x1024 .f32)]
      = k0_pay4 (dhT d' w') x' g' r' := by
  subst ed ew ex eg er
  exact View.canon_cons_unit_lit inb_S512x1024_S512x1024_0_0 _ [] (by decide)

/-- The gain's gradient stored, whatever was stored before. -/
theorem gain_of {a a' : Vec F S1x1024 .f32} (ea : a = a') (L : List (View.Piece (Elt F) S1x1024 .f32)) :
    View.canon ((⟨Rect.unit (s := S1x1024) ![0, 0] S1x1024.size inb_S1x1024_S1x1024_0_0, k0_pay3 (dhT d w) x a⟩ : View.Piece (Elt F) S1x1024 .f32) :: L)
      = k0_pay3 (dhT d' w') x' a' := by
  subst ed ew ex ea
  exact View.canon_cons_unit_lit inb_S1x1024_S1x1024_0_0 _ L (by decide)

end Runs

section Points
variable {F : FTy → Type} [FloatOps F] (m : (ℓ : Loc nD τ sig) → Buf (Elt F) ℓ) (c : Dev nD) (t : Fin cfg0.N)

/-- What a point leaves, over the gain's gradient and the weights that it meets. -/
def left (w : Vec F S4x1024x2048 .bf16) (a : Vec F S1x1024 .f32) : Vec F S512x1024 .f32 × Vec F S1x1024 .f32 × Vec F S4x1024x2048 .bf16 :=
  (k0_pay4 (dh (iblk m c 0 t) (iblk m c 1 t) (iblk m c 2 t) (iblk m c 3 t) w) (iblk m c 4 t) (iblk m c 6 t) (iblk m c 5 t),
    k0_pay3 (dh (iblk m c 0 t) (iblk m c 1 t) (iblk m c 2 t) (iblk m c 3 t) w) (iblk m c 4 t) a, w)

theorem outs_first (h0 : t.val = 0) : outsAt0 m c t.val t.isLt = left m c t (V m c main_v10) (k0_pay7 (iblk m c 7 t)) := by
  rw [outsAt0_A m c t (by omega) (by omega)]
  have eD := read_groups (ms0_0 t) (ms0_1 t) (ms0_2 t) (ms0_3 t) (hs0_0 t) (hs0_1 t) (hs0_2 t) (hs0_3 t) (iblk m c 0 t) (iblk m c 1 t) (iblk m c 2 t) (iblk m c 3 t)
  have eW := read_arrived scM0_0.view (V m c main_v10)
  have eX := read_all (ms0_4 t) (hs0_4 t) (iblk m c 4 t) inb_S512x1024_S512x1024_0_0 (by decide)
  have eR := read_all (ms0_5 t) (hs0_5 t) (iblk m c 5 t) inb_S512x1024_S512x1024_0_0 (by decide)
  have eG := read_all (ms0_6 t) (hs0_6 t) (iblk m c 6 t) inb_S1x1024_S1x1024_0_0 (by decide)
  have eZ := read_all (ms0_7 t) (hs0_7 t) (iblk m c 7 t) inb_S1x1024_S1x1024_0_0 (by decide)
  unfold left dh
  refine congrArg₂ Prod.mk ?_ (congrArg₂ Prod.mk ?_ ?_)
  · unfold out0_A_8
    rw [read_junk]
    refine Eq.trans (congrArg View.canon ?_) (tile_of eD eW eX eG eR)
    sl_kernel_rfl
  · unfold out0_A_9
    rw [read_junk]
    refine Eq.trans (congrArg View.canon ?_) (gain_of eD eW eX ((View.readCov_unit_lit (ms0_9 t).view inb_S1x1024_S1x1024_0_0
      (k0_pay7 (View.readAt (Elt F) (ms0_7 t).view (Rect.unit (s := S1x1024) ![0, 0] S1x1024.size inb_S1x1024_S1x1024_0_0).toLoadRect ((hs0_7 t).unread (iblk m c 7 t))))
      (by decide)).trans (congrArg k0_pay7 eZ)) [⟨Rect.unit (s := S1x1024) ![0, 0] S1x1024.size inb_S1x1024_S1x1024_0_0,
        k0_pay7 (View.readAt (Elt F) (ms0_7 t).view (Rect.unit (s := S1x1024) ![0, 0] S1x1024.size inb_S1x1024_S1x1024_0_0).toLoadRect ((hs0_7 t).unread (iblk m c 7 t)))⟩])
    sl_kernel_rfl
  · unfold sout0_A_0
    rw [read_junk]
    refine Eq.trans (congrArg View.canon ?_) (arrived _)
    sl_kernel_rfl

variable (w : Vec F S4x1024x2048 .bf16) (hw : (outsAt0 m c (t.val - 1) (Nat.lt_of_le_of_lt (Nat.sub_le _ _) t.isLt)).2.2 = w)
  (a : Vec F S1x1024 .f32) (ha : (outsAt0 m c (t.val - 1) (Nat.lt_of_le_of_lt (Nat.sub_le _ _) t.isLt)).2.1 = a)
include hw ha

theorem outs_later (h1 : 1 ≤ t.val) : outsAt0 m c t.val t.isLt = left m c t w a := by
  have ht : t.val < 8 := t.isLt
  rw [outsAt0_B m c t (by omega) h1, hw, ha]
  clear hw ha
  have eD := read_groups (ms0_0 t) (ms0_1 t) (ms0_2 t) (ms0_3 t) (hs0_0 t) (hs0_1 t) (hs0_2 t) (hs0_3 t) (iblk m c 0 t) (iblk m c 1 t) (iblk m c 2 t) (iblk m c 3 t)
  have eW := read_parts scM0_0 (Memref.isWhole_whole _) w
  have eX := read_all (ms0_4 t) (hs0_4 t) (iblk m c 4 t) inb_S512x1024_S512x1024_0_0 (by decide)
  have eR := read_all (ms0_5 t) (hs0_5 t) (iblk m c 5 t) inb_S512x1024_S512x1024_0_0 (by decide)
  have eG := read_all (ms0_6 t) (hs0_6 t) (iblk m c 6 t) inb_S1x1024_S1x1024_0_0 (by decide)
  have eA := read_all (ms0_9 t) (hs0_9 t) a inb_S1x1024_S1x1024_0_0 (by decide)
  unfold left dh
  refine congrArg₂ Prod.mk ?_ (congrArg₂ Prod.mk ?_ rfl)
  · unfold out0_B_8
    rw [read_junk]
    refine Eq.trans (congrArg View.canon ?_) (tile_of eD eW eX eG eR)
    sl_kernel_rfl
  · unfold out0_B_9
    rw [read_junk]
    refine Eq.trans (congrArg View.canon ?_) (gain_of eD eW eX eA [])
    sl_kernel_rfl

end Points

end Cert.KernelXIdeal.Body

end
-- ==== Proof.XRow.lean ====
/- The tile of the input projection's input gradient, read at an index: the groups' products as sums, and the root mean square norm's
   gradient, which is the form with the derivative of the inverse square root written out. -/
module

public import proofs.«01_k».proof.Proof.XTile
public import proofs.«01_k».proof.Proof.Reals

@[expose] public section

set_option maxRecDepth 65536

noncomputable section

namespace Cert.KernelXIdeal.Body

open Idealize.ShloMosaic Idealize.ShloMosaic.TcCoe Idealize.ShloMosaic.Tactic Cert.KernelXIdeal Cert.KernelXIdeal.Gen
open Cert.KernelIdeal.Body (Re coe_sum c_neg_half c_eps)

/-! ## Sums along a row and along a column, and what is spread over a tile -/

theorem row_sum (i : Fin 512) (y : FVec Ideal S512x1024 .f32) (hr : S512x1024.Reduces [1] S512) (hf : FKind.Formats .f32)
    (ha : (0x00000000#32 : BitVec 32) = FKind.add.neutral .f32 hf) (hc : S512.ShapeCasts S512x1) :
    shapeCast S512x1 (multiReduction .add [1] S512 y 0x00000000#32 hr hf ha) hc (ix2 i 0) = ∑ k : Fin 1024, y (ix2 i k) := by
  rw [shapeCast_apply _ hc (ix2 i 0) (ix1 i) (by rw [Shape.rowMajor_val_one, Shape.rowMajor_val_two]; show i.val = i.val * 1 + 0; omega),
    Ideal.multiReduction_add_single]
  exact Finset.sum_congr rfl fun k _ => congrArg y (funext fun b => match b with | ⟨0, _⟩ | ⟨1, _⟩ => rfl)

theorem col_sum (d : Fin 1024) (y : FVec Ideal S512x1024 .f32) (hr : S512x1024.Reduces [0] S1024) (hf : FKind.Formats .f32)
    (ha : (0x00000000#32 : BitVec 32) = FKind.add.neutral .f32 hf) (hc : S1024.ShapeCasts S1x1024) :
    shapeCast S1x1024 (multiReduction .add [0] S1024 y 0x00000000#32 hr hf ha) hc (ix2 0 d) = ∑ i : Fin 512, y (ix2 i d) := by
  rw [shapeCast_apply _ hc (ix2 0 d) (ix1 d) (by rw [Shape.rowMajor_val_one, Shape.rowMajor_val_two]; show d.val = 0 * 1024 + d.val; omega),
    Ideal.multiReduction_add_single]
  exact Finset.sum_congr rfl fun k _ => congrArg y (funext fun b => match b with | ⟨0, _⟩ | ⟨1, _⟩ => rfl)

theorem spread_col (i : Fin 512) (d : Fin 1024) (z : FVec Ideal S512x1 .f32) (hb : S512x1.Broadcasts S512x1024) :
    broadcastTo S512x1024 z hb (ix2 i d) = z (ix2 i 0) := by
  pointwise; blk_ext []

theorem spread_row (i : Fin 512) (d : Fin 1024) (z : FVec Ideal S1x1024 .f32) (hb : S1x1024.Broadcasts S512x1024) :
    broadcastTo S512x1024 z hb (ix2 i d) = z (ix2 0 d) := by
  pointwise; blk_ext []

/-! ## The norm and its gradients -/

/-- The mean of a row's squares, with the small number added. -/
def meanSq (x : Fin 1024 → EReal) : EReal := Ideal.div (∑ k, x k * x k) (Ideal.ofBits .f32 0x44800000#32) + Ideal.ofBits .f32 0x358637BD#32

/-- A row's gradient at a place, as the kernel writes it. -/
def rowGrad (x e : Fin 1024 → EReal) (d : Fin 1024) : EReal :=
  Ideal.rsqrt (meanSq x) * (e d - x d * Ideal.rsqrt (meanSq x)
    * Ideal.div (∑ k, e k * (x k * Ideal.rsqrt (meanSq x))) (Ideal.ofBits .f32 0x44800000#32))

section
variable (i : Fin 512) (d : Fin 1024) (dy x : Vec Ideal S512x1024 .f32) (g a : Vec Ideal S1x1024 .f32) (r : Vec Ideal S512x1024 .f32)

theorem pay1_at : k0_pay1 x (ix2 i 0) = Ideal.rsqrt (meanSq fun k => x (ix2 i k)) :=
  congrArg (fun z => Ideal.rsqrt (Ideal.div z _ + _)) (row_sum i _ _ _ _ _)

theorem pay2_at : k0_pay2 x (ix2 i d) = x (ix2 i d) * Ideal.rsqrt (meanSq fun k => x (ix2 i k)) :=
  congrArg (x (ix2 i d) * ·) ((spread_col i d _ _).trans (pay1_at i x))

theorem pay3_at : k0_pay3 dy x a (ix2 0 d) = a (ix2 0 d) + ∑ j : Fin 512, dy (ix2 j d) * (x (ix2 j d) * Ideal.rsqrt (meanSq fun k => x (ix2 j k))) := by
  unfold k0_pay3
  refine congrArg₂ HAdd.hAdd (congrFun (shapeCast_self a _) _) ((col_sum d _ _ _ _ _).trans (Finset.sum_congr rfl fun j _ => ?_))
  exact congrArg (dy (ix2 j d) * ·) (pay2_at j d x)

theorem pay4_at : k0_pay4 dy x g r (ix2 i d) = r (ix2 i d) + rowGrad (fun k => x (ix2 i k)) (fun k => dy (ix2 i k) * g (ix2 0 k)) d := by
  have e (k : Fin 1024) : (mulf (F := Ideal) (φ := .f32) dy (broadcastTo S512x1024 g broadcasts_S1x1024_S512x1024) : FVec Ideal S512x1024 .f32) (ix2 i k) = dy (ix2 i k) * g (ix2 0 k) :=
    congrArg (dy (ix2 i k) * ·) (spread_row i k g _)
  unfold k0_pay4 rowGrad
  refine congrArg (r (ix2 i d) + ·) (congrArg₂ HMul.hMul ((spread_col i d _ _).trans (pay1_at i x)) (congrArg₂ HSub.hSub (e d)
    (congrArg₂ HMul.hMul (pay2_at i d x) ((spread_col i d _ _).trans (congrArg (Ideal.div · _) ((row_sum i _ _ _ _ _).trans
      (Finset.sum_congr rfl fun k _ => congrArg₂ HMul.hMul (e k) (pay2_at i k x))))))))

theorem pay7_at : k0_pay7 a = a := shapeCast_self a _

end

/-! ## The two ways of writing a row's gradient -/

theorem c_1024 : Ideal.ofBits .f32 0x44800000#32 = ((1024 : ℝ) : EReal) := by
  simp [Ideal.ofBits, Ideal.ieee, -EReal.coe_mul]; norm_num

/-- A real factor that is not negative goes into a difference, and into a sum. -/
theorem coe_mul_sub {r : ℝ} (hr : 0 ≤ r) (a b : EReal) : (r : EReal) * (a - b) = (r : EReal) * a + -((r : EReal) * b) := by
  rw [sub_eq_add_neg, EReal.left_distrib_of_nonneg_of_ne_top (EReal.coe_nonneg.mpr hr) (EReal.coe_ne_top r), mul_neg]

theorem coe_mul_sum {ι : Type*} {r : ℝ} (hr : 0 ≤ r) (s : Finset ι) (f : ι → EReal) : ∑ k ∈ s, (r : EReal) * f k = (r : EReal) * ∑ k ∈ s, f k := by
  classical
  induction s using Finset.induction_on with
  | empty => simp
  | insert a s ha ih =>
    rw [Finset.sum_insert ha, Finset.sum_insert ha, ih, EReal.left_distrib_of_nonneg_of_ne_top (EReal.coe_nonneg.mpr hr) (EReal.coe_ne_top r)]

/-- Half of a negative multiple, twice. -/
theorem half_twice {κ : ℝ} (hκ : 0 < κ) (y : EReal) : -(y * (κ : EReal)) = y * ((-(1 / 2) * κ : ℝ) : EReal) + y * ((-(1 / 2) * κ : ℝ) : EReal) := by
  have h : -(1 / 2) * κ < 0 := by linarith
  match y with
  | ⊤ => rw [EReal.top_mul_coe_of_pos hκ, EReal.top_mul_coe_of_neg h]; rfl
  | ⊥ => rw [EReal.bot_mul_coe_of_pos hκ, EReal.bot_mul_coe_of_neg h]; rfl
  | (a : ℝ) => rw [← EReal.coe_mul, ← EReal.coe_mul, ← EReal.coe_neg, ← EReal.coe_add]; exact congrArg _ (by ring)

theorem mul_self_nn (x : EReal) : 0 ≤ x * x := by
  rcases le_total 0 x with h | h
  · exact EReal.mul_nonneg_iff.mpr (.inl ⟨h, h⟩)
  · exact EReal.mul_nonneg_iff.mpr (.inr ⟨h, h⟩)

/-- A row that is not of real numbers has an infinite mean square. -/
theorem meanSq_top {x : Fin 1024 → EReal} (h : ¬∀ k, Re (x k)) : meanSq x = ⊤ := by
  obtain ⟨j, hj⟩ := not_forall.mp h
  have hj' : x j * x j = ⊤ := by
    generalize x j = y at hj
    match y with
    | ⊤ => rfl
    | ⊥ => rfl
    | (a : ℝ) => exact absurd (Re.coe a) hj
  have hs : ∑ k, x k * x k = ⊤ := top_le_iff.mp (hj' ▸ Finset.single_le_sum (f := fun k => x k * x k) (fun k _ => mul_self_nn (x k)) (Finset.mem_univ j))
  obtain ⟨ε, -, hb⟩ := c_eps
  rw [meanSq, hs, c_1024, hb, Ideal.div_coe (by norm_num), EReal.top_mul_coe_of_pos (by norm_num), EReal.top_add_coe]

/-- Both ways of writing the gradient through a row's norm agree: on real rows a positive real factor is moved, and any other row has
    the factor zero. -/
theorem rowGrad_eq (x e : Fin 1024 → EReal) (d : Fin 1024) {K : EReal}
    (hK : K = Ideal.div ((∑ k, x k * e k) * (Ideal.ofBits .f32 0xBF000000#32 * Ideal.div (Ideal.rsqrt (meanSq x)) (meanSq x))) (Ideal.ofBits .f32 0x44800000#32)) :
    rowGrad x e d = (e d * Ideal.rsqrt (meanSq x) + x d * K) + K * x d := by
  have h1024 : (1024 : ℝ) ≠ 0 := by norm_num
  by_cases hx : ∀ k, Re (x k)
  swap
  · have z : Ideal.div (0 : EReal) ⊤ = 0 := by simp [Ideal.div]
    rw [meanSq_top hx, Ideal.rsqrt_top, z, mul_zero, mul_zero, c_1024, Ideal.div_coe h1024, zero_mul] at hK
    rw [rowGrad, meanSq_top hx, Ideal.rsqrt_top, hK]
    simp only [zero_mul, mul_zero, add_zero]
  choose u hu using hx
  obtain ⟨ε, hε, hb⟩ := c_eps
  have hm : meanSq x = (((∑ k, u k * u k) * (1 / 1024) + ε : ℝ) : EReal) := by
    rw [meanSq, c_1024, hb, Ideal.div_coe h1024, EReal.coe_add, EReal.coe_mul, coe_sum]
    simp only [hu, EReal.coe_mul]
  have hw : 0 < (∑ k, u k * u k) * (1 / 1024) + ε :=
    add_pos_of_nonneg_of_pos (mul_nonneg (Finset.sum_nonneg fun k _ => mul_self_nonneg _) (by norm_num)) hε
  generalize (∑ k, u k * u k) * (1 / 1024) + ε = w at hm hw
  have hr : Ideal.rsqrt (meanSq x) = (((Real.sqrt w)⁻¹ : ℝ) : EReal) := by
    rw [hm, Ideal.rsqrt_coe, if_neg hw.not_gt, if_neg hw.ne']
  have hrw : (Real.sqrt w)⁻¹ * (1 / w) = (Real.sqrt w)⁻¹ * (Real.sqrt w)⁻¹ * (Real.sqrt w)⁻¹ := by
    rw [mul_assoc, ← mul_inv, Real.mul_self_sqrt hw.le, one_div]
  have hp : 0 < (Real.sqrt w)⁻¹ := inv_pos.mpr (Real.sqrt_pos.mpr hw)
  unfold rowGrad
  rw [hr]
  rw [hr, hm] at hK
  generalize (Real.sqrt w)⁻¹ = r at hK hrw hp
  have hS : ∑ k, e k * (x k * (r : EReal)) = (r : EReal) * ∑ k, x k * e k :=
    (Finset.sum_congr rfl fun k _ => by ac_rfl).trans (coe_mul_sum hp.le _ _)
  rw [c_neg_half, c_1024, Ideal.div_coe hw.ne', Ideal.div_coe h1024, ← EReal.coe_mul, ← EReal.coe_mul, mul_assoc, ← EReal.coe_mul, hrw] at hK
  rw [hS, c_1024, Ideal.div_coe h1024, coe_mul_sub hp.le]
  generalize ∑ k, x k * e k = S at hK
  have hκ : 0 < r * r * r * (1 / 1024) := by positivity
  have e1 : (r : EReal) * (x d * (r : EReal) * ((r : EReal) * S * ((1 / 1024 : ℝ) : EReal))) = (x d * S) * ((r * r * r * (1 / 1024) : ℝ) : EReal) := by
    simp only [EReal.coe_mul]
    ac_rfl
  have e2 : x d * K = (x d * S) * ((-(1 / 2) * (r * r * r * (1 / 1024)) : ℝ) : EReal) := by
    rw [hK, mul_assoc]
    exact (mul_assoc _ _ _).symm
  rw [e1, half_twice hκ, ← e2, mul_comm K, mul_comm (e d), add_assoc]

/-! ## The groups' products -/

/-- Column `q` of group `j`. -/
def colOf (j : Fin 8) (q : Fin 1024) : Fin 8192 := ⟨j.val * 1024 + q.val, by have := j.isLt; have := q.isLt; omega⟩

theorem product_at (d : Vec Ideal S512x1024 .bf16) (w : Vec Ideal S1x1024x1024 .bf16) (i : Fin 512) (k : Fin 1024) :
    product d w (ix2 i k) = ∑ q : Fin 1024, (d (ix2 i q) : EReal) * w (ix3 0 k q) := by
  unfold product
  refine (Ideal.matmul_transposedRhs_apply none _ _ _ i k).trans ((congrArg (· + _) (Ideal.ofBits_zero_f32 :
    constant (F := Ideal) S512x1024 .f32 0x00000000#32 (ix2 i k) = (0 : EReal))).trans ((zero_add _).trans (Finset.sum_congr rfl fun q _ => ?_)))
  refine congrArg₂ HMul.hMul (congrFun (shapeCast_self d _) _) ?_
  exact shapeCast_apply w _ (ix2 k q) (ix3 0 k q) (by
    rw [Shape.rowMajor_val_three, Shape.rowMajor_val_two]
    show (0 * 1024 + k.val) * 1024 + q.val = k.val * 1024 + q.val
    omega)

/-- A tile's entry is a sum over all the columns, where the groups and the parts are those of whole arrays. -/
theorem dhT_at (d : Fin 8 → Vec Ideal S512x1024 .bf16) (w : Fin 8 → Vec Ideal S1x1024x1024 .bf16) (i : Fin 512) (k : Fin 1024) (u v : Fin 8192 → EReal)
    (hd : ∀ j q, d j (ix2 i q) = u (colOf j q)) (hw : ∀ j q, w j (ix3 0 k q) = v (colOf j q)) :
    dhT d w (ix2 i k) = ∑ n : Fin 8192, u n * v n := by
  have e (j : Fin 8) : product (d j) (w j) (ix2 i k) = ∑ q : Fin 1024, u (colOf j q) * v (colOf j q) :=
    (product_at _ _ i k).trans (Finset.sum_congr rfl fun q _ => congrArg₂ HMul.hMul (hd j q) (hw j q))
  rw [Fin.sum_univ_tiles 8 1024 rfl, Fin.sum_univ_eight]
  have z : (broadcast S512x1024 (FloatOps.ofBits .f32 0x00000000#32) : FVec Ideal S512x1024 .f32) (ix2 i k) = (0 : EReal) := Ideal.ofBits_zero_f32
  unfold dhT
  simp only [addf]
  refine congrArg₂ HAdd.hAdd (congrArg₂ HAdd.hAdd (congrArg₂ HAdd.hAdd (congrArg₂ HAdd.hAdd (congrArg₂ HAdd.hAdd (congrArg₂ HAdd.hAdd
    (congrArg₂ HAdd.hAdd ?_ (e 1)) (e 2)) (e 3)) (e 4)) (e 5)) (e 6)) (e 7)
  exact (congrArg₂ HAdd.hAdd z (e 0)).trans (zero_add _)

end Cert.KernelXIdeal.Body

end
-- ==== Proof.XGrad.lean ====
/- The gradient of the input projection's input: eight grid points of 512 tokens each, and the norm's gain's gradient summed over them. -/
module

public import proofs.«01_k».proof.Proof.XRow
public import proofs.«01_k».proof.Proof.Gen.ReferenceXIdeal.Read

@[expose] public section

set_option maxRecDepth 65536

noncomputable section

namespace Cert.KernelXIdeal.Body

open Idealize.ShloMosaic Idealize.ShloMosaic.TcCoe Idealize.ShloMosaic.Tactic Cert.KernelXIdeal Cert.KernelXIdeal.Gen

variable (m : (ℓ : Loc nD τ sig) → Buf (Elt Ideal) ℓ) (c : Dev nD) (t : Fin cfg0.N)

/-! ## The arrays read -/

/-- The arguments: the input, the norm's gain, the weights, the gradient of the projections and the gradient that is added. -/
abbrev X0 : Vec Ideal S4096x1024 .f32 := m ((c : Thread nD τ).loc main_arg0)
abbrev X1 : Vec Ideal S1x1024 .f32 := m ((c : Thread nD τ).loc main_arg1)
abbrev X2 : Vec Ideal S1024x8192 .f32 := m ((c : Thread nD τ).loc main_arg2)
abbrev X3 : Vec Ideal S4096x8192 .f32 := m ((c : Thread nD τ).loc main_arg3)
abbrev X4 : Vec Ideal S4096x1024 .f32 := m ((c : Thread nD τ).loc main_arg4)

/-- Token `i` of point `t`. -/
def tok (t : Fin cfg0.N) (i : Fin 512) : Fin 4096 := ⟨t.val * 512 + i.val, by have ht : t.val < 8 := t.isLt; have := i.isLt; omega⟩

theorem host_a : (V m c main_v6 : Vec Ideal S4096x1024 .bf16) = truncf (F := Ideal) (s := S4096x1024) .bf16
    (extractStridedSlice S4096x1024 ![0, 0] (X3 m c) slices_S4096x8192_S4096x1024_0_0) bitsLt_bf16_f32 := by sl_kernel_rfl
theorem host_b : (V m c main_v7 : Vec Ideal S4096x1024 .bf16) = truncf (F := Ideal) (s := S4096x1024) .bf16
    (extractStridedSlice S4096x1024 ![0, 1024] (X3 m c) slices_S4096x8192_S4096x1024_0_1024) bitsLt_bf16_f32 := by sl_kernel_rfl
theorem host_q : (V m c main_v8 : Vec Ideal S4096x4096 .bf16) = truncf (F := Ideal) (s := S4096x4096) .bf16
    (extractStridedSlice S4096x4096 ![0, 2048] (X3 m c) slices_S4096x8192_S4096x4096_0_2048) bitsLt_bf16_f32 := by sl_kernel_rfl
theorem host_m : (V m c main_v9 : Vec Ideal S4096x2048 .bf16) = truncf (F := Ideal) (s := S4096x2048) .bf16
    (extractStridedSlice S4096x2048 ![0, 6144] (X3 m c) slices_S4096x8192_S4096x2048_0_6144) bitsLt_bf16_f32 := by sl_kernel_rfl
theorem host_w : (V m c main_v10 : Vec Ideal S4x1024x2048 .bf16) = truncf (F := Ideal) (s := S4x1024x2048) .bf16
    (transpose S4x1024x2048 [1, 0, 2] (shapeCast S1024x4x2048 (X2 m c) shapeCasts_S1024x8192_S1024x4x2048) transposes_S1024x4x2048_S4x1024x2048_1_0_2)
    bitsLt_bf16_f32 := by sl_kernel_rfl
theorem host_z : (V m c main_v11 : Vec Ideal S1x1024 .f32) = broadcastInDim S1x1024 ![] bcast_S_S1x1024 (constant (F := Ideal) S_ .f32 0x00000000#32) := by sl_kernel_rfl
theorem host_x : (V m c main_arg0 : Vec Ideal S4096x1024 .f32) = X0 m c := by sl_kernel_rfl
theorem host_g : (V m c main_arg1 : Vec Ideal S1x1024 .f32) = X1 m c := by sl_kernel_rfl
theorem host_r : (V m c main_arg4 : Vec Ideal S4096x1024 .f32) = X4 m c := by sl_kernel_rfl

/-- Some columns of the projections' gradient. -/
theorem cols_at {n : ℕ} (o : ℕ) (x : Vec Ideal S4096x8192 .f32) (h : S4096x8192.Slices ![0, o] ⟨2, ![4096, n]⟩) (hb : FTy.bits .bf16 < FTy.bits .f32) (k : Fin 4096)
    (q : Fin n) (p : Fin 8192) (hp : p.val = o + q.val) :
    truncf (F := Ideal) (s := ⟨2, ![4096, n]⟩) .bf16 (extractStridedSlice ⟨2, ![4096, n]⟩ ![0, o] x h) hb (ix2 k q) = x (ix2 k p) :=
  extractStridedSlice_apply _ x h (ix2 k q) (ix2 k p) fun a => match a with
    | ⟨0, _⟩ => (Nat.zero_add _).symm
    | ⟨1, _⟩ => hp

/-- The weights' parts. -/
theorem part_at (j : Fin 8) (k q : Fin 1024) : View.ld (V m c main_v10 : Vec Ideal S4x1024x2048 .bf16) (rPart j) (ix3 0 k q) = X2 m c (ix2 k (colOf j q)) := by
  have hj := j.isLt
  have hq := q.isLt
  have e : (rPart j).idx (ix3 0 k q) = (ix3 ⟨j.val / 2, by omega⟩ k ⟨j.val % 2 * 1024 + q.val, by omega⟩ : S4x1024x2048.Idx) := by
    funext a; apply Fin.ext
    match a with
    | ⟨0, _⟩ => show j.val / 2 + 1 * 0 = j.val / 2; omega
    | ⟨1, _⟩ => show 0 + 1 * k.val = k.val; omega
    | ⟨2, _⟩ => show j.val % 2 * 1024 + 1 * q.val = j.val % 2 * 1024 + q.val; omega
  refine (congrArg (V m c main_v10 : Vec Ideal S4x1024x2048 .bf16) e).trans ((congrFun (host_w m c) _).trans ?_)
  refine (transpose_apply [1, 0, 2] (shapeCast S1024x4x2048 (X2 m c) shapeCasts_S1024x8192_S1024x4x2048) transposes_S1024x4x2048_S4x1024x2048_1_0_2 (ix3 ⟨j.val / 2, by omega⟩ k ⟨j.val % 2 * 1024 + q.val, by omega⟩)
    (ix3 k ⟨j.val / 2, by omega⟩ ⟨j.val % 2 * 1024 + q.val, by omega⟩) fun b => match b with | ⟨0, _⟩ | ⟨1, _⟩ | ⟨2, _⟩ => rfl).trans ?_
  exact shapeCast_apply _ _ _ (ix2 k (colOf j q)) (by
    rw [Shape.rowMajor_val_two, Shape.rowMajor_val_three]
    show k.val * 8192 + (j.val * 1024 + q.val) = (k.val * 4 + j.val / 2) * 2048 + (j.val % 2 * 1024 + q.val)
    omega)

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![t.val, 0] := (by decide +kernel : ∀ t : Fin grid0.N, win0_2.index t = ![t.val, 0])
theorem index_3 : ∀ t : Fin cfg0.N, win0_3.index t = ![t.val, 0] := (by decide +kernel : ∀ t : Fin grid0.N, win0_3.index t = ![t.val, 0])
theorem index_4 : ∀ t : Fin cfg0.N, win0_4.index t = ![t.val, 0] := (by decide +kernel : ∀ t : Fin grid0.N, win0_4.index t = ![t.val, 0])
theorem index_5 : ∀ t : Fin cfg0.N, win0_5.index t = ![t.val, 0] := (by decide +kernel : ∀ t : Fin grid0.N, win0_5.index t = ![t.val, 0])
theorem index_6 : ∀ t : Fin cfg0.N, win0_6.index t = ![0, 0] := (by decide +kernel : ∀ t : Fin grid0.N, win0_6.index t = ![0, 0])
theorem index_7 : ∀ t : Fin cfg0.N, win0_7.index t = ![0, 0] := (by decide +kernel : ∀ t : Fin grid0.N, win0_7.index t = ![0, 0])
theorem index_8 : ∀ t : Fin cfg0.N, win0_8.index t = ![t.val, 0] := (by decide +kernel : ∀ t : Fin grid0.N, win0_8.index t = ![t.val, 0])

/-- A block of 512 tokens begins at the point's first token. -/
theorem at_tok {n : ℕ} {I : Fin 2 → ℕ} (hI : I = ![t.val, 0]) (i : Fin 512) (q : Fin n) (y : (⟨2, ![4096, n]⟩ : Shape).Idx)
    (h0 : (y 0).val = I 0 * 512 + 1 * i.val) (h1 : (y 1).val = I 1 * n + 1 * q.val) : y = ix2 (tok t i) q := by
  subst hI
  funext a; apply Fin.ext
  match a with
  | ⟨0, _⟩ => refine h0.trans ?_; show t.val * 512 + 1 * i.val = t.val * 512 + i.val; omega
  | ⟨1, _⟩ => refine h1.trans ?_; show 0 * n + 1 * q.val = q.val; omega

theorem read_x (i : Fin 512) (q : Fin 1024) : (iblk m c 4 t : Vec Ideal S512x1024 .f32) (ix2 i q) = X0 m c (ix2 (tok t i) q) :=
  (congrFun (host_x m c) _).trans (congrArg (X0 m c) (at_tok t (index_4 t) i q _ rfl rfl))
theorem read_r (i : Fin 512) (q : Fin 1024) : (iblk m c 5 t : Vec Ideal S512x1024 .f32) (ix2 i q) = X4 m c (ix2 (tok t i) q) :=
  (congrFun (host_r m c) _).trans (congrArg (X4 m c) (at_tok t (index_5 t) i q _ rfl rfl))

theorem at_row {I : Fin 2 → ℕ} (hI : I = ![0, 0]) (d : Fin 1024) (y : S1x1024.Idx)
    (h1 : (y 1).val = I 1 * 1024 + 1 * d.val) : y = ix2 0 d := by
  subst hI
  funext a; apply Fin.ext
  match a with
  | ⟨0, _⟩ => have h : (y 0).val < 1 := (y 0).isLt; show (y 0).val = 0; omega
  | ⟨1, _⟩ => refine h1.trans ?_; show 0 * 1024 + 1 * d.val = d.val; omega

theorem read_g (d : Fin 1024) : (iblk m c 6 t : Vec Ideal S1x1024 .f32) (ix2 0 d) = X1 m c (ix2 0 d) :=
  (congrFun (host_g m c) _).trans (congrArg (X1 m c) (at_row (index_6 t) d _ rfl))
theorem read_z (d : Fin 1024) : (iblk m c 7 t : Vec Ideal S1x1024 .f32) (ix2 0 d) = (0 : EReal) :=
  (congrFun (host_z m c) _).trans Ideal.ofBits_zero_f32

theorem read_a (i : Fin 512) (q : Fin 1024) : (iblk m c 0 t : Vec Ideal S512x1024 .bf16) (ix2 i q) = X3 m c (ix2 (tok t i) (colOf 0 q)) :=
  (congrArg (V m c main_v6 : Vec Ideal S4096x1024 .bf16) (at_tok t (index_0 t) i q _ rfl rfl)).trans ((congrFun (host_a m c) _).trans
    (cols_at 0 _ _ _ _ _ _ (by show 0 * 1024 + q.val = 0 + q.val; omega)))
theorem read_b (i : Fin 512) (q : Fin 1024) : (iblk m c 1 t : Vec Ideal S512x1024 .bf16) (ix2 i q) = X3 m c (ix2 (tok t i) (colOf 1 q)) :=
  (congrArg (V m c main_v7 : Vec Ideal S4096x1024 .bf16) (at_tok t (index_1 t) i q _ rfl rfl)).trans ((congrFun (host_b m c) _).trans
    (cols_at 1024 _ _ _ _ _ _ (by show 1 * 1024 + q.val = 1024 + q.val; omega)))
theorem read_q (n : Fin 4) (j : Fin 8) (hj : j.val = n.val + 2) (i : Fin 512) (q : Fin 1024) :
    View.ld (iblk m c 2 t : Vec Ideal S512x4096 .bf16) (rQ n) (ix2 i q) = X3 m c (ix2 (tok t i) (colOf j q)) := by
  have hn := n.isLt
  have hq := q.isLt
  have e : (rQ n).idx (ix2 i q) = (ix2 i ⟨n.val * 1024 + q.val, by omega⟩ : S512x4096.Idx) := by
    funext a; apply Fin.ext
    match a with
    | ⟨0, _⟩ => show 0 + 1 * i.val = i.val; omega
    | ⟨1, _⟩ => show n.val * 1024 + 1 * q.val = n.val * 1024 + q.val; omega
  exact (congrArg (iblk m c 2 t : Vec Ideal S512x4096 .bf16) e).trans ((congrArg (V m c main_v8 : Vec Ideal S4096x4096 .bf16)
    (at_tok t (index_2 t) i _ _ rfl rfl)).trans ((congrFun (host_q m c) _).trans
    (cols_at 2048 _ _ _ _ _ _ (by show j.val * 1024 + q.val = 2048 + (n.val * 1024 + q.val); omega))))
theorem read_m (n : Fin 2) (j : Fin 8) (hj : j.val = n.val + 6) (i : Fin 512) (q : Fin 1024) :
    View.ld (iblk m c 3 t : Vec Ideal S512x2048 .bf16) (rM n) (ix2 i q) = X3 m c (ix2 (tok t i) (colOf j q)) := by
  have hn := n.isLt
  have hq := q.isLt
  have e : (rM n).idx (ix2 i q) = (ix2 i ⟨n.val * 1024 + q.val, by omega⟩ : S512x2048.Idx) := by
    funext a; apply Fin.ext
    match a with
    | ⟨0, _⟩ => show 0 + 1 * i.val = i.val; omega
    | ⟨1, _⟩ => show n.val * 1024 + 1 * q.val = n.val * 1024 + q.val; omega
  exact (congrArg (iblk m c 3 t : Vec Ideal S512x2048 .bf16) e).trans ((congrArg (V m c main_v9 : Vec Ideal S4096x2048 .bf16)
    (at_tok t (index_3 t) i _ _ rfl rfl)).trans ((congrFun (host_m m c) _).trans
    (cols_at 6144 _ _ _ _ _ _ (by show j.val * 1024 + q.val = 6144 + (n.val * 1024 + q.val); omega))))

/-- The groups of a point are the columns of the projections' gradient. -/
theorem groups_at (j : Fin 8) (i : Fin 512) (q : Fin 1024) :
    groups (F := Ideal) (iblk m c 0 t) (iblk m c 1 t) (iblk m c 2 t) (iblk m c 3 t) j (ix2 i q) = X3 m c (ix2 (tok t i) (colOf j q)) :=
  match j with
  | 0 => read_a m c t i q
  | 1 => read_b m c t i q
  | 2 => read_q m c t 0 2 rfl i q
  | 3 => read_q m c t 1 3 rfl i q
  | 4 => read_q m c t 2 4 rfl i q
  | 5 => read_q m c t 3 5 rfl i q
  | 6 => read_m m c t 0 6 rfl i q
  | 7 => read_m m c t 1 7 rfl i q

/-! ## The reference, read at an index -/

section
open Cert.ReferenceXIdeal.Read
variable (x0 : Vec Ideal S4096x1024 .f32) (x1 : Vec Ideal S1x1024 .f32) (x2 : Vec Ideal S1024x8192 .f32) (x3 : Vec Ideal S4096x8192 .f32) (x4 : Vec Ideal S4096x1024 .f32)
  (s : Fin 4096) (d : Fin 1024)

theorem r16 : val_main_v16 x2 x3 (ix2 s d) = ∑ n : Fin 8192, x3 (ix2 s n) * x2 (ix2 d n) := by
  rw [val_main_v16_apply]
  exact Finset.sum_congr rfl fun k _ => congrArg₂ HMul.hMul (congrArg x3 (by blk_ext [])) (congrArg x2 (by blk_ext []))

theorem r6 : val_main_v6 x0 (ix2 s 0) = meanSq fun k => x0 (ix2 s k) := by
  rw [val_main_v6_apply, val_main_v4_apply, val_main_v2_apply, val_main_v1_apply, val_main_v3_apply, val_main_v5_apply,
    val_main_cst_apply, val_main_cst_0_apply, val_main_cst_1_apply]
  refine congrArg (fun z => Ideal.div z (Ideal.ofBits .f32 0x44800000#32) + Ideal.ofBits .f32 0x358637BD#32)
    ((congrArg (· + _) Ideal.ofBits_zero_f32).trans ((zero_add _).trans (Finset.sum_congr rfl fun k _ => ?_)))
  rw [val_main_v0_apply]
  exact congrArg₂ HMul.hMul (congrArg x0 (by blk_ext [])) (congrArg x0 (by blk_ext []))

theorem r7 : val_main_v7 x0 (ix2 s 0) = Ideal.rsqrt (meanSq fun k => x0 (ix2 s k)) := congrArg Ideal.rsqrt (r6 x0 s)

theorem r12 : val_main_v12 x0 (ix2 s d) = x0 (ix2 s d) * Ideal.rsqrt (meanSq fun k => x0 (ix2 s k)) := by
  rw [val_main_v12_apply, val_main_v11_apply]
  exact congrArg (x0 (ix2 s d) * ·) ((congrArg (val_main_v7 x0) (by blk_ext [])).trans (r7 x0 s))

theorem r19 : val_main_v19 x0 x2 x3 (ix2 0 d) = ∑ s : Fin 4096, val_main_v12 x0 (ix2 s d) * val_main_v16 x2 x3 (ix2 s d) := by
  rw [val_main_v19_apply, val_main_v18_apply, val_main_cst_3_apply]
  refine (congrArg (· + _) Ideal.ofBits_zero_f32).trans ((zero_add _).trans (Finset.sum_congr rfl fun k _ => ?_))
  refine (congrArg (val_main_v17 x0 x2 x3) (?_ : _ = ix2 k d)).trans rfl
  blk_ext []

theorem r21 : val_main_v21 x1 x2 x3 (ix2 s d) = val_main_v16 x2 x3 (ix2 s d) * x1 (ix2 0 d) := by
  rw [val_main_v21_apply, val_main_v20_apply]
  exact congrArg (val_main_v16 x2 x3 (ix2 s d) * ·) (congrArg x1 (by blk_ext []))

/-- What every place of a row is multiplied by, for the gradient through the row's norm. -/
theorem r31 : val_main_v31 x0 x1 x2 x3 (ix2 s d) = Ideal.div ((∑ k, x0 (ix2 s k) * val_main_v21 x1 x2 x3 (ix2 s k))
    * (Ideal.ofBits .f32 0xBF000000#32 * Ideal.div (Ideal.rsqrt (meanSq fun k => x0 (ix2 s k))) (meanSq fun k => x0 (ix2 s k)))) (Ideal.ofBits .f32 0x44800000#32) := by
  have e : val_main_v29 x0 x1 x2 x3 (ix2 s 0) = Ideal.div ((∑ k, x0 (ix2 s k) * val_main_v21 x1 x2 x3 (ix2 s k))
    * (Ideal.ofBits .f32 0xBF000000#32 * Ideal.div (Ideal.rsqrt (meanSq fun k => x0 (ix2 s k))) (meanSq fun k => x0 (ix2 s k)))) (Ideal.ofBits .f32 0x44800000#32) := by
    rw [val_main_v29_apply, val_main_v27_apply, val_main_v24_apply, val_main_v23_apply, val_main_v28_apply, val_main_v10_apply, val_main_v8_apply, val_main_v9_apply,
      val_main_cst_2_apply, val_main_cst_4_apply, val_main_cst_5_apply, r7, r6]
    refine congrArg (fun z => Ideal.div (z * _) _) ((congrArg (· + _) Ideal.ofBits_zero_f32).trans ((zero_add _).trans (Finset.sum_congr rfl fun k _ => ?_)))
    refine (congrArg (val_main_v22 x0 x1 x2 x3) (?_ : _ = ix2 s k)).trans rfl
    blk_ext []
  rw [val_main_v31_apply, val_main_v30_apply, val_main_cst_6_apply]
  refine (congrArg (· + _) Ideal.ofBits_zero_f32).trans ((zero_add _).trans ((Fin.sum_univ_one _).trans ((congrArg (val_main_v29 x0 x1 x2 x3) (?_ : _ = ix2 s 0)).trans e)))
  blk_ext []

theorem r36 : val_main_v36 x0 x1 x2 x3 x4 (ix2 s d) = x4 (ix2 s d) + ((val_main_v21 x1 x2 x3 (ix2 s d) * Ideal.rsqrt (meanSq fun k => x0 (ix2 s k))
    + x0 (ix2 s d) * val_main_v31 x0 x1 x2 x3 (ix2 s d)) + val_main_v31 x0 x1 x2 x3 (ix2 s d) * x0 (ix2 s d)) := by
  rw [val_main_v36_apply, val_main_v35_apply, val_main_v33_apply, val_main_v26_apply, val_main_v25_apply, val_main_v32_apply, val_main_v34_apply]
  refine congrArg (fun z => x4 (ix2 s d) + ((val_main_v21 x1 x2 x3 (ix2 s d) * z + _) + _)) ?_
  exact (congrArg (val_main_v7 x0) (by blk_ext [])).trans (r7 x0 s)

theorem ref_x {x0 y0 : Vec Ideal S4096x1024 .f32} {x1 y1 : Vec Ideal S1x1024 .f32} {x2 y2 : Vec Ideal S1024x8192 .f32} {x3 y3 : Vec Ideal S4096x8192 .f32}
    {x4 y4 : Vec Ideal S4096x1024 .f32} (e0 : x0 = y0) (e1 : x1 = y1) (e2 : x2 = y2) (e3 : x3 = y3) (e4 : x4 = y4) :
    val_main_v36 x0 x1 x2 x3 x4 = val_main_v36 y0 y1 y2 y3 y4 := by
  subst e0 e1 e2 e3 e4; rfl

theorem ref_g {x0 y0 : Vec Ideal S4096x1024 .f32} {x2 y2 : Vec Ideal S1024x8192 .f32} {x3 y3 : Vec Ideal S4096x8192 .f32} (e0 : x0 = y0) (e2 : x2 = y2) (e3 : x3 = y3) :
    val_main_v19 x0 x2 x3 = val_main_v19 y0 y2 y3 := by
  subst e0 e2 e3; rfl

/-! ## What the points leave -/

/-- A point's sum is the gradient to the normalised tokens. -/
theorem dh_at (i : Fin 512) (k : Fin 1024) :
    dh (F := Ideal) (iblk m c 0 t) (iblk m c 1 t) (iblk m c 2 t) (iblk m c 3 t) (V m c main_v10) (ix2 i k) = val_main_v16 (X2 m c) (X3 m c) (ix2 (tok t i) k) :=
  (dhT_at _ _ i k (fun n => X3 m c (ix2 (tok t i) n)) (fun n => X2 m c (ix2 k n)) (fun j q => groups_at m c t j i q) fun j q => part_at m c j k q).trans
    (r16 (X2 m c) (X3 m c) (tok t i) k).symm

/-- The tokens' part of the gain's gradient. -/
def share (t : Fin cfg0.N) (d : Fin 1024) : EReal :=
  ∑ i : Fin 512, val_main_v12 (X0 m c) (ix2 (tok t i) d) * val_main_v16 (X2 m c) (X3 m c) (ix2 (tok t i) d)

theorem gain_step (a : Vec Ideal S1x1024 .f32) (d : Fin 1024) : (left m c t (V m c main_v10) a).2.1 (ix2 0 d) = a (ix2 0 d) + share m c t d := by
  refine (pay3_at d _ _ a).trans (congrArg (a (ix2 0 d) + ·) (Finset.sum_congr rfl fun i _ => ?_))
  rw [dh_at, r12]
  simp only [read_x]
  exact mul_comm _ _

/-- The weights stay, and the gain's gradient holds the points met. -/
theorem kept : ∀ (n : ℕ) (hn : n < cfg0.N), (outsAt0 m c n hn).2.2 = V m c main_v10
    ∧ ∀ d, (outsAt0 m c n hn).2.1 (ix2 0 d) = ∑ k ∈ Finset.range (n + 1), if hk : k < cfg0.N then share m c ⟨k, hk⟩ d else 0
  | 0, hn => by
    have e := outs_first m c ⟨0, hn⟩ rfl
    refine ⟨congrArg (·.2.2) e, fun d => (congrFun (congrArg (·.2.1) e) _).trans ((gain_step m c _ _ d).trans ?_)⟩
    rw [pay7_at, Finset.sum_range_one, dif_pos hn]
    exact (congrArg (fun z : EReal => z + share m c ⟨0, hn⟩ d) (read_z m c _ d)).trans (zero_add _)
  | n + 1, hn => by
    obtain ⟨hw, ha⟩ := kept n (Nat.lt_of_succ_lt hn)
    have e := outs_later m c ⟨n + 1, hn⟩ _ hw _ rfl (Nat.succ_le_succ (Nat.zero_le n))
    refine ⟨congrArg (·.2.2) e, fun d => (congrFun (congrArg (·.2.1) e) _).trans ((gain_step m c _ _ d).trans ?_)⟩
    rw [Finset.sum_range_succ _ (n + 1), dif_pos hn]
    exact congrArg (· + _) (ha d)

theorem out_eq : ∃ a, outsAt0 m c t.val t.isLt = left m c t (V m c main_v10) a := by
  by_cases h0 : t.val = 0
  · exact ⟨_, outs_first m c t h0⟩
  · exact ⟨_, outs_later m c t _ (kept m c _ _).1 _ rfl (by omega)⟩

/-! ## The results -/

/-- THE GAIN'S GRADIENT. -/
theorem gain_eq : (dats m 0 c).arrAt 9 cfg0.N = val_main_v19 (X0 m c) (X2 m c) (X3 m c) := by
  refine (dats m 0 c).arrAt_eq_of_after_last 9 ⟨7, by decide⟩ (by decide +kernel) _ fun j => ?_
  refine (congrFun (after0_9 m c _) _).trans ?_
  obtain ⟨d, rfl⟩ : ∃ d : Fin 1024, (j : S1x1024.Idx) = ix2 0 d := ⟨j 1, at_row rfl (j 1) j (by show (j 1).val = 0 * 1024 + 1 * (j 1).val; omega)⟩
  refine (congrArg (outsAt0 m c 7 _).2.1 (?_ : _ = ix2 0 d)).trans (((kept m c 7 (by decide)).2 d).trans ?_)
  · funext a; apply Fin.ext
    match a with
    | ⟨0, _⟩ => rfl
    | ⟨1, _⟩ => rfl
  refine Eq.trans ?_ (r19 (X0 m c) (X2 m c) (X3 m c) d).symm
  rw [Fin.sum_univ_tiles 8 512 rfl]
  refine (Fin.sum_univ_eq_sum_range (fun k => if hk : k < cfg0.N then share m c ⟨k, hk⟩ d else 0) 8).symm.trans ?_
  exact Finset.sum_congr rfl fun k _ => dif_pos k.isLt

/-- THE INPUT'S GRADIENT. -/
theorem grad_eq : (dats m 0 c).arrAt 8 cfg0.N = val_main_v36 (X0 m c) (X1 m c) (X2 m c) (X3 m c) (X4 m c) := by
  refine (dats m 0 c).arrAt_eq_of_covers 8 _ (by decide +kernel) fun t _ y => ?_
  blk_simp
  rw [after0_8]
  obtain ⟨i, d, rfl⟩ : ∃ (i : Fin 512) (d : Fin 1024), (y : S512x1024.Idx) = ix2 i d := ⟨y 0, y 1, by blk_ext []⟩
  obtain ⟨a, ea⟩ := out_eq m c t
  rw [ea]
  refine (pay4_at i d _ _ _ _).trans ?_
  have e := r36 (X0 m c) (X1 m c) (X2 m c) (X3 m c) (X4 m c) (tok t i) d
  refine Eq.trans (Eq.trans ?_ e.symm) (congrArg _ ?_)
  · refine congrArg₂ HAdd.hAdd (read_r m c t i d) ((congrArg₂ (fun x e => rowGrad x e d) (funext fun k => read_x m c t i k)
      (funext fun k => (congrArg₂ HMul.hMul (dh_at m c t i k) (read_g m c t k)).trans (r21 (X1 m c) (X2 m c) (X3 m c) (tok t i) k).symm)).trans
      (rowGrad_eq _ _ d (r31 (X0 m c) (X1 m c) (X2 m c) (X3 m c) (tok t i) d)))
  · funext a
    apply Fin.ext
    match a with
    | ⟨0, _⟩ => blk_simp [index_8 t]; rfl
    | ⟨1, _⟩ => blk_simp [index_8 t]

end

end Cert.KernelXIdeal.Body

end
-- ==== Proof.Project.lean ====
/- One tile of the input projection: 2048 tokens by 1024 columns, and the array that it is put in. -/
module

public import proofs.«01_k».proof.Proof.WGrad

@[expose] public section

set_option maxRecDepth 65536

noncomputable section

namespace Cert.Project

open Idealize.ShloMosaic Idealize.ShloMosaic.TcCoe Idealize.ShloMosaic.Tactic

abbrev SH : Shape := ⟨2, ![4096, 1024]⟩
abbrev SR : Shape := ⟨2, ![2048, 1024]⟩
abbrev SQ : Shape := ⟨2, ![1024, 1024]⟩
abbrev SP : Shape := ⟨3, ![1, 1024, 1024]⟩
abbrev SW : Shape := ⟨3, ![4, 1024, 2048]⟩
abbrev SC : Shape := ⟨2, ![1024, 8192]⟩
abbrev SO : Shape := ⟨2, ![4096, 8192]⟩

/-- Token `i` of half `p`. -/
def tok (p : Fin 2) (i : Fin 2048) : Fin 4096 := ⟨p.val * 2048 + i.val, by have := p.isLt; have := i.isLt; omega⟩
/-- Column `q` of group `j`. -/
def col (j : Fin 8) (q : Fin 1024) : Fin 8192 := ⟨j.val * 1024 + q.val, by have := j.isLt; have := q.isLt; omega⟩

/-- A tile's entry, from the tokens and the weights' block. -/
theorem tile_at (D : DotDims SR SQ SR) (hD : D = DotDims.plain 2048 1024 1024) (h : Vec Ideal SH .bf16) (w : Vec Ideal SP .bf16)
    {off : Fin 2 → ℕ} (inb : ∀ a, off a + SR.size a ≤ SH.size a) (hc : Shape.ShapeCasts SP SQ) (p : Fin 2) (ho : off = ![p.val * 2048, 0])
    (a : FVec Ideal SR .bf16) (ha : a = View.ld h (Rect.unit (s := SH) off SR.size inb)) (b : FVec Ideal SQ .bf16) (hb : b = shapeCast SQ w hc) (i : Fin 2048) (q : Fin 1024) :
    matmul D none a b (constant SR .f32 0x00000000#32) (ix2 i q) = ∑ k : Fin 1024, (h (ix2 (tok p i) k) : EReal) * w (ix3 0 k q) := by
  subst ho ha hb
  refine (Cert.WGrad.mm D hD _ _ i q).trans (Finset.sum_congr rfl fun k _ => congrArg₂ HMul.hMul (congrArg h ?_) ?_)
  · funext a; apply Fin.ext
    match a with
    | ⟨0, _⟩ => show p.val * 2048 + 1 * i.val = p.val * 2048 + i.val; omega
    | ⟨1, _⟩ => show 0 + 1 * k.val = k.val; omega
  · exact shapeCast_apply _ hc (ix2 k q) (ix3 0 k q) (by
      rw [Shape.rowMajor_val_two, Shape.rowMajor_val_three]
      show (0 * 1024 + k.val) * 1024 + q.val = k.val * 1024 + q.val
      omega)

/-- The weights, cut by chips: group `j` is half `j % 2` of chip `j / 2`, the block `b`. -/
theorem weights_at (x : Vec Ideal SC .f32) (hs : Shape.ShapeCasts SC ⟨3, ![1024, 4, 2048]⟩) (ht : Shape.Transposes ⟨3, ![1024, 4, 2048]⟩ [1, 0, 2] SW)
    (hb : FTy.bits .bf16 < FTy.bits .f32) (j : Fin 8) (k q : Fin 1024) {b : Fin 3 → ℕ} (e : b = ![j.val / 2, 0, j.val % 2]) (y : SW.Idx)
    (h0 : (y 0).val = b 0 * 1 + 1 * 0) (h1 : (y 1).val = b 1 * 1024 + 1 * k.val) (h2 : (y 2).val = b 2 * 1024 + 1 * q.val) :
    truncf (F := Ideal) (s := SW) .bf16 (transpose SW [1, 0, 2] (shapeCast ⟨3, ![1024, 4, 2048]⟩ x hs) ht) hb y = x (ix2 k (col j q)) := by
  subst e
  have hj := j.isLt
  have hq := q.isLt
  have ey : y = (ix3 ⟨j.val / 2, by omega⟩ k ⟨j.val % 2 * 1024 + q.val, by omega⟩ : SW.Idx) := by
    funext a; apply Fin.ext
    match a with
    | ⟨0, _⟩ => exact h0.trans (by show j.val / 2 * 1 + 1 * 0 = j.val / 2; omega)
    | ⟨1, _⟩ => exact h1.trans (by show 0 * 1024 + 1 * k.val = k.val; omega)
    | ⟨2, _⟩ => exact h2.trans (by show j.val % 2 * 1024 + 1 * q.val = j.val % 2 * 1024 + q.val; omega)
  rw [ey]
  refine (transpose_apply [1, 0, 2] (shapeCast ⟨3, ![1024, 4, 2048]⟩ x hs) ht (ix3 ⟨j.val / 2, by omega⟩ k ⟨j.val % 2 * 1024 + q.val, by omega⟩)
    (ix3 k ⟨j.val / 2, by omega⟩ ⟨j.val % 2 * 1024 + q.val, by omega⟩) fun b => match b with | ⟨0, _⟩ | ⟨1, _⟩ | ⟨2, _⟩ => rfl).trans ?_
  exact shapeCast_apply _ _ _ (ix2 k (col j q)) (by
    rw [Shape.rowMajor_val_two, Shape.rowMajor_val_three]
    show k.val * 8192 + (j.val * 1024 + q.val) = (k.val * 4 + j.val / 2) * 2048 + (j.val % 2 * 1024 + q.val)
    omega)

/-- The place of a tile's entry in the result. -/
theorem place (p : Fin 2) (j : Fin 8) (i : Fin 2048) (q : Fin 1024) {b : Fin 2 → ℕ} (e : b = ![p.val, j.val]) (x : SO.Idx)
    (h0 : (x 0).val = b 0 * 2048 + 1 * i.val) (h1 : (x 1).val = b 1 * 1024 + 1 * q.val) : ix2 (tok p i) (col j q) = x := by
  subst e
  funext a; apply Fin.ext
  match a with
  | ⟨0, _⟩ => exact Eq.trans (by show p.val * 2048 + i.val = p.val * 2048 + 1 * i.val; omega) h0.symm
  | ⟨1, _⟩ => exact Eq.trans (by show j.val * 1024 + q.val = j.val * 1024 + 1 * q.val; omega) h1.symm

/-- Points that store each their own value and hand the same `h` on. -/
theorem each_point {A B : Type} {N : ℕ} (o : (n : ℕ) → n < N → A × B) (f : Fin N → A) (h : B) (first : ∀ hn, o 0 hn = (f ⟨0, hn⟩, h))
    (later : ∀ n (hn : n + 1 < N), (o n (Nat.lt_of_succ_lt hn)).2 = h → o (n + 1) hn = (f ⟨n + 1, hn⟩, h)) : ∀ n hn, o n hn = (f ⟨n, hn⟩, h)
  | 0, hn => first hn
  | n + 1, hn => later n hn (congrArg Prod.snd (each_point o f h first later n _))

/-! ## Three blocks of columns, one beside the other -/

section Joined
variable {n₁ n₂ n₃ : ℕ} (x₁ : (⟨2, ![4096, n₁]⟩ : Shape).Idx → Elt Ideal .f32) (x₂ : (⟨2, ![4096, n₂]⟩ : Shape).Idx → Elt Ideal .f32)
  (x₃ : (⟨2, ![4096, n₃]⟩ : Shape).Idx → Elt Ideal .f32)
  (h : Shape.Concatenates [⟨2, ![4096, n₁]⟩, ⟨2, ![4096, n₂]⟩, ⟨2, ![4096, n₃]⟩] SO 1) (i : Fin 4096) (q : Fin 8192)

theorem joined_first (r : Fin n₁) (hr : r.val = q.val) : concatenate SO 1 [⟨_, x₁⟩, ⟨_, x₂⟩, ⟨_, x₃⟩] h (ix2 i q) = x₁ (ix2 i r) :=
  concatenate_apply_piece (t := SO) 1 [⟨_, x₁⟩, ⟨_, x₂⟩, ⟨_, x₃⟩] h (ix2 i q) 0 (by simp) ⟨2, ![4096, n₁]⟩ x₁ rfl rfl 0 rfl (ix2 i r)
    (fun b hb => match b with | ⟨0, _⟩ => rfl | ⟨1, _⟩ => absurd rfl hb) ((Nat.zero_add _).trans hr)

theorem joined_second (r : Fin n₂) (hr : n₁ + r.val = q.val) : concatenate SO 1 [⟨_, x₁⟩, ⟨_, x₂⟩, ⟨_, x₃⟩] h (ix2 i q) = x₂ (ix2 i r) :=
  concatenate_apply_piece (t := SO) 1 [⟨_, x₁⟩, ⟨_, x₂⟩, ⟨_, x₃⟩] h (ix2 i q) 1 (by simp) ⟨2, ![4096, n₂]⟩ x₂ rfl rfl n₁ rfl (ix2 i r)
    (fun b hb => match b with | ⟨0, _⟩ => rfl | ⟨1, _⟩ => absurd rfl hb) hr

theorem joined_third (r : Fin n₃) (hr : n₁ + n₂ + r.val = q.val) : concatenate SO 1 [⟨_, x₁⟩, ⟨_, x₂⟩, ⟨_, x₃⟩] h (ix2 i q) = x₃ (ix2 i r) :=
  concatenate_apply_piece (t := SO) 1 [⟨_, x₁⟩, ⟨_, x₂⟩, ⟨_, x₃⟩] h (ix2 i q) 2 (by simp) ⟨2, ![4096, n₃]⟩ x₃ rfl rfl (n₁ + n₂) rfl (ix2 i r)
    (fun b hb => match b with | ⟨0, _⟩ => rfl | ⟨1, _⟩ => absurd rfl hb) hr

end Joined

/-! ## What is read and stored -/

section Runs
variable {F : FTy → Type} [FloatOps F] {sig : RefSig} {κ : Kind} {sp : Space}

/-- The tokens of a tile, read out of a buffer that holds all. -/
theorem read_tokens (M : Memref sig κ sp SH .bf16) (hM : M.IsWhole) (h : Vec F SH .bf16) {off : Fin 2 → ℕ} (inb : ∀ a, off a + SR.size a ≤ SH.size a) :
    View.readAt (Elt F) M.view (Rect.unit (s := SH) off SR.size inb).toLoadRect (hM.unread h) = View.ld h (Rect.unit (s := SH) off SR.size inb) :=
  Cert.KernelIdeal.Body.readAt_ld _ _ _ _

/-- One copy brings all the tokens. -/
theorem come (h : Vec F SH .bf16) : View.canon [(⟨Rect.whole SH, h⟩ : View.Piece (Elt F) SH .bf16)] = h := by
  funext y
  refine (congrArg (View.canon _) ?_).trans (congrFun (Cert.KernelIdeal.Body.ld_hit (Rect.whole SH) h []) y)
  funext a; apply Fin.ext
  show (y a).val = 0 + 1 * (y a).val
  omega

theorem read_come (v : View sig κ sp SH .bf16) (h : Vec F SH .bf16) {off : Fin 2 → ℕ} (inb : ∀ a, off a + SR.size a ≤ SH.size a) :
    v.readCov [(⟨Rect.whole SH, h⟩ : View.Piece (Elt F) SH .bf16)] (Rect.unit (s := SH) off SR.size inb).toLoadRect
      = View.ld h (Rect.unit (s := SH) off SR.size inb) :=
  (Cert.KernelIdeal.Body.readCov_ld _ _ _).trans (congrArg (View.ld · (Rect.unit (s := SH) off SR.size inb)) (come h))

end Runs

end Cert.Project

end
-- ==== Proof.TblN.lean ====
/- The table of the chips whose columns a call projects, and the side condition on it. -/
module

public import proofs.«01_k».proof.Proof.WGrad
public import proofs.«01_k».proof.Proof.Gen.KernelNIdeal.Frame

@[expose] public section

set_option maxRecDepth 65536

noncomputable section

namespace Cert.KernelNIdeal.Body

open Idealize.ShloMosaic Idealize.ShloMosaic.TcCoe Idealize.ShloMosaic.Tactic Cert.KernelNIdeal Cert.KernelNIdeal.Gen

/-- The chips two and one. -/
def chips : (i : S2.Idx) → BitVec 32 := fun i => if (i 0).val = 0 then 2#32 else 1#32

set_option backward.proofsInPublic true in
/-- … as the contents of the call's one table. -/
def pinned {F : FTy → Type} [FloatOps F] : pre0.Contents (Elt F) :=
  fun | ⟨0, _⟩ => chips | ⟨_ + 1, h⟩ => absurd h (by simp)

variable {F : FTy → Type} [FloatOps F] (m : (ℓ : Loc nD τ sig) → Buf (Elt F) ℓ)

/-- The host's table. -/
theorem tbl_eq : tbl m = pinned := by
  funext j x
  match j with
  | ⟨0, _⟩ =>
    show V m 0 main_v18 x = chips x
    have e : V m 0 main_v18 = chips := by
      funext y
      obtain ⟨i, rfl⟩ : ∃ i : Fin 2, y = ix1 i := ⟨y 0, eq_ix1 y⟩
      match i with
      | ⟨0, _⟩ => sl_kernel_rfl
      | ⟨1, _⟩ => sl_kernel_rfl
    exact congrFun e x

/-- The blocks at these chips lie in their arrays. -/
theorem ok : Ok m := by
  unfold Ok; rw [tbl_eq m]; exact (by decide +kernel : ok0 (F := Bits) pinned)

end Cert.KernelNIdeal.Body

end
-- ==== Proof.PN.lean ====
/- The input projection of the two near chips: eight grid points of 2048 tokens by 1024 columns, put into an array that already has
   the other columns. -/
module

public import proofs.«01_k».proof.Proof.Project
public import proofs.«01_k».proof.Proof.TblN
public import proofs.«01_k».proof.Proof.Gen.ReferenceNIdeal.Read

@[expose] public section

set_option maxRecDepth 65536

noncomputable section

namespace Cert.KernelNIdeal.Body

open Idealize.ShloMosaic Idealize.ShloMosaic.TcCoe Idealize.ShloMosaic.Tactic Cert.KernelNIdeal Cert.KernelNIdeal.Gen Cert.Project
open Cert.KernelIdeal.Body (read_junk)
open Cert.WGrad (read_all)

section Points
variable {F : FTy → Type} [FloatOps F] (m : (ℓ : Loc nD τ sig) → Buf (Elt F) ℓ) (hO : Ok m) (c : Dev nD) (t : Fin (cfgM m hO).N)

/-- A point's tile, over the tokens. -/
def tile (h : Vec F S4096x1024 .bf16) : Vec F S2048x1024 .f32 :=
  k0_pay1 (View.ld h (Rect.unit (s := S4096x1024) (k0_off2 (grid0.coords t)) S2048x1024.size (k0_off2_inb (grid0.coords t)))) (iblk m hO c 0 t)

theorem tile_of {a a' : Vec F S2048x1024 .bf16} (ea : a = a') {b b' : Vec F S1x1024x1024 .bf16} (eb : b = b') :
    View.canon [(⟨Rect.unit (s := S2048x1024) ![0, 0] S2048x1024.size inb_S2048x1024_S2048x1024_0_0, k0_pay1 a b⟩ : View.Piece (Elt F) S2048x1024 .f32)] = k0_pay1 a' b' := by
  subst ea eb
  exact View.canon_cons_unit_lit inb_S2048x1024_S2048x1024_0_0 _ [] (by decide)

theorem outs_first (h0 : t.val % 8 = 0) : outsAt0 m hO c t.val t.isLt = (tile m hO c t (V m c main_v14), V m c main_v14) := by
  rw [outsAt0_A m hO c t h0]
  have eB := read_all (ms0_0 m hO t) (hs0_0 m hO t) (iblk m hO c 0 t) inb_S1x1024x1024_S1x1024x1024_0_0_0 (by decide)
  have eA := read_come (F := F) scM0_0.view (V m c main_v14) (k0_off2_inb (grid0.coords t))
  refine congrArg₂ Prod.mk ?_ ?_
  · unfold out0_A_1 tile
    rw [read_junk]
    refine Eq.trans (congrArg View.canon ?_) (tile_of eA eB)
    sl_kernel_rfl
  · unfold sout0_A_0
    rw [read_junk]
    refine Eq.trans (congrArg View.canon ?_) (come _)
    sl_kernel_rfl

theorem outs_later (h0 : ¬t.val % 8 = 0) (h : Vec F S4096x1024 .bf16)
    (hh : (outsAt0 m hO c (t.val - 1) (Nat.lt_of_le_of_lt (Nat.sub_le _ _) t.isLt)).2 = h) :
    outsAt0 m hO c t.val t.isLt = (tile m hO c t h, h) := by
  subst hh
  rw [outsAt0_B m hO c t h0]
  refine congrArg₂ Prod.mk ?_ rfl
  unfold out0_B_1 tile
  rw [read_junk]
  generalize (outsAt0 m hO c (t.val - 1) _).2 = h
  have eB := read_all (ms0_0 m hO t) (hs0_0 m hO t) (iblk m hO c 0 t) inb_S1x1024x1024_S1x1024x1024_0_0_0 (by decide)
  have eA := read_tokens scM0_0 (Memref.isWhole_whole _) h (k0_off2_inb (grid0.coords t))
  refine Eq.trans (congrArg View.canon ?_) (tile_of eA eB)
  sl_kernel_rfl

/-- WHAT A POINT STORES. -/
theorem out_eq : (outsAt0 m hO c t.val t.isLt).1 = tile m hO c t (V m c main_v14) :=
  congrArg Prod.fst (each_point (outsAt0 m hO c) (fun t => tile m hO c t (V m c main_v14)) (V m c main_v14) (fun hn => outs_first m hO c ⟨0, hn⟩ rfl)
    (fun n hn => outs_later m hO c ⟨n + 1, hn⟩ (by have e : n + 1 < 8 := lt_of_lt_of_eq hn N_0; show ¬(n + 1) % 8 = 0; omega) _) t.val t.isLt)

end Points

variable (m : (ℓ : Loc nD τ sig) → Buf (Elt Ideal) ℓ) (hO : Ok m) (c : Dev nD) (t : Fin (cfgM m hO).N)

/-! ## The blocks -/

/-- The half of the tokens that a point takes. -/
def half (t : Fin grid0.N) : Fin 2 := ⟨t.val % 2, by omega⟩
/-- The group of columns that a point takes: the halves of chip two's, then of chip one's. -/
def group (t : Fin grid0.N) : Fin 8 := ⟨(t.val / 2 + 2) % 4 + 2, by omega⟩

theorem off_eq : ∀ t : Fin grid0.N, k0_off2 (grid0.coords t) = ![(half t).val * 2048, 0] := by decide +kernel

/-- The blocks' places. -/
def at_in : Fin 3 → ℕ := ((cfgM m hO).win 0).index t
def at_out : Fin 2 → ℕ := ((cfgM m hO).win 1).index t

theorem index_in : at_in m hO t = ![(group t).val / 2, 0, (group t).val % 2] := by
  have e : at_in m hO t = cc0_transform_1 k0_off1_inb numel1_S1 (tbl m) (grid0.coords t) := rfl
  rw [e, tbl_eq]
  exact (by decide +kernel : ∀ t : Fin grid0.N, cc0_transform_1 k0_off1_inb numel1_S1 (pinned (F := Bits)) (grid0.coords t) = ![(group t).val / 2, 0, (group t).val % 2]) t

theorem index_out : at_out m hO t = ![(half t).val, (group t).val] := by
  have e : at_out m hO t = cc0_transform_3 k0_off1_inb numel1_S1 (tbl m) (grid0.coords t) := rfl
  rw [e, tbl_eq]
  exact (by decide +kernel : ∀ t : Fin grid0.N, cc0_transform_3 k0_off1_inb numel1_S1 (pinned (F := Bits)) (grid0.coords t) = ![(half t).val, (group t).val]) t

/-! ## The arrays read -/

/-- The arguments: the input, the norm's gain, the weights and the projections so far. -/
abbrev X0 : Vec Ideal S4096x1024 .f32 := m ((c : Thread nD τ).loc main_arg0)
abbrev X1 : Vec Ideal S1x1024 .f32 := m ((c : Thread nD τ).loc main_arg1)
abbrev X2 : Vec Ideal S1024x8192 .f32 := m ((c : Thread nD τ).loc main_arg2)
abbrev X3 : Vec Ideal S4096x8192 .f32 := m ((c : Thread nD τ).loc main_arg3)

theorem host_h : (V m c main_v14 : Vec Ideal S4096x1024 .bf16) = truncf (F := Ideal) (s := S4096x1024) .bf16
    (Cert.ReferenceNIdeal.Read.val_main_v11 (X0 m c) (X1 m c)) bitsLt_bf16_f32 := by sl_kernel_rfl
theorem host_w : (V m c main_v15 : Vec Ideal S4x1024x2048 .bf16) = truncf (F := Ideal) (s := S4x1024x2048) .bf16
    (transpose S4x1024x2048 [1, 0, 2] (shapeCast S1024x4x2048 (X2 m c) shapeCasts_S1024x8192_S1024x4x2048) transposes_S1024x4x2048_S4x1024x2048_1_0_2)
    bitsLt_bf16_f32 := by sl_kernel_rfl
theorem host_o : (V m c main_v19 : Vec Ideal S4096x8192 .f32) = X3 m c := by sl_kernel_rfl

theorem read_w (k q : Fin 1024) : (iblk m hO c 0 t : Vec Ideal S1x1024x1024 .bf16) (ix3 0 k q) = X2 m c (ix2 k (col (group t) q)) := by
  have e : (iblk m hO c 0 t : Vec Ideal S1x1024x1024 .bf16) (ix3 0 k q) = V m c main_v15 ((((cfgM m hO).win 0).blk t).view.emb (ix3 0 k q)) := rfl
  rw [e, host_w]
  exact weights_at _ _ _ _ (group t) k q (index_in m hO t) _ rfl rfl rfl

/-- WHAT A POINT STORES, over the arguments. -/
theorem out_at (i : Fin 2048) (q : Fin 1024) : (outsAt0 m hO c t.val t.isLt).1 (ix2 i q)
    = ∑ k : Fin 1024, (Cert.ReferenceNIdeal.Read.val_main_v11 (X0 m c) (X1 m c) (ix2 (tok (half t) i) k) : EReal) * X2 m c (ix2 k (col (group t) q)) := by
  rw [out_eq]
  refine (tile_at _ rfl (V m c main_v14) (iblk m hO c 0 t) _ _ (half t) (off_eq t) _ rfl _ rfl i q).trans ?_
  refine Finset.sum_congr rfl fun k _ => congrArg₂ HMul.hMul ?_ (read_w m hO c t k q)
  rw [host_h]; rfl

/-! ## The result -/

section
open Cert.ReferenceNIdeal.Read

variable (x0 : Vec Ideal S4096x1024 .f32) (x1 : Vec Ideal S1x1024 .f32) (x2 : Vec Ideal S1024x8192 .f32) (x3 : Vec Ideal S4096x8192 .f32) (i : Fin 4096) (q : Fin 8192)

/-- The reference's projected columns. -/
theorem ref_here (lo : 2048 ≤ q.val) (hi : q.val < 6144) :
    val_main_v16 x0 x1 x2 x3 (ix2 i q) = ∑ k : Fin 1024, (val_main_v11 x0 x1 (ix2 i k) : EReal) * x2 (ix2 k q) := by
  refine (joined_second _ _ _ _ i q ⟨q.val - 2048, by omega⟩ (by show 2048 + (q.val - 2048) = q.val; omega)).trans ?_
  rw [val_main_v13_apply]
  refine Finset.sum_congr rfl fun k _ => congrArg₂ HMul.hMul (congrArg (val_main_v11 x0 x1) ?_) ((val_main_v12_apply _ _).trans (congrArg x2 ?_)) <;> funext a <;> apply Fin.ext
  · match a with
    | ⟨0, _⟩ => rfl
    | ⟨1, _⟩ => rfl
  · match a with
    | ⟨0, _⟩ => rfl
    | ⟨1, _⟩ => show 2048 + (q.val - 2048) = q.val; omega

/-- The reference's other columns. -/
theorem ref_there (h : ¬(2048 ≤ q.val ∧ q.val < 6144)) : val_main_v16 x0 x1 x2 x3 (ix2 i q) = x3 (ix2 i q) := by
  have hq := q.isLt
  by_cases lo : q.val < 2048
  · refine (joined_first _ _ _ _ i q ⟨q.val, lo⟩ rfl).trans ((val_main_v14_apply _ _).trans (congrArg x3 ?_))
    funext a; apply Fin.ext
    match a with
    | ⟨0, _⟩ => rfl
    | ⟨1, _⟩ => rfl
  · refine (joined_third _ _ _ _ i q ⟨q.val - 6144, by omega⟩ (by show 2048 + 4096 + (q.val - 6144) = q.val; omega)).trans ((val_main_v15_apply _ _).trans (congrArg x3 ?_))
    funext a; apply Fin.ext
    match a with
    | ⟨0, _⟩ => rfl
    | ⟨1, _⟩ => show 6144 + (q.val - 6144) = q.val; omega

theorem ref_congr {x0 y0 : Vec Ideal S4096x1024 .f32} {x1 y1 : Vec Ideal S1x1024 .f32} {x2 y2 : Vec Ideal S1024x8192 .f32} {x3 y3 : Vec Ideal S4096x8192 .f32}
    (e0 : x0 = y0) (e1 : x1 = y1) (e2 : x2 = y2) (e3 : x3 = y3) : val_main_v16 x0 x1 x2 x3 = val_main_v16 y0 y1 y2 y3 := by
  subst e0 e1 e2 e3; rfl

theorem flushes : ((cfgM m hO).win 1).flush t = true := by
  have e : ((cfgM m hO).win 1).flush t = Pipeline.Window.flushOf grid0 true (cc0_transform_3 k0_off1_inb numel1_S1 (tbl m)) t := rfl
  rw [e, tbl_eq]
  exact (by decide +kernel : ∀ t : Fin grid0.N, Pipeline.Window.flushOf grid0 true (cc0_transform_3 k0_off1_inb numel1_S1 (pinned (F := Bits))) t = true) t

/-- The blocks written back are the groups two to five. -/
theorem covers : ((cfgM m hO).win 1).CoversWhere (fun β => 2 ≤ β (1 : Fin 2) ∧ β (1 : Fin 2) < 6) := by
  refine ⟨fun a => ?_, fun t _ => ⟨?_, fun a => Or.inl rfl⟩, fun β hβ => ?_⟩
  · match a with
    | ⟨0, _⟩ => exact (by decide : 0 < 2048)
    | ⟨1, _⟩ => exact (by decide : 0 < 1024)
  · show 2 ≤ at_out m hO t 1 ∧ at_out m hO t 1 < 6; rw [index_out]; exact (by decide +kernel : ∀ t : Fin grid0.N, 2 ≤ (group t).val ∧ (group t).val < 6) t
  · have h0 : (β (0 : Fin 2)).val < 2 := lt_of_lt_of_eq (β (0 : Fin 2)).isLt (show (4096 + 2048 - 1) / 2048 = 2 by decide)
    obtain ⟨t, e0, e1⟩ := (by decide +kernel : ∀ (p : Fin 2) (j : Fin 8), 2 ≤ j.val → j.val < 6 → ∃ t : Fin grid0.N, half t = p ∧ group t = j)
      ⟨(β (0 : Fin 2)).val, h0⟩ ⟨(β (1 : Fin 2)).val, by have h : (β (1 : Fin 2)).val < 6 := hβ.2; omega⟩ hβ.1 hβ.2
    refine ⟨t, fun a => ?_, flushes m hO t⟩
    match a with
    | ⟨0, _⟩ => exact (congrFun (index_out m hO t) 0).trans (congrArg Fin.val e0)
    | ⟨1, _⟩ => exact (congrFun (index_out m hO t) 1).trans (congrArg Fin.val e1)

/-- THE RESULT IS THE REFERENCE'S. -/
theorem result_eq : (dats m hO 0 c).arrAt 1 (cfgM m hO).N = val_main_v16 (X0 m c) (X1 m c) (X2 m c) (X3 m c) := by
  refine (dats m hO 0 c).arrAt_eq_of_coversWhere_of_agree 1 _ _ (covers m hO) (fun t _ y => ?_) (fun j hj => ?_)
  · blk_simp
    rw [after0_1]
    obtain ⟨i, q, rfl⟩ : ∃ (i : Fin 2048) (q : Fin 1024), y = ix2 i q := ⟨y (0 : Fin 2), y (1 : Fin 2), eq_ix2 (n0 := 2048) (n1 := 1024) y⟩
    refine (out_at m hO c t i q).trans (Eq.trans (ref_here _ _ _ (X3 m c) _ _ ?_ ?_).symm (congrArg _ ?_))
    · show 2048 ≤ (group t).val * 1024 + q.val
      have : 2 ≤ (group t).val := (by decide +kernel : ∀ t : Fin grid0.N, 2 ≤ (group t).val) t
      omega
    · show (group t).val * 1024 + q.val < 6144
      have : (group t).val < 6 := (by decide +kernel : ∀ t : Fin grid0.N, (group t).val < 6) t
      have := q.isLt
      omega
    · exact place (half t) (group t) i q (index_out m hO t) _ rfl rfl
  · obtain ⟨i, q, rfl⟩ : ∃ (i : Fin 4096) (q : Fin 8192), j = ix2 i q := ⟨j (0 : Fin 2), j (1 : Fin 2), eq_ix2 (n0 := 4096) (n1 := 8192) j⟩
    have hj' : ¬(2 ≤ q.val / 1024 ∧ q.val / 1024 < 6) := hj
    refine (congrFun (host_o m c) _).trans (ref_there (X0 m c) (X1 m c) (X2 m c) (X3 m c) i q ?_).symm
    omega

end

end Cert.KernelNIdeal.Body

end
-- ==== Proof.TblF.lean ====
/- The table of the one chip whose columns the far call projects, and the side condition on it. -/
module

public import proofs.«01_k».proof.Proof.WGrad
public import proofs.«01_k».proof.Proof.Gen.KernelFIdeal.Frame

@[expose] public section

set_option maxRecDepth 65536

noncomputable section

namespace Cert.KernelFIdeal.Body

open Idealize.ShloMosaic Idealize.ShloMosaic.TcCoe Idealize.ShloMosaic.Tactic Cert.KernelFIdeal Cert.KernelFIdeal.Gen

/-- The chip three. -/
def chips : (i : S1.Idx) → BitVec 32 := fun _ => 3#32

set_option backward.proofsInPublic true in
/-- … as the contents of the call's one table. -/
def pinned {F : FTy → Type} [FloatOps F] : pre0.Contents (Elt F) :=
  fun | ⟨0, _⟩ => chips | ⟨_ + 1, h⟩ => absurd h (by simp)

variable {F : FTy → Type} [FloatOps F] (m : (ℓ : Loc nD τ sig) → Buf (Elt F) ℓ)

/-- The host's table. -/
theorem tbl_eq : tbl m = pinned := by
  funext j x
  match j with
  | ⟨0, _⟩ =>
    show V m 0 main_v16 x = chips x
    have e : V m 0 main_v16 = chips := by sl_kernel_rfl
    exact congrFun e x

/-- The blocks at these chips lie in their arrays. -/
theorem ok : Ok m := by
  unfold Ok; rw [tbl_eq m]; exact (by decide +kernel : ok0 (F := Bits) pinned)

end Cert.KernelFIdeal.Body

end
-- ==== Proof.PF.lean ====
/- The input projection of the far chip: four grid points of 2048 tokens by 1024 columns, put into an array that already has the
   other columns. -/
module

public import proofs.«01_k».proof.Proof.Project
public import proofs.«01_k».proof.Proof.TblF
public import proofs.«01_k».proof.Proof.Gen.ReferenceFIdeal.Read

@[expose] public section

set_option maxRecDepth 65536

noncomputable section

namespace Cert.KernelFIdeal.Body

open Idealize.ShloMosaic Idealize.ShloMosaic.TcCoe Idealize.ShloMosaic.Tactic Cert.KernelFIdeal Cert.KernelFIdeal.Gen Cert.Project
open Cert.KernelIdeal.Body (read_junk)
open Cert.WGrad (read_all)

section Points
variable {F : FTy → Type} [FloatOps F] (m : (ℓ : Loc nD τ sig) → Buf (Elt F) ℓ) (hO : Ok m) (c : Dev nD) (t : Fin (cfgM m hO).N)

/-- A point's tile, over the tokens. -/
def tile (h : Vec F S4096x1024 .bf16) : Vec F S2048x1024 .f32 :=
  k0_pay1 (View.ld h (Rect.unit (s := S4096x1024) (k0_off2 (grid0.coords t)) S2048x1024.size (k0_off2_inb (grid0.coords t)))) (iblk m hO c 0 t)

theorem tile_of {a a' : Vec F S2048x1024 .bf16} (ea : a = a') {b b' : Vec F S1x1024x1024 .bf16} (eb : b = b') :
    View.canon [(⟨Rect.unit (s := S2048x1024) ![0, 0] S2048x1024.size inb_S2048x1024_S2048x1024_0_0, k0_pay1 a b⟩ : View.Piece (Elt F) S2048x1024 .f32)] = k0_pay1 a' b' := by
  subst ea eb
  exact View.canon_cons_unit_lit inb_S2048x1024_S2048x1024_0_0 _ [] (by decide)

theorem outs_first (h0 : t.val % 4 = 0) : outsAt0 m hO c t.val t.isLt = (tile m hO c t (V m c main_v14), V m c main_v14) := by
  rw [outsAt0_A m hO c t h0]
  have eB := read_all (ms0_0 m hO t) (hs0_0 m hO t) (iblk m hO c 0 t) inb_S1x1024x1024_S1x1024x1024_0_0_0 (by decide)
  have eA := read_come (F := F) scM0_0.view (V m c main_v14) (k0_off2_inb (grid0.coords t))
  refine congrArg₂ Prod.mk ?_ ?_
  · unfold out0_A_1 tile
    rw [read_junk]
    refine Eq.trans (congrArg View.canon ?_) (tile_of eA eB)
    sl_kernel_rfl
  · unfold sout0_A_0
    rw [read_junk]
    refine Eq.trans (congrArg View.canon ?_) (come _)
    sl_kernel_rfl

theorem outs_later (h0 : ¬t.val % 4 = 0) (h : Vec F S4096x1024 .bf16)
    (hh : (outsAt0 m hO c (t.val - 1) (Nat.lt_of_le_of_lt (Nat.sub_le _ _) t.isLt)).2 = h) :
    outsAt0 m hO c t.val t.isLt = (tile m hO c t h, h) := by
  subst hh
  rw [outsAt0_B m hO c t h0]
  refine congrArg₂ Prod.mk ?_ rfl
  unfold out0_B_1 tile
  rw [read_junk]
  generalize (outsAt0 m hO c (t.val - 1) _).2 = h
  have eB := read_all (ms0_0 m hO t) (hs0_0 m hO t) (iblk m hO c 0 t) inb_S1x1024x1024_S1x1024x1024_0_0_0 (by decide)
  have eA := read_tokens scM0_0 (Memref.isWhole_whole _) h (k0_off2_inb (grid0.coords t))
  refine Eq.trans (congrArg View.canon ?_) (tile_of eA eB)
  sl_kernel_rfl

/-- WHAT A POINT STORES. -/
theorem out_eq : (outsAt0 m hO c t.val t.isLt).1 = tile m hO c t (V m c main_v14) :=
  congrArg Prod.fst (each_point (outsAt0 m hO c) (fun t => tile m hO c t (V m c main_v14)) (V m c main_v14) (fun hn => outs_first m hO c ⟨0, hn⟩ rfl)
    (fun n hn => outs_later m hO c ⟨n + 1, hn⟩ (by have e : n + 1 < 4 := lt_of_lt_of_eq hn N_0; show ¬(n + 1) % 4 = 0; omega) _) t.val t.isLt)

end Points

variable (m : (ℓ : Loc nD τ sig) → Buf (Elt Ideal) ℓ) (hO : Ok m) (c : Dev nD) (t : Fin (cfgM m hO).N)

/-! ## The blocks -/

/-- The half of the tokens that a point takes. -/
def half (t : Fin grid0.N) : Fin 2 := ⟨t.val % 2, by omega⟩
/-- The group of columns that a point takes: the halves of chip three's. -/
def group (t : Fin grid0.N) : Fin 8 := ⟨t.val / 2 + 6, by have h : t.val < 4 := lt_of_lt_of_eq t.isLt N_0; omega⟩

theorem off_eq : ∀ t : Fin grid0.N, k0_off2 (grid0.coords t) = ![(half t).val * 2048, 0] := by decide +kernel

/-- The blocks' places. -/
def at_in : Fin 3 → ℕ := ((cfgM m hO).win 0).index t
def at_out : Fin 2 → ℕ := ((cfgM m hO).win 1).index t

theorem index_in : at_in m hO t = ![(group t).val / 2, 0, (group t).val % 2] := by
  have e : at_in m hO t = cc0_transform_1 k0_off1_inb numel1_S1 (tbl m) (grid0.coords t) := rfl
  rw [e, tbl_eq]
  exact (by decide +kernel : ∀ t : Fin grid0.N, cc0_transform_1 k0_off1_inb numel1_S1 (pinned (F := Bits)) (grid0.coords t) = ![(group t).val / 2, 0, (group t).val % 2]) t

theorem index_out : at_out m hO t = ![(half t).val, (group t).val] := by
  have e : at_out m hO t = cc0_transform_3 k0_off1_inb numel1_S1 (tbl m) (grid0.coords t) := rfl
  rw [e, tbl_eq]
  exact (by decide +kernel : ∀ t : Fin grid0.N, cc0_transform_3 k0_off1_inb numel1_S1 (pinned (F := Bits)) (grid0.coords t) = ![(half t).val, (group t).val]) t

/-! ## The arrays read -/

/-- The arguments: the input, the norm's gain, the weights and the projections so far. -/
abbrev X0 : Vec Ideal S4096x1024 .f32 := m ((c : Thread nD τ).loc main_arg0)
abbrev X1 : Vec Ideal S1x1024 .f32 := m ((c : Thread nD τ).loc main_arg1)
abbrev X2 : Vec Ideal S1024x8192 .f32 := m ((c : Thread nD τ).loc main_arg2)
abbrev X3 : Vec Ideal S4096x8192 .f32 := m ((c : Thread nD τ).loc main_arg3)

theorem host_h : (V m c main_v14 : Vec Ideal S4096x1024 .bf16) = truncf (F := Ideal) (s := S4096x1024) .bf16
    (Cert.ReferenceFIdeal.Read.val_main_v11 (X0 m c) (X1 m c)) bitsLt_bf16_f32 := by sl_kernel_rfl
theorem host_w : (V m c main_v15 : Vec Ideal S4x1024x2048 .bf16) = truncf (F := Ideal) (s := S4x1024x2048) .bf16
    (transpose S4x1024x2048 [1, 0, 2] (shapeCast S1024x4x2048 (X2 m c) shapeCasts_S1024x8192_S1024x4x2048) transposes_S1024x4x2048_S4x1024x2048_1_0_2)
    bitsLt_bf16_f32 := by sl_kernel_rfl
theorem host_o : (V m c main_v17 : Vec Ideal S4096x8192 .f32) = X3 m c := by sl_kernel_rfl

theorem read_w (k q : Fin 1024) : (iblk m hO c 0 t : Vec Ideal S1x1024x1024 .bf16) (ix3 0 k q) = X2 m c (ix2 k (col (group t) q)) := by
  have e : (iblk m hO c 0 t : Vec Ideal S1x1024x1024 .bf16) (ix3 0 k q) = V m c main_v15 ((((cfgM m hO).win 0).blk t).view.emb (ix3 0 k q)) := rfl
  rw [e, host_w]
  exact weights_at _ _ _ _ (group t) k q (index_in m hO t) _ rfl rfl rfl

/-- WHAT A POINT STORES, over the arguments. -/
theorem out_at (i : Fin 2048) (q : Fin 1024) : (outsAt0 m hO c t.val t.isLt).1 (ix2 i q)
    = ∑ k : Fin 1024, (Cert.ReferenceFIdeal.Read.val_main_v11 (X0 m c) (X1 m c) (ix2 (tok (half t) i) k) : EReal) * X2 m c (ix2 k (col (group t) q)) := by
  rw [out_eq]
  refine (tile_at _ rfl (V m c main_v14) (iblk m hO c 0 t) _ _ (half t) (off_eq t) _ rfl _ rfl i q).trans ?_
  refine Finset.sum_congr rfl fun k _ => congrArg₂ HMul.hMul ?_ (read_w m hO c t k q)
  rw [host_h]; rfl

/-! ## The result -/

section
open Cert.ReferenceFIdeal.Read

variable (x0 : Vec Ideal S4096x1024 .f32) (x1 : Vec Ideal S1x1024 .f32) (x2 : Vec Ideal S1024x8192 .f32) (x3 : Vec Ideal S4096x8192 .f32) (i : Fin 4096) (q : Fin 8192)

/-- The reference's projected columns. -/
theorem ref_here (lo : 6144 ≤ q.val) :
    val_main_v16 x0 x1 x2 x3 (ix2 i q) = ∑ k : Fin 1024, (val_main_v11 x0 x1 (ix2 i k) : EReal) * x2 (ix2 k q) := by
  have hq := q.isLt
  refine (joined_second _ _ _ _ i q ⟨q.val - 6144, by omega⟩ (by show 6144 + (q.val - 6144) = q.val; omega)).trans ?_
  rw [val_main_v13_apply]
  refine Finset.sum_congr rfl fun k _ => congrArg₂ HMul.hMul (congrArg (val_main_v11 x0 x1) ?_) ((val_main_v12_apply _ _).trans (congrArg x2 ?_)) <;> funext a <;> apply Fin.ext
  · match a with
    | ⟨0, _⟩ => rfl
    | ⟨1, _⟩ => rfl
  · match a with
    | ⟨0, _⟩ => rfl
    | ⟨1, _⟩ => show 6144 + (q.val - 6144) = q.val; omega

/-- The reference's other columns. -/
theorem ref_there (h : q.val < 6144) : val_main_v16 x0 x1 x2 x3 (ix2 i q) = x3 (ix2 i q) := by
  refine (joined_first _ _ _ _ i q ⟨q.val, h⟩ rfl).trans ((val_main_v14_apply _ _).trans (congrArg x3 ?_))
  funext a; apply Fin.ext
  match a with
  | ⟨0, _⟩ => rfl
  | ⟨1, _⟩ => rfl

theorem ref_congr {x0 y0 : Vec Ideal S4096x1024 .f32} {x1 y1 : Vec Ideal S1x1024 .f32} {x2 y2 : Vec Ideal S1024x8192 .f32} {x3 y3 : Vec Ideal S4096x8192 .f32}
    (e0 : x0 = y0) (e1 : x1 = y1) (e2 : x2 = y2) (e3 : x3 = y3) : val_main_v16 x0 x1 x2 x3 = val_main_v16 y0 y1 y2 y3 := by
  subst e0 e1 e2 e3; rfl

theorem flushes : ((cfgM m hO).win 1).flush t = true := by
  have e : ((cfgM m hO).win 1).flush t = Pipeline.Window.flushOf grid0 true (cc0_transform_3 k0_off1_inb numel1_S1 (tbl m)) t := rfl
  rw [e, tbl_eq]
  exact (by decide +kernel : ∀ t : Fin grid0.N, Pipeline.Window.flushOf grid0 true (cc0_transform_3 k0_off1_inb numel1_S1 (pinned (F := Bits))) t = true) t

/-- The blocks written back are the groups six and seven. -/
theorem covers : ((cfgM m hO).win 1).CoversWhere (fun β => 6 ≤ β (1 : Fin 2)) := by
  refine ⟨fun a => ?_, fun t _ => ⟨?_, fun a => Or.inl rfl⟩, fun β hβ => ?_⟩
  · match a with
    | ⟨0, _⟩ => exact (by decide : 0 < 2048)
    | ⟨1, _⟩ => exact (by decide : 0 < 1024)
  · show 6 ≤ at_out m hO t 1; rw [index_out]; exact (by decide +kernel : ∀ t : Fin grid0.N, 6 ≤ (group t).val) t
  · have h0 : (β (0 : Fin 2)).val < 2 := lt_of_lt_of_eq (β (0 : Fin 2)).isLt (show (4096 + 2048 - 1) / 2048 = 2 by decide)
    have h1 : (β (1 : Fin 2)).val < 8 := lt_of_lt_of_eq (β (1 : Fin 2)).isLt (show (8192 + 1024 - 1) / 1024 = 8 by decide)
    obtain ⟨t, e0, e1⟩ := (by decide +kernel : ∀ (p : Fin 2) (j : Fin 8), 6 ≤ j.val → ∃ t : Fin grid0.N, half t = p ∧ group t = j)
      ⟨(β (0 : Fin 2)).val, h0⟩ ⟨(β (1 : Fin 2)).val, h1⟩ hβ
    refine ⟨t, fun a => ?_, flushes m hO t⟩
    match a with
    | ⟨0, _⟩ => exact (congrFun (index_out m hO t) 0).trans (congrArg Fin.val e0)
    | ⟨1, _⟩ => exact (congrFun (index_out m hO t) 1).trans (congrArg Fin.val e1)

/-- THE RESULT IS THE REFERENCE'S. -/
theorem result_eq : (dats m hO 0 c).arrAt 1 (cfgM m hO).N = val_main_v16 (X0 m c) (X1 m c) (X2 m c) (X3 m c) := by
  refine (dats m hO 0 c).arrAt_eq_of_coversWhere_of_agree 1 _ _ (covers m hO) (fun t _ y => ?_) (fun j hj => ?_)
  · blk_simp
    rw [after0_1]
    obtain ⟨i, q, rfl⟩ : ∃ (i : Fin 2048) (q : Fin 1024), y = ix2 i q := ⟨y (0 : Fin 2), y (1 : Fin 2), eq_ix2 (n0 := 2048) (n1 := 1024) y⟩
    refine (out_at m hO c t i q).trans (Eq.trans (ref_here _ _ _ (X3 m c) _ _ ?_).symm (congrArg _ ?_))
    · show 6144 ≤ (group t).val * 1024 + q.val
      have : 6 ≤ (group t).val := (by decide +kernel : ∀ t : Fin grid0.N, 6 ≤ (group t).val) t
      omega
    · exact place (half t) (group t) i q (index_out m hO t) _ rfl rfl
  · obtain ⟨i, q, rfl⟩ : ∃ (i : Fin 4096) (q : Fin 8192), j = ix2 i q := ⟨j (0 : Fin 2), j (1 : Fin 2), eq_ix2 (n0 := 4096) (n1 := 8192) j⟩
    have hj' : ¬6 ≤ q.val / 1024 := hj
    refine (congrFun (host_o m c) _).trans (ref_there (X0 m c) (X1 m c) (X2 m c) (X3 m c) i q ?_).symm
    omega

end

end Cert.KernelFIdeal.Body

end
-- ==== Proof.lean ====
/- The claims: the programs' frames, and the kernels' results equal the references': the retention branch's at every input of
   real numbers, those of the input projection and of its gradients at every input. -/
module

public import proofs.«01_k».proof.Defs
public import proofs.«01_k».proof.Proof.Gen.Pre_finite
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelM.Frame
public import proofs.«01_k».proof.Proof.Gen.ReferenceMIdeal.Run
public import proofs.«01_k».proof.Proof.Gen.KernelR.Frame
public import proofs.«01_k».proof.Proof.Gen.ReferenceRIdeal.Run
public import proofs.«01_k».proof.Proof.Gen.KernelA.Frame
public import proofs.«01_k».proof.Proof.Gen.ReferenceAIdeal.Run
public import proofs.«01_k».proof.Proof.Gen.KernelX.Frame
public import proofs.«01_k».proof.Proof.Gen.KernelXIdeal.Value
public import proofs.«01_k».proof.Proof.Gen.ReferenceXIdeal.Run
public import proofs.«01_k».proof.Proof.Gen.ReferenceXIdeal.Read
public import proofs.«01_k».proof.Proof.Gen.ReferenceFIdeal.Read
public import proofs.«01_k».proof.Proof.Gen.ReferenceFIdeal.Run
public import proofs.«01_k».proof.Proof.Gen.KernelFIdeal.Frame
public import proofs.«01_k».proof.Proof.Gen.KernelF.Frame
public import proofs.«01_k».proof.Proof.Gen.ReferenceNIdeal.Read
public import proofs.«01_k».proof.Proof.Gen.ReferenceNIdeal.Run
public import proofs.«01_k».proof.Proof.Gen.KernelNIdeal.Frame
public import proofs.«01_k».proof.Proof.Gen.KernelN.Frame
public import proofs.«01_k».proof.Proof.Entry
public import proofs.«01_k».proof.Proof.WGradM
public import proofs.«01_k».proof.Proof.WGradR
public import proofs.«01_k».proof.Proof.WGradA
public import proofs.«01_k».proof.Proof.XGrad
public import proofs.«01_k».proof.Proof.PN
public import proofs.«01_k».proof.Proof.PF

@[expose] public section

set_option maxRecDepth 65536

noncomputable section

namespace Cert.Proof

open Idealize.ShloMosaic Idealize.SL.Sem Idealize.ShloMosaic.TcCoe

/-- The reference's frame. -/
theorem frame_ret : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

section
open Cert.ReferenceIdeal Cert.ReferenceIdeal.Read
variable {x0 y0 : Vec Ideal S4096x1024 .f32} {x1 y1 : Vec Ideal S4096x8192 .f32} {x2 y2 : Vec Ideal S4x256 .f32}

theorem grad_of (e0 : x0 = y0) (e1 : x1 = y1) (e2 : x2 = y2) : val_main_v472 x0 x1 x2 = val_main_v472 y0 y1 y2 := by
  subst e0 e1 e2; rfl

theorem gain_of (e0 : x0 = y0) (e1 : x1 = y1) : val_main_v473 x0 x1 = val_main_v473 y0 y1 := by
  subst e0 e1; rfl
end

/-- THE VALUE CLAIM. -/
theorem value_ret : Cert.algebraic_KernelIdeal_ReferenceIdeal_pre_finite := by
  intro m g m' g' hpre hargs
  have real (c : Dev Cert.KernelIdeal.nD) := pre_real _ _ _ (hpre c)
  refine ⟨fun c => Cert.ReferenceIdeal.Read.val_main_v472 (Cert.KernelIdeal.Host.X0 m c) (Cert.KernelIdeal.Host.X1 m c) (Cert.KernelIdeal.Host.X2 m c),
    fun c => Cert.ReferenceIdeal.Read.val_main_v473 (Cert.KernelIdeal.Host.X0 m c) (Cert.KernelIdeal.Host.X1 m c), ?_, ?_⟩
  · refine (θ_run Cert.KernelIdeal.defs _ _).mono (fun r h c => ?_) (Cert.KernelIdeal.Value.run_blocks (F := Ideal) m g)
    obtain ⟨a, b, rest⟩ := h c
    exact ⟨a.trans (Cert.KernelIdeal.Body.grad_eq m c (real c).1 (real c).2.1 (real c).2.2),
      b.trans (Cert.KernelIdeal.Body.gain_eq m c (real c).2.1), rest⟩
  · refine (θ_run Cert.ReferenceIdeal.defs _ _).mono (fun r h c => ?_) (Cert.ReferenceIdeal.Value.run (F := Ideal) m' g')
    obtain ⟨a, b, rest⟩ := h c
    obtain ⟨e0, e1, e2⟩ := hargs c
    refine ⟨a.trans ((Cert.ReferenceIdeal.Read.val_main_v472_eq (Idealize.ShloMosaic.StableHlo.launchContents m' c)).trans ?_),
      b.trans ((Cert.ReferenceIdeal.Read.val_main_v473_eq (Idealize.ShloMosaic.StableHlo.launchContents m' c)).trans ?_), rest⟩
    · exact grad_of e0 e1 e2
    · exact gain_of e0 e1

/-! ## The weight gradients -/

theorem frame_m : Cert.quiescent_ReferenceMIdeal := fun m g _ =>
  (θ_run Cert.ReferenceMIdeal.defs _ _).mono (fun r h => ⟨fun c => (h c).2, sem_eq_zero_of_no_sems (by decide) r.2⟩)
    (Cert.ReferenceMIdeal.Value.run (F := Ideal) m g)

theorem frame_r : Cert.quiescent_ReferenceRIdeal := fun m g _ =>
  (θ_run Cert.ReferenceRIdeal.defs _ _).mono (fun r h => ⟨fun c => (h c).2, sem_eq_zero_of_no_sems (by decide) r.2⟩)
    (Cert.ReferenceRIdeal.Value.run (F := Ideal) m g)

theorem frame_a : Cert.quiescent_ReferenceAIdeal := fun m g _ =>
  (θ_run Cert.ReferenceAIdeal.defs _ _).mono (fun r h => ⟨fun c => (h c).2, sem_eq_zero_of_no_sems (by decide) r.2⟩)
    (Cert.ReferenceAIdeal.Value.run (F := Ideal) m g)

theorem value_m : Cert.algebraic_KernelMIdeal_ReferenceMIdeal := by
  intro m g m' g' _ hargs
  refine ⟨fun c => Cert.ReferenceMIdeal.Read.val_main_v17 (Cert.KernelMIdeal.Body.X0 m c) (Cert.KernelMIdeal.Body.X1 m c) (Cert.KernelMIdeal.Body.X2 m c), ?_, ?_⟩
  · refine (θ_run Cert.KernelMIdeal.defs _ _).mono (fun r h c => ?_) (Cert.KernelMIdeal.Value.run_blocks (F := Ideal) m g)
    exact ⟨(h c).1.trans (Cert.KernelMIdeal.Body.grad_eq m c), (h c).2⟩
  · refine (θ_run Cert.ReferenceMIdeal.defs _ _).mono (fun r h c => ?_) (Cert.ReferenceMIdeal.Value.run (F := Ideal) m' g')
    obtain ⟨e0, e1, e2⟩ := hargs c
    refine ⟨(h c).1.trans ((Cert.ReferenceMIdeal.Read.val_main_v17_eq _ _ _).trans ?_), (h c).2⟩
    exact Cert.KernelMIdeal.Body.ref_congr e0 e1 e2

theorem value_r : Cert.algebraic_KernelRIdeal_ReferenceRIdeal := by
  intro m g m' g' _ hargs
  refine ⟨fun c => Cert.ReferenceRIdeal.Read.val_main_v17 (Cert.KernelRIdeal.Body.X0 m c) (Cert.KernelRIdeal.Body.X1 m c) (Cert.KernelRIdeal.Body.X2 m c), ?_, ?_⟩
  · refine (θ_run Cert.KernelRIdeal.defs _ _).mono (fun r h c => ?_) (Cert.KernelRIdeal.Value.run_blocks (F := Ideal) m g)
    exact ⟨(h c).1.trans (Cert.KernelRIdeal.Body.grad_eq m c), (h c).2⟩
  · refine (θ_run Cert.ReferenceRIdeal.defs _ _).mono (fun r h c => ?_) (Cert.ReferenceRIdeal.Value.run (F := Ideal) m' g')
    obtain ⟨e0, e1, e2⟩ := hargs c
    refine ⟨(h c).1.trans ((Cert.ReferenceRIdeal.Read.val_main_v17_eq _ _ _).trans ?_), (h c).2⟩
    exact Cert.KernelRIdeal.Body.ref_congr e0 e1 e2

theorem value_a : Cert.algebraic_KernelAIdeal_ReferenceAIdeal := by
  intro m g m' g' _ hargs
  refine ⟨fun c => Cert.ReferenceAIdeal.Read.val_main_v18 (Cert.KernelAIdeal.Body.X0 m c) (Cert.KernelAIdeal.Body.X1 m c) (Cert.KernelAIdeal.Body.X2 m c) (Cert.KernelAIdeal.Body.X3 m c), ?_, ?_⟩
  · refine (θ_run Cert.KernelAIdeal.defs _ _).mono (fun r h c => ?_) (Cert.KernelAIdeal.Value.run_blocks (F := Ideal) m g)
    exact ⟨(h c).1.trans (Cert.KernelAIdeal.Body.grad_eq m c), (h c).2⟩
  · refine (θ_run Cert.ReferenceAIdeal.defs _ _).mono (fun r h c => ?_) (Cert.ReferenceAIdeal.Value.run (F := Ideal) m' g')
    obtain ⟨e0, e1, e2, e3⟩ := hargs c
    refine ⟨(h c).1.trans ((Cert.ReferenceAIdeal.Read.val_main_v18_eq _ _ _ _).trans ?_), (h c).2⟩
    exact Cert.KernelAIdeal.Body.ref_congr e0 e1 e2 e3

/-! ## The gradient of the input projection's input -/

theorem frame_x : Cert.quiescent_ReferenceXIdeal := fun m g _ =>
  (θ_run Cert.ReferenceXIdeal.defs _ _).mono (fun r h => ⟨fun c => (h c).2.2, sem_eq_zero_of_no_sems (by decide) r.2⟩)
    (Cert.ReferenceXIdeal.Value.run (F := Ideal) m g)

theorem value_x : Cert.algebraic_KernelXIdeal_ReferenceXIdeal := by
  intro m g m' g' _ hargs
  refine ⟨fun c => Cert.ReferenceXIdeal.Read.val_main_v36 (Cert.KernelXIdeal.Body.X0 m c) (Cert.KernelXIdeal.Body.X1 m c) (Cert.KernelXIdeal.Body.X2 m c)
      (Cert.KernelXIdeal.Body.X3 m c) (Cert.KernelXIdeal.Body.X4 m c),
    fun c => Cert.ReferenceXIdeal.Read.val_main_v19 (Cert.KernelXIdeal.Body.X0 m c) (Cert.KernelXIdeal.Body.X2 m c) (Cert.KernelXIdeal.Body.X3 m c), ?_, ?_⟩
  · refine (θ_run Cert.KernelXIdeal.defs _ _).mono (fun r h c => ?_) (Cert.KernelXIdeal.Value.run_blocks (F := Ideal) m g)
    obtain ⟨a, b, rest⟩ := h c
    exact ⟨a.trans (Cert.KernelXIdeal.Body.grad_eq m c), b.trans (Cert.KernelXIdeal.Body.gain_eq m c), rest⟩
  · refine (θ_run Cert.ReferenceXIdeal.defs _ _).mono (fun r h c => ?_) (Cert.ReferenceXIdeal.Value.run (F := Ideal) m' g')
    obtain ⟨a, b, rest⟩ := h c
    obtain ⟨e0, e1, e2, e3, e4⟩ := hargs c
    refine ⟨a.trans ((Cert.ReferenceXIdeal.Read.val_main_v36_eq m' c).trans ?_), b.trans ((Cert.ReferenceXIdeal.Read.val_main_v19_eq _ _ _).trans ?_), rest⟩
    · exact Cert.KernelXIdeal.Body.ref_x e0 e1 e2 e3 e4
    · exact Cert.KernelXIdeal.Body.ref_g e0 e2 e3

/-! ## The input projection of the other chips' columns -/

theorem frame_n : Cert.quiescent_ReferenceNIdeal := fun m g _ =>
  (θ_run Cert.ReferenceNIdeal.defs _ _).mono (fun r h => ⟨fun c => (h c).2, sem_eq_zero_of_no_sems (by decide) r.2⟩)
    (Cert.ReferenceNIdeal.Value.run (F := Ideal) m g)

theorem frame_f : Cert.quiescent_ReferenceFIdeal := fun m g _ =>
  (θ_run Cert.ReferenceFIdeal.defs _ _).mono (fun r h => ⟨fun c => (h c).2, sem_eq_zero_of_no_sems (by decide) r.2⟩)
    (Cert.ReferenceFIdeal.Value.run (F := Ideal) m g)

theorem value_n : Cert.algebraic_KernelNIdeal_ReferenceNIdeal := by
  intro m g m' g' _ hargs
  refine ⟨fun c => Cert.ReferenceNIdeal.Read.val_main_v16 (Cert.KernelNIdeal.Body.X0 m c) (Cert.KernelNIdeal.Body.X1 m c) (Cert.KernelNIdeal.Body.X2 m c) (Cert.KernelNIdeal.Body.X3 m c), ?_, ?_⟩
  · refine (θ_run Cert.KernelNIdeal.defs _ _).mono (fun r h c => ?_)
      (θ_run_and (Cert.KernelNIdeal.Gen.run_main (F := Ideal) m g (Cert.KernelNIdeal.Body.ok m)) (Cert.KernelNIdeal.Gen.unchanged (F := Ideal) m g (Cert.KernelNIdeal.Body.ok m)))
    exact ⟨((h.1 c).1 1).trans (Cert.KernelNIdeal.Body.result_eq m _ c), h.2 c⟩
  · refine (θ_run Cert.ReferenceNIdeal.defs _ _).mono (fun r h c => ?_) (Cert.ReferenceNIdeal.Value.run (F := Ideal) m' g')
    obtain ⟨e0, e1, e2, e3⟩ := hargs c
    refine ⟨(h c).1.trans ((Cert.ReferenceNIdeal.Read.val_main_v16_eq _ _ _ _).trans ?_), (h c).2⟩
    exact Cert.KernelNIdeal.Body.ref_congr e0 e1 e2 e3

theorem value_f : Cert.algebraic_KernelFIdeal_ReferenceFIdeal := by
  intro m g m' g' _ hargs
  refine ⟨fun c => Cert.ReferenceFIdeal.Read.val_main_v16 (Cert.KernelFIdeal.Body.X0 m c) (Cert.KernelFIdeal.Body.X1 m c) (Cert.KernelFIdeal.Body.X2 m c) (Cert.KernelFIdeal.Body.X3 m c), ?_, ?_⟩
  · refine (θ_run Cert.KernelFIdeal.defs _ _).mono (fun r h c => ?_)
      (θ_run_and (Cert.KernelFIdeal.Gen.run_main (F := Ideal) m g (Cert.KernelFIdeal.Body.ok m)) (Cert.KernelFIdeal.Gen.unchanged (F := Ideal) m g (Cert.KernelFIdeal.Body.ok m)))
    exact ⟨((h.1 c).1 1).trans (Cert.KernelFIdeal.Body.result_eq m _ c), h.2 c⟩
  · refine (θ_run Cert.ReferenceFIdeal.defs _ _).mono (fun r h c => ?_) (Cert.ReferenceFIdeal.Value.run (F := Ideal) m' g')
    obtain ⟨e0, e1, e2, e3⟩ := hargs c
    refine ⟨(h c).1.trans ((Cert.ReferenceFIdeal.Read.val_main_v16_eq _ _ _ _).trans ?_), (h c).2⟩
    exact Cert.KernelFIdeal.Body.ref_congr e0 e1 e2 e3

theorem claim : Cert.Claim :=
  ⟨Cert.Kernel.Gen.facts, Cert.KernelIdeal.Gen.facts, Cert.ReferenceIdeal.Gen.facts,
    Cert.KernelM.Gen.facts, Cert.KernelMIdeal.Gen.facts, Cert.ReferenceMIdeal.Gen.facts,
    Cert.KernelR.Gen.facts, Cert.KernelRIdeal.Gen.facts, Cert.ReferenceRIdeal.Gen.facts,
    Cert.KernelA.Gen.facts, Cert.KernelAIdeal.Gen.facts, Cert.ReferenceAIdeal.Gen.facts,
    Cert.KernelX.Gen.facts, Cert.KernelXIdeal.Gen.facts, Cert.ReferenceXIdeal.Gen.facts,
    Cert.KernelN.Gen.facts, Cert.KernelNIdeal.Gen.facts, Cert.ReferenceNIdeal.Gen.facts,
    Cert.KernelF.Gen.facts, Cert.KernelFIdeal.Gen.facts, Cert.ReferenceFIdeal.Gen.facts, Cert.Pre_finite.Gen.facts,
    fun m g _ => Cert.Kernel.Gen.frame m g, fun m g _ => Cert.KernelIdeal.Gen.frame m g, fun m g _ => Cert.KernelIdeal.Gen.frame m g,
    frame_ret, fun m g _ => frame_ret m g trivial,
    fun m g _ => Cert.KernelM.Gen.frame m g, fun m g _ => Cert.KernelMIdeal.Gen.frame m g, frame_m,
    fun m g _ => Cert.KernelR.Gen.frame m g, fun m g _ => Cert.KernelRIdeal.Gen.frame m g, frame_r,
    fun m g _ => Cert.KernelA.Gen.frame m g, fun m g _ => Cert.KernelAIdeal.Gen.frame m g, frame_a,
    fun m g _ => Cert.KernelX.Gen.frame m g, fun m g _ => Cert.KernelXIdeal.Gen.frame m g, frame_x,
    fun m g _ => Cert.KernelN.Gen.frame m g (Cert.KernelNIdeal.Body.ok m), fun m g _ => Cert.KernelNIdeal.Gen.frame m g (Cert.KernelNIdeal.Body.ok m), frame_n,
    fun m g _ => Cert.KernelF.Gen.frame m g (Cert.KernelFIdeal.Body.ok m), fun m g _ => Cert.KernelFIdeal.Gen.frame m g (Cert.KernelFIdeal.Body.ok m), frame_f,
    trivial, value_ret, trivial, value_m, trivial, value_r, trivial, value_a, trivial, value_x, trivial, value_n, trivial, value_f⟩

end Cert.Proof

end
